-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)) (v3 : (c : Dev Cert.KernelIdeal.nD) → Buf (Elt Ideal) ((c.tc : Thread Cert.KernelIdeal.nD Cert.KernelIdeal.τ).loc Cert.KernelIdeal.main_v21_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_v21_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_v81) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v29_0)) (v1 : (c : Dev Cert.Kernel2Ideal.nD) → Buf (Elt Ideal) ((c.tc : Thread Cert.Kernel2Ideal.nD Cert.Kernel2Ideal.τ).loc Cert.Kernel2Ideal.main_v29_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v29_0) = v0 c
          ∧ r.2.mem ((c.tc : Thread Cert.Kernel2Ideal.nD Cert.Kernel2Ideal.τ).loc Cert.Kernel2Ideal.main_v29_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_v33) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_v42) = v1 c
          ∧ r.2.mem ((c.tc : Thread Cert.Reference3Ideal.nD Cert.Reference3Ideal.τ).loc Cert.Reference3Ideal.main_v43) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v2) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)) (v2 : (c : Dev Cert.Kernel5Ideal.nD) → Buf (Elt Ideal) ((c.tc : Thread Cert.Kernel5Ideal.nD Cert.Kernel5Ideal.τ).loc Cert.Kernel5Ideal.main_v8_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_v8_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_v16) = v1 c
          ∧ r.2.mem ((c.tc : Thread Cert.Reference5Ideal.nD Cert.Reference5Ideal.τ).loc Cert.Reference5Ideal.main_v20) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v9_0)) (v1 : (c : Dev Cert.Kernel6Ideal.nD) → Buf (Elt Ideal) ((c.tc : Thread Cert.Kernel6Ideal.nD Cert.Kernel6Ideal.τ).loc Cert.Kernel6Ideal.main_v9_1)) (v2 : (c : Dev Cert.Kernel6Ideal.nD) → Buf (Elt Ideal) ((c.tc : Thread Cert.Kernel6Ideal.nD Cert.Kernel6Ideal.τ).loc Cert.Kernel6Ideal.main_v9_2)) (v3 : (c : Dev Cert.Kernel6Ideal.nD) → Buf (Elt Ideal) ((c.tc : Thread Cert.Kernel6Ideal.nD Cert.Kernel6Ideal.τ).loc Cert.Kernel6Ideal.main_v9_3)) (v4 : (c : Dev Cert.Kernel6Ideal.nD) → Buf (Elt Ideal) ((c.tc : Thread Cert.Kernel6Ideal.nD Cert.Kernel6Ideal.τ).loc Cert.Kernel6Ideal.main_v9_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_0) = v0 c
          ∧ r.2.mem ((c.tc : Thread Cert.Kernel6Ideal.nD Cert.Kernel6Ideal.τ).loc Cert.Kernel6Ideal.main_v9_1) = v1 c
          ∧ r.2.mem ((c.tc : Thread Cert.Kernel6Ideal.nD Cert.Kernel6Ideal.τ).loc Cert.Kernel6Ideal.main_v9_2) = v2 c
          ∧ r.2.mem ((c.tc : Thread Cert.Kernel6Ideal.nD Cert.Kernel6Ideal.τ).loc Cert.Kernel6Ideal.main_v9_3) = v3 c
          ∧ r.2.mem ((c.tc : Thread Cert.Kernel6Ideal.nD Cert.Kernel6Ideal.τ).loc Cert.Kernel6Ideal.main_v9_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_v16) = v1 c
          ∧ r.2.mem ((c.tc : Thread Cert.Reference6Ideal.nD Cert.Reference6Ideal.τ).loc Cert.Reference6Ideal.main_v73) = v2 c
          ∧ r.2.mem ((c.tc : Thread Cert.Reference6Ideal.nD Cert.Reference6Ideal.τ).loc Cert.Reference6Ideal.main_v74) = v3 c
          ∧ r.2.mem ((c.tc : Thread Cert.Reference6Ideal.nD Cert.Reference6Ideal.τ).loc Cert.Reference6Ideal.main_v75) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0))

def preserves_Kernel7_Kernel7Ideal : Prop :=
  IdealRules.named_const.Statement Cert.Kernel7Ideal.κ "c1" .f32 0x3FC48605#32 (((5463681 / 8388608)⁻¹ : ℝ) : EReal)
  ∧ IdealRules.named_const.Statement Cert.Kernel7Ideal.κ "c2" .f32 0x42C8E6D3#32 (((2672307 / 268435456)⁻¹ : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v24) = v0 c
          ∧ r.2.mem ((c.tc : Thread Cert.Reference7Ideal.nD Cert.Reference7Ideal.τ).loc Cert.Reference7Ideal.main_v25) = v1 c
          ∧ r.2.mem ((c.tc : Thread Cert.Reference7Ideal.nD Cert.Reference7Ideal.τ).loc Cert.Reference7Ideal.main_v26) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  IdealRules.named_const.Statement Cert.Kernel8Ideal.κ "c1" .f32 0x3FC48605#32 (((5463681 / 8388608)⁻¹ : ℝ) : EReal)
  ∧ IdealRules.named_const.Statement Cert.Kernel8Ideal.κ "c2" .f32 0x42C8E6D3#32 (((2672307 / 268435456)⁻¹ : ℝ) : EReal)

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)) (v2 : (c : Dev Cert.Kernel8Ideal.nD) → Buf (Elt Ideal) ((c.tc : Thread Cert.Kernel8Ideal.nD Cert.Kernel8Ideal.τ).loc Cert.Kernel8Ideal.main_v4_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_v4_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v26) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  IdealRules.named_const.Statement Cert.Kernel9Ideal.κ "c1" .f32 0x3FC48605#32 (((5463681 / 8388608)⁻¹ : ℝ) : EReal)
  ∧ IdealRules.named_const.Statement Cert.Kernel9Ideal.κ "c2" .f32 0x42C8E6D3#32 (((2672307 / 268435456)⁻¹ : ℝ) : EReal)

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)) (v2 : (c : Dev Cert.Kernel9Ideal.nD) → Buf (Elt Ideal) ((c.tc : Thread Cert.Kernel9Ideal.nD Cert.Kernel9Ideal.τ).loc Cert.Kernel9Ideal.main_v4_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_v4_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v24) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v26) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  IdealRules.named_const.Statement Cert.Kernel10Ideal.κ "c1" .f32 0x3FC48605#32 (((5463681 / 8388608)⁻¹ : ℝ) : EReal)
  ∧ IdealRules.named_const.Statement Cert.Kernel10Ideal.κ "c2" .f32 0x42C8E6D3#32 (((2672307 / 268435456)⁻¹ : ℝ) : EReal)

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Kernel.lean ====
abbrev S8208x1024 : Shape := ⟨2, ![8208, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S8208x4096 : Shape := ⟨2, ![8208, 4096]⟩
abbrev S1024x4x1024 : Shape := ⟨3, ![1024, 4, 1024]⟩
abbrev S4x1024x1024 : Shape := ⟨3, ![4, 1024, 1024]⟩
abbrev S432x1024 : Shape := ⟨2, ![432, 1024]⟩
abbrev S432x4096 : Shape := ⟨2, ![432, 4096]⟩
abbrev S432 : Shape := ⟨1, ![432]⟩
abbrev S432x1 : Shape := ⟨2, ![432, 1]⟩
abbrev S1x1024x1024 : Shape := ⟨3, ![1, 1024, 1024]⟩
abbrev S1024x1024 : Shape := ⟨2, ![1024, 1024]⟩

abbrev nBuf : Space → Nat
  | .hbm => 33
  | .vmem => 16
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S8208x1024, .f32⟩
  | .hbm, ⟨6, _⟩ => ⟨S_, .f32⟩
  | .hbm, ⟨7, _⟩ => ⟨S8208, .f32⟩
  | .hbm, ⟨8, _⟩ => ⟨S8208x1, .f32⟩
  | .hbm, ⟨9, _⟩ => ⟨S_, .f32⟩
  | .hbm, ⟨10, _⟩ => ⟨S8208x1, .f32⟩
  | .hbm, ⟨11, _⟩ => ⟨S8208x1, .f32⟩
  | .hbm, ⟨12, _⟩ => ⟨S_, .f32⟩
  | .hbm, ⟨13, _⟩ => ⟨S8208x1, .f32⟩
  | .hbm, ⟨14, _⟩ => ⟨S8208x1, .f32⟩
  | .hbm, ⟨15, _⟩ => ⟨S8208x1, .f32⟩
  | .hbm, ⟨16, _⟩ => ⟨S8208x1024, .f32⟩
  | .hbm, ⟨17, _⟩ => ⟨S8208x1024, .f32⟩
  | .hbm, ⟨18, _⟩ => ⟨S1x1024, .f32⟩
  | .hbm, ⟨19, _⟩ => ⟨S8208x1024, .f32⟩
  | .hbm, ⟨20, _⟩ => ⟨S8208x1024, .f32⟩
  | .hbm, ⟨21, _⟩ => ⟨S8208x4096, .f32⟩
  | .hbm, ⟨22, _⟩ => ⟨S8208x4096, .bf16⟩
  | .hbm, ⟨23, _⟩ => ⟨S1x1024, .f32⟩
  | .hbm, ⟨24, _⟩ => ⟨S1024x4x1024, .f32⟩
  | .hbm, ⟨25, _⟩ => ⟨S4x1024x1024, .f32⟩
  | .hbm, ⟨26, _⟩ => ⟨S4x1024x1024, .bf16⟩
  | .hbm, ⟨27, _⟩ => ⟨S4x1024x1024, .f32⟩
  | .hbm, ⟨28, _⟩ => ⟨S4x1024x1024, .bf16⟩
  | .hbm, ⟨29, _⟩ => ⟨S8208x1024, .f32⟩
  | .hbm, ⟨30, _⟩ => ⟨S8208x4096, .bf16⟩
  | .hbm, ⟨31, _⟩ => ⟨S8208x1024, .bf16⟩
  | .hbm, ⟨32, _⟩ => ⟨S1x1024, .f32⟩
  | .local _ .vmem, ⟨0, _⟩ => ⟨S432x1024, .f32⟩
  | .local _ .vmem, ⟨1, _⟩ => ⟨S432x1024, .f32⟩
  | .local _ .vmem, ⟨2, _⟩ => ⟨S432x1024, .f32⟩
  | .local _ .vmem, ⟨3, _⟩ => ⟨S432x1024, .f32⟩
  | .local _ .vmem, ⟨4, _⟩ => ⟨S432x4096, .bf16⟩
  | .local _ .vmem, ⟨5, _⟩ => ⟨S432x4096, .bf16⟩
  | .local _ .vmem, ⟨6, _⟩ => ⟨S1x1024, .f32⟩
  | .local _ .vmem, ⟨7, _⟩ => ⟨S4x1024x1024, .bf16⟩
  | .local _ .vmem, ⟨8, _⟩ => ⟨S4x1024x1024, .bf16⟩
  | .local _ .vmem, ⟨9, _⟩ => ⟨S432x1024, .f32⟩
  | .local _ .vmem, ⟨10, _⟩ => ⟨S432x1024, .f32⟩
  | .local _ .vmem, ⟨11, _⟩ => ⟨S432x4096, .bf16⟩
  | .local _ .vmem, ⟨12, _⟩ => ⟨S432x4096, .bf16⟩
  | .local _ .vmem, ⟨13, _⟩ => ⟨S432x1024, .bf16⟩
  | .local _ .vmem, ⟨14, _⟩ => ⟨S432x1024, .bf16⟩
  | .local _ .vmem, ⟨15, _⟩ => ⟨S1x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21_0 : Ref sig .tc := ⟨.hbm, 29, rfl⟩
abbrev main_v21_1 : Ref sig .tc := ⟨.hbm, 30, rfl⟩
abbrev main_v21_2 : Ref sig .tc := ⟨.hbm, 31, rfl⟩
abbrev main_v21_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S432x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S432x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S432x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S432x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S432x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S432x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S8208x1024 : Shape := ⟨2, ![8208, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S8208x4096 : Shape := ⟨2, ![8208, 4096]⟩

abbrev nBuf : Space → Nat
  | .hbm => 109
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S8208x1024, .f32⟩
  | .hbm, ⟨6, _⟩ => ⟨S_, .f32⟩
  | .hbm, ⟨7, _⟩ => ⟨S8208, .f32⟩
  | .hbm, ⟨8, _⟩ => ⟨S8208x1, .f32⟩
  | .hbm, ⟨9, _⟩ => ⟨S_, .f32⟩
  | .hbm, ⟨10, _⟩ => ⟨S8208x1, .f32⟩
  | .hbm, ⟨11, _⟩ => ⟨S8208x1, .f32⟩
  | .hbm, ⟨12, _⟩ => ⟨S_, .f32⟩
  | .hbm, ⟨13, _⟩ => ⟨S8208x1, .f32⟩
  | .hbm, ⟨14, _⟩ => ⟨S8208x1, .f32⟩
  | .hbm, ⟨15, _⟩ => ⟨S8208x1, .f32⟩
  | .hbm, ⟨16, _⟩ => ⟨S8208x1, .f32⟩
  | .hbm, ⟨17, _⟩ => ⟨S_, .f32⟩
  | .hbm, ⟨18, _⟩ => ⟨S8208x1, .f32⟩
  | .hbm, ⟨19, _⟩ => ⟨S8208x1, .f32⟩
  | .hbm, ⟨20, _⟩ => ⟨S8208x1024, .f32⟩
  | .hbm, ⟨21, _⟩ => ⟨S8208x1024, .f32⟩
  | .hbm, ⟨22, _⟩ => ⟨S1x1024, .f32⟩
  | .hbm, ⟨23, _⟩ => ⟨S8208x1024, .f32⟩
  | .hbm, ⟨24, _⟩ => ⟨S8208x1024, .f32⟩
  | .hbm, ⟨25, _⟩ => ⟨S8208x4096, .f32⟩
  | .hbm, ⟨26, _⟩ => ⟨S_, .f32⟩
  | .hbm, ⟨27, _⟩ => ⟨S8208x4096, .f32⟩
  | .hbm, ⟨28, _⟩ => ⟨S8208x4096, .f32⟩
  | .hbm, ⟨29, _⟩ => ⟨S_, .f32⟩
  | .hbm, ⟨30, _⟩ => ⟨S8208x4096, .f32⟩
  | .hbm, ⟨31, _⟩ => ⟨S8208x4096, .i1⟩
  | .hbm, ⟨32, _⟩ => ⟨S_, .f32⟩
  | .hbm, ⟨33, _⟩ => ⟨S8208x4096, .f32⟩
  | .hbm, ⟨34, _⟩ => ⟨S8208x4096, .f32⟩
  | .hbm, ⟨35, _⟩ => ⟨S8208x1024, .f32⟩
  | .hbm, ⟨36, _⟩ => ⟨S8208x1024, .f32⟩
  | .hbm, ⟨37, _⟩ => ⟨S8208x1024, .f32⟩
  | .hbm, ⟨38, _⟩ => ⟨S8208x4096, .f32⟩
  | .hbm, ⟨39, _⟩ => ⟨S8208x4096, .f32⟩
  | .hbm, ⟨40, _⟩ => ⟨S8208x4096, .f32⟩
  | .hbm, ⟨41, _⟩ => ⟨S8208x4096, .f32⟩
  | .hbm, ⟨42, _⟩ => ⟨S_, .f32⟩
  | .hbm, ⟨43, _⟩ => ⟨S8208x4096, .f32⟩
  | .hbm, ⟨44, _⟩ => ⟨S8208x4096, .f32⟩
  | .hbm, ⟨45, _⟩ => ⟨S8208x1024, .f32⟩
  | .hbm, ⟨46, _⟩ => ⟨S8208x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8208x1024, .f32⟩
  | .hbm, ⟨51, _⟩ => ⟨S8208x1024, .f32⟩
  | .hbm, ⟨52, _⟩ => ⟨S_, .f32⟩
  | .hbm, ⟨53, _⟩ => ⟨S1024, .f32⟩
  | .hbm, ⟨54, _⟩ => ⟨S8208x1024, .f32⟩
  | .hbm, ⟨55, _⟩ => ⟨S_, .f32⟩
  | .hbm, ⟨56, _⟩ => ⟨S8208, .f32⟩
  | .hbm, ⟨57, _⟩ => ⟨S8208x1, .f32⟩
  | .hbm, ⟨58, _⟩ => ⟨S8208x1024, .f32⟩
  | .hbm, ⟨59, _⟩ => ⟨S8208x1024, .f32⟩
  | .hbm, ⟨60, _⟩ => ⟨S8208x1024, .f32⟩
  | .hbm, ⟨61, _⟩ => ⟨S8208x1, .f32⟩
  | .hbm, ⟨62, _⟩ => ⟨S_, .f32⟩
  | .hbm, ⟨63, _⟩ => ⟨S8208x1, .f32⟩
  | .hbm, ⟨64, _⟩ => ⟨S8208x1, .f32⟩
  | .hbm, ⟨65, _⟩ => ⟨S_, .f32⟩
  | .hbm, ⟨66, _⟩ => ⟨S8208, .f32⟩
  | .hbm, ⟨67, _⟩ => ⟨S8208x1024, .f32⟩
  | .hbm, ⟨68, _⟩ => ⟨S8208x1024, .f32⟩
  | .hbm, ⟨69, _⟩ => ⟨S8208x1024, .f32⟩
  | .hbm, ⟨70, _⟩ => ⟨S8208x1024, .f32⟩
  | .hbm, ⟨71, _⟩ => ⟨S8208x1024, .f32⟩
  | .hbm, ⟨72, _⟩ => ⟨S8208x1024, .f32⟩
  | .hbm, ⟨73, _⟩ => ⟨S_, .f32⟩
  | .hbm, ⟨74, _⟩ => ⟨S8208, .f32⟩
  | .hbm, ⟨75, _⟩ => ⟨S8208x1, .f32⟩
  | .hbm, ⟨76, _⟩ => ⟨S_, .f32⟩
  | .hbm, ⟨77, _⟩ => ⟨S8208x1, .f32⟩
  | .hbm, ⟨78, _⟩ => ⟨S8208x1, .f32⟩
  | .hbm, ⟨79, _⟩ => ⟨S_, .f32⟩
  | .hbm, ⟨80, _⟩ => ⟨S8208x1, .f32⟩
  | .hbm, ⟨81, _⟩ => ⟨S8208x1, .f32⟩
  | .hbm, ⟨82, _⟩ => ⟨S8208x1, .f32⟩
  | .hbm, ⟨83, _⟩ => ⟨S8208x1024, .f32⟩
  | .hbm, ⟨84, _⟩ => ⟨S8208x1024, .f32⟩
  | .hbm, ⟨85, _⟩ => ⟨S1x1024, .f32⟩
  | .hbm, ⟨86, _⟩ => ⟨S8208x1024, .f32⟩
  | .hbm, ⟨87, _⟩ => ⟨S8208x1024, .f32⟩
  | .hbm, ⟨88, _⟩ => ⟨S8208x4096, .f32⟩
  | .hbm, ⟨89, _⟩ => ⟨S_, .f32⟩
  | .hbm, ⟨90, _⟩ => ⟨S8208x4096, .f32⟩
  | .hbm, ⟨91, _⟩ => ⟨S8208x4096, .f32⟩
  | .hbm, ⟨92, _⟩ => ⟨S_, .f32⟩
  | .hbm, ⟨93, _⟩ => ⟨S8208x4096, .f32⟩
  | .hbm, ⟨94, _⟩ => ⟨S8208x4096, .i1⟩
  | .hbm, ⟨95, _⟩ => ⟨S_, .f32⟩
  | .hbm, ⟨96, _⟩ => ⟨S8208x4096, .f32⟩
  | .hbm, ⟨97, _⟩ => ⟨S8208x4096, .f32⟩
  | .hbm, ⟨98, _⟩ => ⟨S8208x1024, .f32⟩
  | .hbm, ⟨99, _⟩ => ⟨S8208x4096, .f32⟩
  | .hbm, ⟨100, _⟩ => ⟨S8208x4096, .f32⟩
  | .hbm, ⟨101, _⟩ => ⟨S8208x4096, .f32⟩
  | .hbm, ⟨102, _⟩ => ⟨S8208x4096, .f32⟩
  | .hbm, ⟨103, _⟩ => ⟨S_, .f32⟩
  | .hbm, ⟨104, _⟩ => ⟨S8208x4096, .f32⟩
  | .hbm, ⟨105, _⟩ => ⟨S8208x4096, .f32⟩
  | .hbm, ⟨106, _⟩ => ⟨S8208x4096, .bf16⟩
  | .hbm, ⟨107, _⟩ => ⟨S8208x1024, .bf16⟩
  | .hbm, ⟨108, _⟩ => ⟨S1x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_v55 : Ref sig .tc := ⟨.hbm, 75, rfl⟩
abbrev main_cst_12 : Ref sig .tc := ⟨.hbm, 76, rfl⟩
abbrev main_v56 : Ref sig .tc := ⟨.hbm, 77, rfl⟩
abbrev main_v57 : Ref sig .tc := ⟨.hbm, 78, rfl⟩
abbrev main_cst_13 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_call1_cst : Ref sig .tc := ⟨.hbm, 89, rfl⟩
abbrev main_call1_v0 : Ref sig .tc := ⟨.hbm, 90, rfl⟩
abbrev main_v67 : Ref sig .tc := ⟨.hbm, 91, rfl⟩
abbrev main_cst_14 : Ref sig .tc := ⟨.hbm, 92, rfl⟩
abbrev main_v68 : Ref sig .tc := ⟨.hbm, 93, rfl⟩
abbrev main_v69 : Ref sig .tc := ⟨.hbm, 94, rfl⟩
abbrev main_cst_15 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_16 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩

abbrev nD : Nat := 1
abbrev τ : Topo := Topo.v7x

variable {F : FTy → Type} [FloatOps F]
-- ==== Kernel2.lean ====
abbrev S8208x1024 : Shape := ⟨2, ![8208, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S8208x4096 : Shape := ⟨2, ![8208, 4096]⟩
abbrev S4x1024x1024 : Shape := ⟨3, ![4, 1024, 1024]⟩
abbrev S912x1024 : Shape := ⟨2, ![912, 1024]⟩
abbrev S1x1024x1024 : Shape := ⟨3, ![1, 1024, 1024]⟩
abbrev S1024x1024 : Shape := ⟨2, ![1024, 1024]⟩

abbrev nBuf : Space → Nat
  | .hbm => 44
  | .vmem => 12
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S8208x1024, .f32⟩
  | .hbm, ⟨6, _⟩ => ⟨S_, .f32⟩
  | .hbm, ⟨7, _⟩ => ⟨S8208, .f32⟩
  | .hbm, ⟨8, _⟩ => ⟨S8208x1, .f32⟩
  | .hbm, ⟨9, _⟩ => ⟨S_, .f32⟩
  | .hbm, ⟨10, _⟩ => ⟨S8208x1, .f32⟩
  | .hbm, ⟨11, _⟩ => ⟨S8208x1, .f32⟩
  | .hbm, ⟨12, _⟩ => ⟨S_, .f32⟩
  | .hbm, ⟨13, _⟩ => ⟨S8208x1, .f32⟩
  | .hbm, ⟨14, _⟩ => ⟨S8208x1, .f32⟩
  | .hbm, ⟨15, _⟩ => ⟨S8208x1, .f32⟩
  | .hbm, ⟨16, _⟩ => ⟨S8208x1024, .f32⟩
  | .hbm, ⟨17, _⟩ => ⟨S8208x1024, .f32⟩
  | .hbm, ⟨18, _⟩ => ⟨S1x1024, .f32⟩
  | .hbm, ⟨19, _⟩ => ⟨S8208x1024, .f32⟩
  | .hbm, ⟨20, _⟩ => ⟨S8208x1024, .f32⟩
  | .hbm, ⟨21, _⟩ => ⟨S8208x4096, .f32⟩
  | .hbm, ⟨22, _⟩ => ⟨S_, .f32⟩
  | .hbm, ⟨23, _⟩ => ⟨S8208x4096, .f32⟩
  | .hbm, ⟨24, _⟩ => ⟨S8208x4096, .f32⟩
  | .hbm, ⟨25, _⟩ => ⟨S_, .f32⟩
  | .hbm, ⟨26, _⟩ => ⟨S8208x4096, .f32⟩
  | .hbm, ⟨27, _⟩ => ⟨S8208x4096, .i1⟩
  | .hbm, ⟨28, _⟩ => ⟨S_, .f32⟩
  | .hbm, ⟨29, _⟩ => ⟨S8208x4096, .f32⟩
  | .hbm, ⟨30, _⟩ => ⟨S8208x4096, .f32⟩
  | .hbm, ⟨31, _⟩ => ⟨S8208x1024, .f32⟩
  | .hbm, ⟨32, _⟩ => ⟨S8208x4096, .f32⟩
  | .hbm, ⟨33, _⟩ => ⟨S8208x4096, .f32⟩
  | .hbm, ⟨34, _⟩ => ⟨S8208x4096, .f32⟩
  | .hbm, ⟨35, _⟩ => ⟨S8208x4096, .f32⟩
  | .hbm, ⟨36, _⟩ => ⟨S_, .f32⟩
  | .hbm, ⟨37, _⟩ => ⟨S8208x4096, .f32⟩
  | .hbm, ⟨38, _⟩ => ⟨S8208x4096, .f32⟩
  | .hbm, ⟨39, _⟩ => ⟨S8208x1024, .bf16⟩
  | .hbm, ⟨40, _⟩ => ⟨S8208x4096, .bf16⟩
  | .hbm, ⟨41, _⟩ => ⟨S8208x4096, .bf16⟩
  | .hbm, ⟨42, _⟩ => ⟨S4x1024x1024, .f32⟩
  | .hbm, ⟨43, _⟩ => ⟨S4x1024x1024, .f32⟩
  | .local _ .vmem, ⟨0, _⟩ => ⟨S912x1024, .bf16⟩
  | .local _ .vmem, ⟨1, _⟩ => ⟨S912x1024, .bf16⟩
  | .local _ .vmem, ⟨2, _⟩ => ⟨S912x1024, .bf16⟩
  | .local _ .vmem, ⟨3, _⟩ => ⟨S912x1024, .bf16⟩
  | .local _ .vmem, ⟨4, _⟩ => ⟨S912x1024, .bf16⟩
  | .local _ .vmem, ⟨5, _⟩ => ⟨S912x1024, .bf16⟩
  | .local _ .vmem, ⟨6, _⟩ => ⟨S912x1024, .f32⟩
  | .local _ .vmem, ⟨7, _⟩ => ⟨S912x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1x1024x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29_0 : Ref sig .tc := ⟨.hbm, 42, rfl⟩
abbrev main_v29_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S912x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S912x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S912x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S912x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8208x1024 : Shape := ⟨2, ![8208, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S8208x4096 : Shape := ⟨2, ![8208, 4096]⟩
abbrev S1024x4x1024 : Shape := ⟨3, ![1024, 4, 1024]⟩
abbrev S4x1024x1024 : Shape := ⟨3, ![4, 1024, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S8208x1024, .f32⟩
  | .hbm, ⟨6, _⟩ => ⟨S_, .f32⟩
  | .hbm, ⟨7, _⟩ => ⟨S8208, .f32⟩
  | .hbm, ⟨8, _⟩ => ⟨S8208x1, .f32⟩
  | .hbm, ⟨9, _⟩ => ⟨S_, .f32⟩
  | .hbm, ⟨10, _⟩ => ⟨S8208x1, .f32⟩
  | .hbm, ⟨11, _⟩ => ⟨S8208x1, .f32⟩
  | .hbm, ⟨12, _⟩ => ⟨S_, .f32⟩
  | .hbm, ⟨13, _⟩ => ⟨S8208x1, .f32⟩
  | .hbm, ⟨14, _⟩ => ⟨S8208x1, .f32⟩
  | .hbm, ⟨15, _⟩ => ⟨S8208x1, .f32⟩
  | .hbm, ⟨16, _⟩ => ⟨S8208x1024, .f32⟩
  | .hbm, ⟨17, _⟩ => ⟨S8208x1024, .f32⟩
  | .hbm, ⟨18, _⟩ => ⟨S1x1024, .f32⟩
  | .hbm, ⟨19, _⟩ => ⟨S8208x1024, .f32⟩
  | .hbm, ⟨20, _⟩ => ⟨S8208x1024, .f32⟩
  | .hbm, ⟨21, _⟩ => ⟨S8208x4096, .f32⟩
  | .hbm, ⟨22, _⟩ => ⟨S_, .f32⟩
  | .hbm, ⟨23, _⟩ => ⟨S8208x4096, .f32⟩
  | .hbm, ⟨24, _⟩ => ⟨S8208x4096, .f32⟩
  | .hbm, ⟨25, _⟩ => ⟨S_, .f32⟩
  | .hbm, ⟨26, _⟩ => ⟨S8208x4096, .f32⟩
  | .hbm, ⟨27, _⟩ => ⟨S8208x4096, .i1⟩
  | .hbm, ⟨28, _⟩ => ⟨S_, .f32⟩
  | .hbm, ⟨29, _⟩ => ⟨S8208x4096, .f32⟩
  | .hbm, ⟨30, _⟩ => ⟨S8208x4096, .f32⟩
  | .hbm, ⟨31, _⟩ => ⟨S8208x1024, .f32⟩
  | .hbm, ⟨32, _⟩ => ⟨S8208x1024, .f32⟩
  | .hbm, ⟨33, _⟩ => ⟨S1024x4096, .f32⟩
  | .hbm, ⟨34, _⟩ => ⟨S4096x1024, .f32⟩
  | .hbm, ⟨35, _⟩ => ⟨S8208x4096, .f32⟩
  | .hbm, ⟨36, _⟩ => ⟨S8208x4096, .f32⟩
  | .hbm, ⟨37, _⟩ => ⟨S8208x4096, .f32⟩
  | .hbm, ⟨38, _⟩ => ⟨S8208x4096, .f32⟩
  | .hbm, ⟨39, _⟩ => ⟨S_, .f32⟩
  | .hbm, ⟨40, _⟩ => ⟨S8208x4096, .f32⟩
  | .hbm, ⟨41, _⟩ => ⟨S8208x4096, .f32⟩
  | .hbm, ⟨42, _⟩ => ⟨S4096x1024, .f32⟩
  | .hbm, ⟨43, _⟩ => ⟨S1024x4096, .f32⟩
  | .hbm, ⟨44, _⟩ => ⟨S1024x4x1024, .f32⟩
  | .hbm, ⟨45, _⟩ => ⟨S4x1024x1024, .f32⟩
  | .hbm, ⟨46, _⟩ => ⟨S4x1024x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Kernel3.lean ====
abbrev S8208x1536 : Shape := ⟨2, ![8208, 1536]⟩
abbrev S8208x1024 : Shape := ⟨2, ![8208, 1024]⟩
abbrev S1024 : Shape := ⟨1, ![1024]⟩
abbrev S1024x1536 : Shape := ⟨2, ![1024, 1536]⟩
abbrev S1x1024 : Shape := ⟨2, ![1, 1024]⟩
abbrev S1024x4x384 : Shape := ⟨3, ![1024, 4, 384]⟩
abbrev S4x1024x384 : Shape := ⟨3, ![4, 1024, 384]⟩
abbrev S432x1536 : Shape := ⟨2, ![432, 1536]⟩
abbrev S432x1024 : Shape := ⟨2, ![432, 1024]⟩
abbrev S1x1024x384 : Shape := ⟨3, ![1, 1024, 384]⟩
abbrev S1024x384 : Shape := ⟨2, ![1024, 384]⟩
abbrev S432 : Shape := ⟨1, ![432]⟩
abbrev S432x1 : Shape := ⟨2, ![432, 1]⟩

abbrev nBuf : Space → Nat
  | .hbm => 13
  | .vmem => 14
  | .smem => 0
  | _ => 0

abbrev bufTy : (tb : Table) → Fin (tcTables nBuf tb) → BufTy
  | .hbm, ⟨0, _⟩ => ⟨S8208x1536, .f32⟩
  | .hbm, ⟨1, _⟩ => ⟨S8208x1024, .f32⟩
  | .hbm, ⟨2, _⟩ => ⟨S1024, .f32⟩
  | .hbm, ⟨3, _⟩ => ⟨S1024x1536, .f32⟩
  | .hbm, ⟨4, _⟩ => ⟨S8208x1024, .f32⟩
  | .hbm, ⟨5, _⟩ => ⟨S8208x1536, .bf16⟩
  | .hbm, ⟨6, _⟩ => ⟨S1x1024, .f32⟩
  | .hbm, ⟨7, _⟩ => ⟨S1024x4x384, .f32⟩
  | .hbm, ⟨8, _⟩ => ⟨S4x1024x384, .f32⟩
  | .hbm, ⟨9, _⟩ => ⟨S4x1024x384, .bf16⟩
  | .hbm, ⟨10, _⟩ => ⟨S8208x1024, .f32⟩
  | .hbm, ⟨11, _⟩ => ⟨S4x1024x384, .f32⟩
  | .hbm, ⟨12, _⟩ => ⟨S1x1024, .f32⟩
  | .local _ .vmem, ⟨0, _⟩ => ⟨S432x1536, .bf16⟩
  | .local _ .vmem, ⟨1, _⟩ => ⟨S432x1536, .bf16⟩
  | .local _ .vmem, ⟨2, _⟩ => ⟨S432x1024, .f32⟩
  | .local _ .vmem, ⟨3, _⟩ => ⟨S432x1024, .f32⟩
  | .local _ .vmem, ⟨4, _⟩ => ⟨S1x1024, .f32⟩
  | .local _ .vmem, ⟨5, _⟩ => ⟨S4x1024x384, .bf16⟩
  | .local _ .vmem, ⟨6, _⟩ => ⟨S432x1024, .f32⟩
  | .local _ .vmem, ⟨7, _⟩ => ⟨S432x1024, .f32⟩
  | .local _ .vmem, ⟨8, _⟩ => ⟨S432x1024, .f32⟩
  | .local _ .vmem, ⟨9, _⟩ => ⟨S432x1024, .f32⟩
  | .local _ .vmem, ⟨10, _⟩ => ⟨S4x1024x384, .f32⟩
  | .local _ .vmem, ⟨11, _⟩ => ⟨S1x1024, .f32⟩
  | .local _ .vmem, ⟨12, _⟩ => ⟨S1024x1536, .bf16⟩
  | .local _ .vmem, ⟨13, _⟩ => ⟨S1024x1536, .f32⟩
  | _, _ => ⟨S8208x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![19], ![false]⟩

def k0_cond2 (i : grid0.Coords) : BitVec 1 :=
  let arg0 : BitVec 32 := BitVec.ofNat 32 (i 0).val
  let c18_i32 : BitVec 32 := 18#32
  let v51 : BitVec 1 := Scalar.cmpi .eq arg0 c18_i32
  let v52 : BitVec 32 := Scalar.extui v51
  let c0_i32_27 : BitVec 32 := 0#32
  let v53 : BitVec 1 := Scalar.cmpi .ne v52 c0_i32_27
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S432x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S432x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S432x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S432x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference3Ideal.lean ====
abbrev S8208x1536 : Shape := ⟨2, ![8208, 1536]⟩
abbrev S8208x1024 : Shape := ⟨2, ![8208, 1024]⟩
abbrev S1024 : Shape := ⟨1, ![1024]⟩
abbrev S1024x1536 : Shape := ⟨2, ![1024, 1536]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S1536x1024 : Shape := ⟨2, ![1536, 1024]⟩
abbrev S1024x4x384 : Shape := ⟨3, ![1024, 4, 384]⟩
abbrev S4x1024x384 : Shape := ⟨3, ![4, 1024, 384]⟩

abbrev nBuf : Space → Nat
  | .hbm => 58
  | .vmem => 0
  | .smem => 0
  | _ => 0

abbrev bufTy : (tb : Table) → Fin (tcTables nBuf tb) → BufTy
  | .hbm, ⟨0, _⟩ => ⟨S8208x1536, .f32⟩
  | .hbm, ⟨1, _⟩ => ⟨S8208x1024, .f32⟩
  | .hbm, ⟨2, _⟩ => ⟨S1024, .f32⟩
  | .hbm, ⟨3, _⟩ => ⟨S1024x1536, .f32⟩
  | .hbm, ⟨4, _⟩ => ⟨S8208x1024, .f32⟩
  | .hbm, ⟨5, _⟩ => ⟨S8208x1024, .f32⟩
  | .hbm, ⟨6, _⟩ => ⟨S_, .f32⟩
  | .hbm, ⟨7, _⟩ => ⟨S8208, .f32⟩
  | .hbm, ⟨8, _⟩ => ⟨S8208x1, .f32⟩
  | .hbm, ⟨9, _⟩ => ⟨S_, .f32⟩
  | .hbm, ⟨10, _⟩ => ⟨S8208x1, .f32⟩
  | .hbm, ⟨11, _⟩ => ⟨S8208x1, .f32⟩
  | .hbm, ⟨12, _⟩ => ⟨S_, .f32⟩
  | .hbm, ⟨13, _⟩ => ⟨S8208x1, .f32⟩
  | .hbm, ⟨14, _⟩ => ⟨S8208x1, .f32⟩
  | .hbm, ⟨15, _⟩ => ⟨S8208x1, .f32⟩
  | .hbm, ⟨16, _⟩ => ⟨S8208x1, .f32⟩
  | .hbm, ⟨17, _⟩ => ⟨S_, .f32⟩
  | .hbm, ⟨18, _⟩ => ⟨S8208x1, .f32⟩
  | .hbm, ⟨19, _⟩ => ⟨S8208x1, .f32⟩
  | .hbm, ⟨20, _⟩ => ⟨S8208x1024, .f32⟩
  | .hbm, ⟨21, _⟩ => ⟨S8208x1024, .f32⟩
  | .hbm, ⟨22, _⟩ => ⟨S1x1024, .f32⟩
  | .hbm, ⟨23, _⟩ => ⟨S8208x1024, .f32⟩
  | .hbm, ⟨24, _⟩ => ⟨S8208x1024, .f32⟩
  | .hbm, ⟨25, _⟩ => ⟨S8208x1536, .f32⟩
  | .hbm, ⟨26, _⟩ => ⟨S1536x1024, .f32⟩
  | .hbm, ⟨27, _⟩ => ⟨S1024x1536, .f32⟩
  | .hbm, ⟨28, _⟩ => ⟨S8208x1024, .f32⟩
  | .hbm, ⟨29, _⟩ => ⟨S8208x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8208x1024, .f32⟩
  | .hbm, ⟨34, _⟩ => ⟨S8208x1024, .f32⟩
  | .hbm, ⟨35, _⟩ => ⟨S_, .f32⟩
  | .hbm, ⟨36, _⟩ => ⟨S1024, .f32⟩
  | .hbm, ⟨37, _⟩ => ⟨S8208x1024, .f32⟩
  | .hbm, ⟨38, _⟩ => ⟨S_, .f32⟩
  | .hbm, ⟨39, _⟩ => ⟨S8208, .f32⟩
  | .hbm, ⟨40, _⟩ => ⟨S8208x1, .f32⟩
  | .hbm, ⟨41, _⟩ => ⟨S8208x1024, .f32⟩
  | .hbm, ⟨42, _⟩ => ⟨S8208x1024, .f32⟩
  | .hbm, ⟨43, _⟩ => ⟨S8208x1024, .f32⟩
  | .hbm, ⟨44, _⟩ => ⟨S8208x1, .f32⟩
  | .hbm, ⟨45, _⟩ => ⟨S_, .f32⟩
  | .hbm, ⟨46, _⟩ => ⟨S8208x1, .f32⟩
  | .hbm, ⟨47, _⟩ => ⟨S8208x1, .f32⟩
  | .hbm, ⟨48, _⟩ => ⟨S_, .f32⟩
  | .hbm, ⟨49, _⟩ => ⟨S8208, .f32⟩
  | .hbm, ⟨50, _⟩ => ⟨S8208x1024, .f32⟩
  | .hbm, ⟨51, _⟩ => ⟨S8208x1024, .f32⟩
  | .hbm, ⟨52, _⟩ => ⟨S8208x1024, .f32⟩
  | .hbm, ⟨53, _⟩ => ⟨S8208x1024, .f32⟩
  | .hbm, ⟨54, _⟩ => ⟨S8208x1024, .f32⟩
  | .hbm, ⟨55, _⟩ => ⟨S1024x4x384, .f32⟩
  | .hbm, ⟨56, _⟩ => ⟨S4x1024x384, .f32⟩
  | .hbm, ⟨57, _⟩ => ⟨S1x1024, .f32⟩
  | _, _ => ⟨S8208x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel4.lean ====
abbrev S8208x1024 : Shape := ⟨2, ![8208, 1024]⟩
abbrev S1024x1024 : Shape := ⟨2, ![1024, 1024]⟩
abbrev S432x1024 : Shape := ⟨2, ![432, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S1024x1024, .f32⟩
  | .hbm, ⟨3, _⟩ => ⟨S8208x1024, .bf16⟩
  | .hbm, ⟨4, _⟩ => ⟨S1024x1024, .bf16⟩
  | .hbm, ⟨5, _⟩ => ⟨S8208x1024, .f32⟩
  | .hbm, ⟨6, _⟩ => ⟨S1024x1024, .f32⟩
  | .local _ .vmem, ⟨0, _⟩ => ⟨S432x1024, .f32⟩
  | .local _ .vmem, ⟨1, _⟩ => ⟨S432x1024, .f32⟩
  | .local _ .vmem, ⟨2, _⟩ => ⟨S432x1024, .bf16⟩
  | .local _ .vmem, ⟨3, _⟩ => ⟨S432x1024, .bf16⟩
  | .local _ .vmem, ⟨4, _⟩ => ⟨S1024x1024, .bf16⟩
  | .local _ .vmem, ⟨5, _⟩ => ⟨S432x1024, .f32⟩
  | .local _ .vmem, ⟨6, _⟩ => ⟨S432x1024, .f32⟩
  | .local _ .vmem, ⟨7, _⟩ => ⟨S1024x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S432x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S432x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S432x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference4Ideal.lean ====
abbrev S8208x1024 : Shape := ⟨2, ![8208, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S1024x1024, .f32⟩
  | .hbm, ⟨3, _⟩ => ⟨S8208x1024, .f32⟩
  | .hbm, ⟨4, _⟩ => ⟨S1024x1024, .f32⟩
  | .hbm, ⟨5, _⟩ => ⟨S1024x1024, .f32⟩
  | .hbm, ⟨6, _⟩ => ⟨S8208x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S8208x1024 : Shape := ⟨2, ![8208, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x4x1024 : Shape := ⟨3, ![1024, 4, 1024]⟩
abbrev S4x1024x1024 : Shape := ⟨3, ![4, 1024, 1024]⟩
abbrev S8208x4096 : Shape := ⟨2, ![8208, 4096]⟩
abbrev S432x1024 : Shape := ⟨2, ![432, 1024]⟩
abbrev S432x4096 : Shape := ⟨2, ![432, 4096]⟩
abbrev S432 : Shape := ⟨1, ![432]⟩
abbrev S432x1 : Shape := ⟨2, ![432, 1]⟩
abbrev S1x1024x1024 : Shape := ⟨3, ![1, 1024, 1024]⟩

abbrev nBuf : Space → Nat
  | .hbm => 17
  | .vmem => 14
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S8208x1024, .bf16⟩
  | .hbm, ⟨7, _⟩ => ⟨S1024x1024, .bf16⟩
  | .hbm, ⟨8, _⟩ => ⟨S1x1024, .f32⟩
  | .hbm, ⟨9, _⟩ => ⟨S1024x4x1024, .f32⟩
  | .hbm, ⟨10, _⟩ => ⟨S4x1024x1024, .f32⟩
  | .hbm, ⟨11, _⟩ => ⟨S4x1024x1024, .bf16⟩
  | .hbm, ⟨12, _⟩ => ⟨S4x1024x1024, .f32⟩
  | .hbm, ⟨13, _⟩ => ⟨S4x1024x1024, .bf16⟩
  | .hbm, ⟨14, _⟩ => ⟨S8208x1024, .f32⟩
  | .hbm, ⟨15, _⟩ => ⟨S8208x4096, .bf16⟩
  | .hbm, ⟨16, _⟩ => ⟨S8208x1024, .f32⟩
  | .local _ .vmem, ⟨0, _⟩ => ⟨S432x1024, .f32⟩
  | .local _ .vmem, ⟨1, _⟩ => ⟨S432x1024, .f32⟩
  | .local _ .vmem, ⟨2, _⟩ => ⟨S432x1024, .bf16⟩
  | .local _ .vmem, ⟨3, _⟩ => ⟨S432x1024, .bf16⟩
  | .local _ .vmem, ⟨4, _⟩ => ⟨S1024x1024, .bf16⟩
  | .local _ .vmem, ⟨5, _⟩ => ⟨S1x1024, .f32⟩
  | .local _ .vmem, ⟨6, _⟩ => ⟨S4x1024x1024, .bf16⟩
  | .local _ .vmem, ⟨7, _⟩ => ⟨S4x1024x1024, .bf16⟩
  | .local _ .vmem, ⟨8, _⟩ => ⟨S432x1024, .f32⟩
  | .local _ .vmem, ⟨9, _⟩ => ⟨S432x1024, .f32⟩
  | .local _ .vmem, ⟨10, _⟩ => ⟨S432x4096, .bf16⟩
  | .local _ .vmem, ⟨11, _⟩ => ⟨S432x4096, .bf16⟩
  | .local _ .vmem, ⟨12, _⟩ => ⟨S432x1024, .f32⟩
  | .local _ .vmem, ⟨13, _⟩ => ⟨S432x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S432x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S432x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S432x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S432x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S432x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S8208x1024 : Shape := ⟨2, ![8208, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S8208x4096 : Shape := ⟨2, ![8208, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S8208x1024, .f32⟩
  | .hbm, ⟨7, _⟩ => ⟨S8208x1024, .f32⟩
  | .hbm, ⟨8, _⟩ => ⟨S8208x1024, .f32⟩
  | .hbm, ⟨9, _⟩ => ⟨S_, .f32⟩
  | .hbm, ⟨10, _⟩ => ⟨S8208, .f32⟩
  | .hbm, ⟨11, _⟩ => ⟨S8208x1, .f32⟩
  | .hbm, ⟨12, _⟩ => ⟨S_, .f32⟩
  | .hbm, ⟨13, _⟩ => ⟨S8208x1, .f32⟩
  | .hbm, ⟨14, _⟩ => ⟨S8208x1, .f32⟩
  | .hbm, ⟨15, _⟩ => ⟨S_, .f32⟩
  | .hbm, ⟨16, _⟩ => ⟨S8208x1, .f32⟩
  | .hbm, ⟨17, _⟩ => ⟨S8208x1, .f32⟩
  | .hbm, ⟨18, _⟩ => ⟨S8208x1, .f32⟩
  | .hbm, ⟨19, _⟩ => ⟨S8208x1024, .f32⟩
  | .hbm, ⟨20, _⟩ => ⟨S8208x1024, .f32⟩
  | .hbm, ⟨21, _⟩ => ⟨S1x1024, .f32⟩
  | .hbm, ⟨22, _⟩ => ⟨S8208x1024, .f32⟩
  | .hbm, ⟨23, _⟩ => ⟨S8208x1024, .f32⟩
  | .hbm, ⟨24, _⟩ => ⟨S8208x4096, .f32⟩
  | .hbm, ⟨25, _⟩ => ⟨S8208x4096, .bf16⟩
  | .hbm, ⟨26, _⟩ => ⟨S_, .f32⟩
  | .hbm, ⟨27, _⟩ => ⟨S8208x4096, .f32⟩
  | .hbm, ⟨28, _⟩ => ⟨S8208x4096, .f32⟩
  | .hbm, ⟨29, _⟩ => ⟨S8208x4096, .f32⟩
  | .hbm, ⟨30, _⟩ => ⟨S8208x1024, .f32⟩
  | .hbm, ⟨31, _⟩ => ⟨S8208x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Kernel6.lean ====
abbrev S8208x1024 : Shape := ⟨2, ![8208, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S8192x1024 : Shape := ⟨2, ![8192, 1024]⟩
abbrev S1x1024 : Shape := ⟨2, ![1, 1024]⟩
abbrev S1024x4x1024 : Shape := ⟨3, ![1024, 4, 1024]⟩
abbrev S4x1024x1024 : Shape := ⟨3, ![4, 1024, 1024]⟩
abbrev S8208x4096 : Shape := ⟨2, ![8208, 4096]⟩
abbrev S1x1 : Shape := ⟨2, ![1, 1]⟩
abbrev S432x1024 : Shape := ⟨2, ![432, 1024]⟩
abbrev S16x1024 : Shape := ⟨2, ![16, 1024]⟩
abbrev S432x4096 : Shape := ⟨2, ![432, 4096]⟩
abbrev S432 : Shape := ⟨1, ![432]⟩
abbrev S432x1 : Shape := ⟨2, ![432, 1]⟩
abbrev S1x1024x1024 : Shape := ⟨3, ![1, 1024, 1024]⟩
abbrev S416x1024 : Shape := ⟨2, ![416, 1024]⟩
abbrev S1 : Shape := ⟨1, ![1]⟩

abbrev nBuf : Space → Nat
  | .hbm => 22
  | .vmem => 21
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S8192x1024, .f32⟩
  | .hbm, ⟨8, _⟩ => ⟨S8208x1024, .bf16⟩
  | .hbm, ⟨9, _⟩ => ⟨S1024x1024, .bf16⟩
  | .hbm, ⟨10, _⟩ => ⟨S1x1024, .f32⟩
  | .hbm, ⟨11, _⟩ => ⟨S1024x4x1024, .f32⟩
  | .hbm, ⟨12, _⟩ => ⟨S4x1024x1024, .f32⟩
  | .hbm, ⟨13, _⟩ => ⟨S4x1024x1024, .bf16⟩
  | .hbm, ⟨14, _⟩ => ⟨S4x1024x1024, .f32⟩
  | .hbm, ⟨15, _⟩ => ⟨S4x1024x1024, .bf16⟩
  | .hbm, ⟨16, _⟩ => ⟨S1x1024, .f32⟩
  | .hbm, ⟨17, _⟩ => ⟨S8208x1024, .f32⟩
  | .hbm, ⟨18, _⟩ => ⟨S8208x4096, .bf16⟩
  | .hbm, ⟨19, _⟩ => ⟨S8208x1024, .f32⟩
  | .hbm, ⟨20, _⟩ => ⟨S1x1024, .f32⟩
  | .hbm, ⟨21, _⟩ => ⟨S1x1, .f32⟩
  | .local _ .vmem, ⟨0, _⟩ => ⟨S432x1024, .f32⟩
  | .local _ .vmem, ⟨1, _⟩ => ⟨S432x1024, .f32⟩
  | .local _ .vmem, ⟨2, _⟩ => ⟨S432x1024, .bf16⟩
  | .local _ .vmem, ⟨3, _⟩ => ⟨S432x1024, .bf16⟩
  | .local _ .vmem, ⟨4, _⟩ => ⟨S1024x1024, .bf16⟩
  | .local _ .vmem, ⟨5, _⟩ => ⟨S1x1024, .f32⟩
  | .local _ .vmem, ⟨6, _⟩ => ⟨S4x1024x1024, .bf16⟩
  | .local _ .vmem, ⟨7, _⟩ => ⟨S4x1024x1024, .bf16⟩
  | .local _ .vmem, ⟨8, _⟩ => ⟨S1x1024, .f32⟩
  | .local _ .vmem, ⟨9, _⟩ => ⟨S16x1024, .f32⟩
  | .local _ .vmem, ⟨10, _⟩ => ⟨S16x1024, .f32⟩
  | .local _ .vmem, ⟨11, _⟩ => ⟨S432x1024, .f32⟩
  | .local _ .vmem, ⟨12, _⟩ => ⟨S432x1024, .f32⟩
  | .local _ .vmem, ⟨13, _⟩ => ⟨S432x1024, .f32⟩
  | .local _ .vmem, ⟨14, _⟩ => ⟨S432x1024, .f32⟩
  | .local _ .vmem, ⟨15, _⟩ => ⟨S432x4096, .bf16⟩
  | .local _ .vmem, ⟨16, _⟩ => ⟨S432x4096, .bf16⟩
  | .local _ .vmem, ⟨17, _⟩ => ⟨S432x1024, .f32⟩
  | .local _ .vmem, ⟨18, _⟩ => ⟨S432x1024, .f32⟩
  | .local _ .vmem, ⟨19, _⟩ => ⟨S1x1024, .f32⟩
  | .local _ .vmem, ⟨20, _⟩ => ⟨S1x1, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c27_i32 : BitVec 32 := 27#32
  let v0 : BitVec 32 := Scalar.muli arg0 c27_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S432x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S432x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S432x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S432x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S432x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S432x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference6Ideal.lean ====
abbrev S8208x1024 : Shape := ⟨2, ![8208, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S8192x1024 : Shape := ⟨2, ![8192, 1024]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S8208x4096 : Shape := ⟨2, ![8208, 4096]⟩
abbrev S8192 : Shape := ⟨1, ![8192]⟩
abbrev S1x1 : Shape := ⟨2, ![1, 1]⟩

abbrev nBuf : Space → Nat
  | .hbm => 107
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S8192x1024, .f32⟩
  | .hbm, ⟨8, _⟩ => ⟨S8208x1024, .f32⟩
  | .hbm, ⟨9, _⟩ => ⟨S8208x1024, .f32⟩
  | .hbm, ⟨10, _⟩ => ⟨S8208x1024, .f32⟩
  | .hbm, ⟨11, _⟩ => ⟨S_, .f32⟩
  | .hbm, ⟨12, _⟩ => ⟨S8208, .f32⟩
  | .hbm, ⟨13, _⟩ => ⟨S8208x1, .f32⟩
  | .hbm, ⟨14, _⟩ => ⟨S_, .f32⟩
  | .hbm, ⟨15, _⟩ => ⟨S8208x1, .f32⟩
  | .hbm, ⟨16, _⟩ => ⟨S8208x1, .f32⟩
  | .hbm, ⟨17, _⟩ => ⟨S_, .f32⟩
  | .hbm, ⟨18, _⟩ => ⟨S8208x1, .f32⟩
  | .hbm, ⟨19, _⟩ => ⟨S8208x1, .f32⟩
  | .hbm, ⟨20, _⟩ => ⟨S8208x1, .f32⟩
  | .hbm, ⟨21, _⟩ => ⟨S8208x1024, .f32⟩
  | .hbm, ⟨22, _⟩ => ⟨S8208x1024, .f32⟩
  | .hbm, ⟨23, _⟩ => ⟨S1x1024, .f32⟩
  | .hbm, ⟨24, _⟩ => ⟨S8208x1024, .f32⟩
  | .hbm, ⟨25, _⟩ => ⟨S8208x1024, .f32⟩
  | .hbm, ⟨26, _⟩ => ⟨S8208x4096, .f32⟩
  | .hbm, ⟨27, _⟩ => ⟨S8208x4096, .bf16⟩
  | .hbm, ⟨28, _⟩ => ⟨S_, .f32⟩
  | .hbm, ⟨29, _⟩ => ⟨S8208x4096, .f32⟩
  | .hbm, ⟨30, _⟩ => ⟨S8208x4096, .f32⟩
  | .hbm, ⟨31, _⟩ => ⟨S8208x4096, .f32⟩
  | .hbm, ⟨32, _⟩ => ⟨S8208x1024, .f32⟩
  | .hbm, ⟨33, _⟩ => ⟨S8208x1024, .f32⟩
  | .hbm, ⟨34, _⟩ => ⟨S8208x1024, .f32⟩
  | .hbm, ⟨35, _⟩ => ⟨S_, .f32⟩
  | .hbm, ⟨36, _⟩ => ⟨S8208, .f32⟩
  | .hbm, ⟨37, _⟩ => ⟨S8208x1, .f32⟩
  | .hbm, ⟨38, _⟩ => ⟨S_, .f32⟩
  | .hbm, ⟨39, _⟩ => ⟨S8208x1, .f32⟩
  | .hbm, ⟨40, _⟩ => ⟨S8208x1, .f32⟩
  | .hbm, ⟨41, _⟩ => ⟨S_, .f32⟩
  | .hbm, ⟨42, _⟩ => ⟨S8208x1, .f32⟩
  | .hbm, ⟨43, _⟩ => ⟨S8208x1, .f32⟩
  | .hbm, ⟨44, _⟩ => ⟨S8208x1, .f32⟩
  | .hbm, ⟨45, _⟩ => ⟨S8208x1, .f32⟩
  | .hbm, ⟨46, _⟩ => ⟨S_, .f32⟩
  | .hbm, ⟨47, _⟩ => ⟨S8208x1, .f32⟩
  | .hbm, ⟨48, _⟩ => ⟨S8208x1, .f32⟩
  | .hbm, ⟨49, _⟩ => ⟨S8208x1024, .f32⟩
  | .hbm, ⟨50, _⟩ => ⟨S8208x1024, .f32⟩
  | .hbm, ⟨51, _⟩ => ⟨S1x1024, .f32⟩
  | .hbm, ⟨52, _⟩ => ⟨S8208x1024, .f32⟩
  | .hbm, ⟨53, _⟩ => ⟨S8208x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S_, .f32⟩
  | .hbm, ⟨63, _⟩ => ⟨S8192, .f32⟩
  | .hbm, ⟨64, _⟩ => ⟨S8192, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S8192, .f32⟩
  | .hbm, ⟨73, _⟩ => ⟨S_, .f32⟩
  | .hbm, ⟨74, _⟩ => ⟨S8192, .f32⟩
  | .hbm, ⟨75, _⟩ => ⟨S8192, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S8208x1024, .f32⟩
  | .hbm, ⟨80, _⟩ => ⟨S8208x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S8208x1024, .f32⟩
  | .hbm, ⟨85, _⟩ => ⟨S8208x1024, .f32⟩
  | .hbm, ⟨86, _⟩ => ⟨S_, .f32⟩
  | .hbm, ⟨87, _⟩ => ⟨S1024, .f32⟩
  | .hbm, ⟨88, _⟩ => ⟨S8208x1024, .f32⟩
  | .hbm, ⟨89, _⟩ => ⟨S_, .f32⟩
  | .hbm, ⟨90, _⟩ => ⟨S8208, .f32⟩
  | .hbm, ⟨91, _⟩ => ⟨S8208x1, .f32⟩
  | .hbm, ⟨92, _⟩ => ⟨S8208x1024, .f32⟩
  | .hbm, ⟨93, _⟩ => ⟨S8208x1024, .f32⟩
  | .hbm, ⟨94, _⟩ => ⟨S8208x1, .f32⟩
  | .hbm, ⟨95, _⟩ => ⟨S_, .f32⟩
  | .hbm, ⟨96, _⟩ => ⟨S8208x1, .f32⟩
  | .hbm, ⟨97, _⟩ => ⟨S8208x1, .f32⟩
  | .hbm, ⟨98, _⟩ => ⟨S_, .f32⟩
  | .hbm, ⟨99, _⟩ => ⟨S8208, .f32⟩
  | .hbm, ⟨100, _⟩ => ⟨S8208x1024, .f32⟩
  | .hbm, ⟨101, _⟩ => ⟨S8208x1024, .f32⟩
  | .hbm, ⟨102, _⟩ => ⟨S8208x1024, .f32⟩
  | .hbm, ⟨103, _⟩ => ⟨S8208x1024, .f32⟩
  | .hbm, ⟨104, _⟩ => ⟨S8208x1024, .f32⟩
  | .hbm, ⟨105, _⟩ => ⟨S1x1024, .f32⟩
  | .hbm, ⟨106, _⟩ => ⟨S1x1, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_cst_11 : Ref sig .tc := ⟨.hbm, 69, rfl⟩
abbrev main_cst_12 : Ref sig .tc := ⟨.hbm, 70, rfl⟩
abbrev main_v47 : Ref sig .tc := ⟨.hbm, 71, rfl⟩
abbrev main_v48 : Ref sig .tc := ⟨.hbm, 72, rfl⟩
abbrev main_cst_13 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_14 : Ref sig .tc := ⟨.hbm, 78, rfl⟩
abbrev main_v53 : Ref sig .tc := ⟨.hbm, 79, rfl⟩
abbrev main_v54 : Ref sig .tc := ⟨.hbm, 80, rfl⟩
abbrev main_cst_15 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_16 : Ref sig .tc := ⟨.hbm, 86, rfl⟩
abbrev main_v59 : Ref sig .tc := ⟨.hbm, 87, rfl⟩
abbrev main_v60 : Ref sig .tc := ⟨.hbm, 88, rfl⟩
abbrev main_cst_17 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_18 : Ref sig .tc := ⟨.hbm, 95, rfl⟩
abbrev main_v66 : Ref sig .tc := ⟨.hbm, 96, rfl⟩
abbrev main_v67 : Ref sig .tc := ⟨.hbm, 97, rfl⟩
abbrev main_cst_19 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩

abbrev nD : Nat := 1
abbrev τ : Topo := Topo.v7x

variable {F : FTy → Type} [FloatOps F]
-- ==== Kernel11.lean ====
abbrev S4x1024x1024 : Shape := ⟨3, ![4, 1024, 1024]⟩
abbrev S4x512x1024 : Shape := ⟨3, ![4, 512, 1024]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩

abbrev nBuf : Space → Nat
  | .hbm => 4
  | .vmem => 6
  | .smem => 1
  | _ => 0

abbrev bufTy : (tb : Table) → Fin (tcTables nBuf tb) → BufTy
  | .hbm, ⟨0, _⟩ => ⟨S4x1024x1024, .f32⟩
  | .hbm, ⟨1, _⟩ => ⟨S4x512x1024, .f32⟩
  | .hbm, ⟨2, _⟩ => ⟨S_, .i32⟩
  | .hbm, ⟨3, _⟩ => ⟨S4x512x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .bf16⟩
  | .local _ .vmem, ⟨5, _⟩ => ⟨S1x512x1024, .bf16⟩
  | .local _ .smem, ⟨0, _⟩ => ⟨S1, .i32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S4x1024x1024 : Shape := ⟨3, ![4, 1024, 1024]⟩
abbrev S4x512x1024 : Shape := ⟨3, ![4, 512, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S4x512x1024, .bf16⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S4x512x1024 : Shape := ⟨3, ![4, 512, 1024]⟩
abbrev S_ : Shape := ⟨0, ![]⟩
abbrev S1 : Shape := ⟨1, ![1]⟩
abbrev S1024x1024 : Shape := ⟨2, ![1024, 1024]⟩
abbrev S512x1024 : Shape := ⟨2, ![512, 1024]⟩
abbrev S1x512x1024 : Shape := ⟨3, ![1, 512, 1024]⟩

abbrev nBuf : Space → Nat
  | .hbm => 4
  | .vmem => 2
  | .smem => 1
  | _ => 0

abbrev bufTy : (tb : Table) → Fin (tcTables nBuf tb) → BufTy
  | .hbm, ⟨0, _⟩ => ⟨S4x512x1024, .bf16⟩
  | .hbm, ⟨1, _⟩ => ⟨S_, .i32⟩
  | .hbm, ⟨2, _⟩ => ⟨S1024x1024, .f32⟩
  | .hbm, ⟨3, _⟩ => ⟨S512x1024, .f32⟩
  | .local _ .vmem, ⟨0, _⟩ => ⟨S4x512x1024, .bf16⟩
  | .local _ .vmem, ⟨1, _⟩ => ⟨S512x1024, .f32⟩
  | .local _ .smem, ⟨0, _⟩ => ⟨S1, .i32⟩
  | _, _ => ⟨S4x512x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v1 : Ref sig .tc := ⟨.hbm, 2, rfl⟩
abbrev main_v2 : Ref sig .tc := ⟨.hbm, 3, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

abbrev stage0_0 : Fin 1 → Memref sig .tc .vmem S4x512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference12Ideal.lean ====
abbrev S4x512x1024 : Shape := ⟨3, ![4, 512, 1024]⟩
abbrev S_ : Shape := ⟨0, ![]⟩
abbrev S512x1024 : Shape := ⟨2, ![512, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x512x1024, .bf16⟩
  | .hbm, ⟨1, _⟩ => ⟨S4x512x1024, .f32⟩
  | .hbm, ⟨2, _⟩ => ⟨S_, .f32⟩
  | .hbm, ⟨3, _⟩ => ⟨S512x1024, .f32⟩
  | _, _ => ⟨S4x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel7.lean ====
abbrev S4x1024x1024 : Shape := ⟨3, ![4, 1024, 1024]⟩
abbrev S4096x1024 : Shape := ⟨2, ![4096, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel7Ideal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== Reference7Ideal.lean ====
abbrev S4x1024x1024 : Shape := ⟨3, ![4, 1024, 1024]⟩
abbrev S_ : Shape := ⟨0, ![]⟩
abbrev S4096x1024 : Shape := ⟨2, ![4096, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S_, .f32⟩
  | .hbm, ⟨5, _⟩ => ⟨S4x1024x1024, .f32⟩
  | .hbm, ⟨6, _⟩ => ⟨S4x1024x1024, .f32⟩
  | .hbm, ⟨7, _⟩ => ⟨S_, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .hbm, ⟨11, _⟩ => ⟨S_, .f32⟩
  | .hbm, ⟨12, _⟩ => ⟨S4x1024x1024, .f32⟩
  | .hbm, ⟨13, _⟩ => ⟨S4x1024x1024, .f32⟩
  | .hbm, ⟨14, _⟩ => ⟨S4x1024x1024, .f32⟩
  | .hbm, ⟨15, _⟩ => ⟨S_, .f32⟩
  | .hbm, ⟨16, _⟩ => ⟨S4x1024x1024, .f32⟩
  | .hbm, ⟨17, _⟩ => ⟨S4x1024x1024, .f32⟩
  | .hbm, ⟨18, _⟩ => ⟨S4x1024x1024, .f32⟩
  | .hbm, ⟨19, _⟩ => ⟨S_, .f32⟩
  | .hbm, ⟨20, _⟩ => ⟨S4x1024x1024, .f32⟩
  | .hbm, ⟨21, _⟩ => ⟨S4x1024x1024, .f32⟩
  | .hbm, ⟨22, _⟩ => ⟨S_, .f32⟩
  | .hbm, ⟨23, _⟩ => ⟨S4x1024x1024, .f32⟩
  | .hbm, ⟨24, _⟩ => ⟨S4x1024x1024, .f32⟩
  | .hbm, ⟨25, _⟩ => ⟨S4x1024x1024, .f32⟩
  | .hbm, ⟨26, _⟩ => ⟨S_, .f32⟩
  | .hbm, ⟨27, _⟩ => ⟨S4x1024x1024, .f32⟩
  | .hbm, ⟨28, _⟩ => ⟨S4x1024x1024, .f32⟩
  | .hbm, ⟨29, _⟩ => ⟨S4x1024x1024, .f32⟩
  | .hbm, ⟨30, _⟩ => ⟨S_, .f32⟩
  | .hbm, ⟨31, _⟩ => ⟨S4x1024x1024, .f32⟩
  | .hbm, ⟨32, _⟩ => ⟨S4x1024x1024, .f32⟩
  | .hbm, ⟨33, _⟩ => ⟨S4x1024x1024, .f32⟩
  | .hbm, ⟨34, _⟩ => ⟨S_, .f32⟩
  | .hbm, ⟨35, _⟩ => ⟨S4x1024x1024, .f32⟩
  | .hbm, ⟨36, _⟩ => ⟨S4x1024x1024, .f32⟩
  | .hbm, ⟨37, _⟩ => ⟨S4096x1024, .f32⟩
  | .hbm, ⟨38, _⟩ => ⟨S4096x1024, .f32⟩
  | .hbm, ⟨39, _⟩ => ⟨S4096x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel8.lean ====
abbrev S4x1024x384 : Shape := ⟨3, ![4, 1024, 384]⟩
abbrev S4096x384 : Shape := ⟨2, ![4096, 384]⟩
abbrev S512x384 : Shape := ⟨2, ![512, 384]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x384, .f32⟩
  | .hbm, ⟨1, _⟩ => ⟨S4x1024x384, .f32⟩
  | .hbm, ⟨2, _⟩ => ⟨S4x1024x384, .f32⟩
  | .hbm, ⟨3, _⟩ => ⟨S4x1024x384, .f32⟩
  | .hbm, ⟨4, _⟩ => ⟨S4096x384, .f32⟩
  | .hbm, ⟨5, _⟩ => ⟨S4096x384, .f32⟩
  | .hbm, ⟨6, _⟩ => ⟨S4096x384, .f32⟩
  | .hbm, ⟨7, _⟩ => ⟨S4096x384, .f32⟩
  | .hbm, ⟨8, _⟩ => ⟨S4096x384, .f32⟩
  | .hbm, ⟨9, _⟩ => ⟨S4096x384, .f32⟩
  | .hbm, ⟨10, _⟩ => ⟨S4096x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | _, _ => ⟨S4x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel8Ideal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== Reference8Ideal.lean ====
abbrev S4x1024x384 : Shape := ⟨3, ![4, 1024, 384]⟩
abbrev S_ : Shape := ⟨0, ![]⟩
abbrev S4096x384 : Shape := ⟨2, ![4096, 384]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x384, .f32⟩
  | .hbm, ⟨1, _⟩ => ⟨S4x1024x384, .f32⟩
  | .hbm, ⟨2, _⟩ => ⟨S4x1024x384, .f32⟩
  | .hbm, ⟨3, _⟩ => ⟨S4x1024x384, .f32⟩
  | .hbm, ⟨4, _⟩ => ⟨S_, .f32⟩
  | .hbm, ⟨5, _⟩ => ⟨S4x1024x384, .f32⟩
  | .hbm, ⟨6, _⟩ => ⟨S4x1024x384, .f32⟩
  | .hbm, ⟨7, _⟩ => ⟨S_, .f32⟩
  | .hbm, ⟨8, _⟩ => ⟨S4x1024x384, .f32⟩
  | .hbm, ⟨9, _⟩ => ⟨S4x1024x384, .f32⟩
  | .hbm, ⟨10, _⟩ => ⟨S4x1024x384, .f32⟩
  | .hbm, ⟨11, _⟩ => ⟨S_, .f32⟩
  | .hbm, ⟨12, _⟩ => ⟨S4x1024x384, .f32⟩
  | .hbm, ⟨13, _⟩ => ⟨S4x1024x384, .f32⟩
  | .hbm, ⟨14, _⟩ => ⟨S4x1024x384, .f32⟩
  | .hbm, ⟨15, _⟩ => ⟨S_, .f32⟩
  | .hbm, ⟨16, _⟩ => ⟨S4x1024x384, .f32⟩
  | .hbm, ⟨17, _⟩ => ⟨S4x1024x384, .f32⟩
  | .hbm, ⟨18, _⟩ => ⟨S4x1024x384, .f32⟩
  | .hbm, ⟨19, _⟩ => ⟨S_, .f32⟩
  | .hbm, ⟨20, _⟩ => ⟨S4x1024x384, .f32⟩
  | .hbm, ⟨21, _⟩ => ⟨S4x1024x384, .f32⟩
  | .hbm, ⟨22, _⟩ => ⟨S_, .f32⟩
  | .hbm, ⟨23, _⟩ => ⟨S4x1024x384, .f32⟩
  | .hbm, ⟨24, _⟩ => ⟨S4x1024x384, .f32⟩
  | .hbm, ⟨25, _⟩ => ⟨S4x1024x384, .f32⟩
  | .hbm, ⟨26, _⟩ => ⟨S_, .f32⟩
  | .hbm, ⟨27, _⟩ => ⟨S4x1024x384, .f32⟩
  | .hbm, ⟨28, _⟩ => ⟨S4x1024x384, .f32⟩
  | .hbm, ⟨29, _⟩ => ⟨S4x1024x384, .f32⟩
  | .hbm, ⟨30, _⟩ => ⟨S_, .f32⟩
  | .hbm, ⟨31, _⟩ => ⟨S4x1024x384, .f32⟩
  | .hbm, ⟨32, _⟩ => ⟨S4x1024x384, .f32⟩
  | .hbm, ⟨33, _⟩ => ⟨S4x1024x384, .f32⟩
  | .hbm, ⟨34, _⟩ => ⟨S_, .f32⟩
  | .hbm, ⟨35, _⟩ => ⟨S4x1024x384, .f32⟩
  | .hbm, ⟨36, _⟩ => ⟨S4x1024x384, .f32⟩
  | .hbm, ⟨37, _⟩ => ⟨S4096x384, .f32⟩
  | .hbm, ⟨38, _⟩ => ⟨S4096x384, .f32⟩
  | .hbm, ⟨39, _⟩ => ⟨S4096x384, .f32⟩
  | _, _ => ⟨S4x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel9.lean ====
abbrev S4x256x1024 : Shape := ⟨3, ![4, 256, 1024]⟩
abbrev S1024x1024 : Shape := ⟨2, ![1024, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel9Ideal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== Reference9Ideal.lean ====
abbrev S4x256x1024 : Shape := ⟨3, ![4, 256, 1024]⟩
abbrev S_ : Shape := ⟨0, ![]⟩
abbrev S1024x1024 : Shape := ⟨2, ![1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S_, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | .hbm, ⟨37, _⟩ => ⟨S1024x1024, .f32⟩
  | .hbm, ⟨38, _⟩ => ⟨S1024x1024, .f32⟩
  | .hbm, ⟨39, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel10.lean ====
abbrev S1088x512 : Shape := ⟨2, ![1088, 512]⟩
abbrev S272x512 : Shape := ⟨2, ![272, 512]⟩

abbrev nBuf : Space → Nat
  | .hbm => 7
  | .vmem => 14
  | .smem => 0
  | _ => 0

abbrev bufTy : (tb : Table) → Fin (tcTables nBuf tb) → BufTy
  | .hbm, ⟨0, _⟩ => ⟨S1088x512, .f32⟩
  | .hbm, ⟨1, _⟩ => ⟨S1088x512, .f32⟩
  | .hbm, ⟨2, _⟩ => ⟨S1088x512, .f32⟩
  | .hbm, ⟨3, _⟩ => ⟨S1088x512, .f32⟩
  | .hbm, ⟨4, _⟩ => ⟨S1088x512, .f32⟩
  | .hbm, ⟨5, _⟩ => ⟨S1088x512, .f32⟩
  | .hbm, ⟨6, _⟩ => ⟨S1088x512, .f32⟩
  | .local _ .vmem, ⟨0, _⟩ => ⟨S272x512, .f32⟩
  | .local _ .vmem, ⟨1, _⟩ => ⟨S272x512, .f32⟩
  | .local _ .vmem, ⟨2, _⟩ => ⟨S272x512, .f32⟩
  | .local _ .vmem, ⟨3, _⟩ => ⟨S272x512, .f32⟩
  | .local _ .vmem, ⟨4, _⟩ => ⟨S272x512, .f32⟩
  | .local _ .vmem, ⟨5, _⟩ => ⟨S272x512, .f32⟩
  | .local _ .vmem, ⟨6, _⟩ => ⟨S272x512, .f32⟩
  | .local _ .vmem, ⟨7, _⟩ => ⟨S272x512, .f32⟩
  | .local _ .vmem, ⟨8, _⟩ => ⟨S272x512, .f32⟩
  | .local _ .vmem, ⟨9, _⟩ => ⟨S272x512, .f32⟩
  | .local _ .vmem, ⟨10, _⟩ => ⟨S272x512, .f32⟩
  | .local _ .vmem, ⟨11, _⟩ => ⟨S272x512, .f32⟩
  | .local _ .vmem, ⟨12, _⟩ => ⟨S272x512, .f32⟩
  | .local _ .vmem, ⟨13, _⟩ => ⟨S272x512, .f32⟩
  | _, _ => ⟨S1088x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S272x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S272x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S272x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S272x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel10Ideal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== Reference10Ideal.lean ====
abbrev S1088x512 : Shape := ⟨2, ![1088, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1088x512, .f32⟩
  | .hbm, ⟨1, _⟩ => ⟨S1088x512, .f32⟩
  | .hbm, ⟨2, _⟩ => ⟨S1088x512, .f32⟩
  | .hbm, ⟨3, _⟩ => ⟨S1088x512, .f32⟩
  | .hbm, ⟨4, _⟩ => ⟨S_, .f32⟩
  | .hbm, ⟨5, _⟩ => ⟨S1088x512, .f32⟩
  | .hbm, ⟨6, _⟩ => ⟨S1088x512, .f32⟩
  | .hbm, ⟨7, _⟩ => ⟨S_, .f32⟩
  | .hbm, ⟨8, _⟩ => ⟨S1088x512, .f32⟩
  | .hbm, ⟨9, _⟩ => ⟨S1088x512, .f32⟩
  | .hbm, ⟨10, _⟩ => ⟨S1088x512, .f32⟩
  | .hbm, ⟨11, _⟩ => ⟨S_, .f32⟩
  | .hbm, ⟨12, _⟩ => ⟨S1088x512, .f32⟩
  | .hbm, ⟨13, _⟩ => ⟨S1088x512, .f32⟩
  | .hbm, ⟨14, _⟩ => ⟨S1088x512, .f32⟩
  | .hbm, ⟨15, _⟩ => ⟨S_, .f32⟩
  | .hbm, ⟨16, _⟩ => ⟨S1088x512, .f32⟩
  | .hbm, ⟨17, _⟩ => ⟨S1088x512, .f32⟩
  | .hbm, ⟨18, _⟩ => ⟨S1088x512, .f32⟩
  | .hbm, ⟨19, _⟩ => ⟨S_, .f32⟩
  | .hbm, ⟨20, _⟩ => ⟨S1088x512, .f32⟩
  | .hbm, ⟨21, _⟩ => ⟨S1088x512, .f32⟩
  | .hbm, ⟨22, _⟩ => ⟨S_, .f32⟩
  | .hbm, ⟨23, _⟩ => ⟨S1088x512, .f32⟩
  | .hbm, ⟨24, _⟩ => ⟨S1088x512, .f32⟩
  | .hbm, ⟨25, _⟩ => ⟨S1088x512, .f32⟩
  | .hbm, ⟨26, _⟩ => ⟨S_, .f32⟩
  | .hbm, ⟨27, _⟩ => ⟨S1088x512, .f32⟩
  | .hbm, ⟨28, _⟩ => ⟨S1088x512, .f32⟩
  | .hbm, ⟨29, _⟩ => ⟨S1088x512, .f32⟩
  | .hbm, ⟨30, _⟩ => ⟨S_, .f32⟩
  | .hbm, ⟨31, _⟩ => ⟨S1088x512, .f32⟩
  | .hbm, ⟨32, _⟩ => ⟨S1088x512, .f32⟩
  | .hbm, ⟨33, _⟩ => ⟨S1088x512, .f32⟩
  | .hbm, ⟨34, _⟩ => ⟨S_, .f32⟩
  | .hbm, ⟨35, _⟩ => ⟨S1088x512, .f32⟩
  | .hbm, ⟨36, _⟩ => ⟨S1088x512, .f32⟩
  | _, _ => ⟨S1088x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.LossRun.lean ====
/-
  The forward call with the loss head: one run of the body, at the grid's first point and at a later one. What the
  run leaves in each output's staging memref is found by the run.
-/
module

public import proofs.«01_k».proof.Proof.Gen.Kernel6Ideal.Frame
public import proofs.«01_k».proof.Proof.Gen.Kernel6Ideal.Skeleton

@[expose] public section

set_option maxRecDepth 16384

noncomputable section

namespace Cert.Proof.Loss

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the grid's first: the body clears the two accumulators there. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 19 = 0 :=
  (fun t => by
    have ht : t.val < 19 := Nat.lt_of_lt_of_eq t.isLt N_0
    have e0 : (grid0.coords t 0).val = t.val / 1 % 19 := Pipeline.Grid.coords_val t 0 (by decide) rfl
    simp only [cond0_0, e0]
    word_cmp
   : ∀ t : Fin grid0.N, cond0_0 (grid0.coords t) ↔ t.val % 19 = 0)

/-- One staging buffer of each output, through which its contents are stated. -/
abbrev VO0_9 : View sig .tc .vmem S432x1024 .f32 := (Memref.whole cc0_stg9_0 : Memref sig .tc .vmem S432x1024 .f32).view
abbrev VO0_10 : View sig .tc .vmem S432x4096 .bf16 := (Memref.whole cc0_stg10_0 : Memref sig .tc .vmem S432x4096 .bf16).view
abbrev VO0_11 : View sig .tc .vmem S432x1024 .f32 := (Memref.whole cc0_stg11_0 : Memref sig .tc .vmem S432x1024 .f32).view
abbrev VO0_12 : View sig .tc .vmem S1x1024 .f32 := (Memref.whole cc0_stg12_0 : Memref sig .tc .vmem S1x1024 .f32).view
abbrev VO0_13 : View sig .tc .vmem S1x1 .f32 := (Memref.whole cc0_stg13_0 : Memref sig .tc .vmem S1x1 .f32).view
/-- The windows' staging memrefs at a point, and that they are whole. -/
abbrev ms0_0 (t : Fin cfg0.N) : Memref sig .tc .vmem S432x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S432x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S432x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S432x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S432x4096 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S432x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1 .f32 := win0_13.stage (cfg0.slots t 13)
abbrev hs0_13 (t : Fin cfg0.N) : (ms0_13 t).IsWhole := hstage0_13 ((cfg0.slots t 13).cast nbuf0_13)

variable (c : Dev nD) (i : grid0.Coords) (arg1 : Memref sig .tc .vmem S432x1024 .f32) (harg1 : arg1.IsWhole) (arg2 : Memref sig .tc .vmem S432x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S4x1024x1024 .bf16) (harg5 : arg5.IsWhole) (arg6 : Memref sig .tc .vmem S4x1024x1024 .bf16) (harg6 : arg6.IsWhole) (arg7 : Memref sig .tc .vmem S1x1024 .f32) (harg7 : arg7.IsWhole) (arg8 : Memref sig .tc .vmem S16x1024 .f32) (harg8 : arg8.IsWhole) (arg9 : Memref sig .tc .vmem S432x1024 .f32) (harg9 : arg9.IsWhole) (arg10 : Memref sig .tc .vmem S432x1024 .f32) (harg10 : arg10.IsWhole) (arg11 : Memref sig .tc .vmem S432x4096 .bf16) (harg11 : arg11.IsWhole) (arg12 : Memref sig .tc .vmem S432x1024 .f32) (harg12 : arg12.IsWhole) (arg13 : Memref sig .tc .vmem S1x1024 .f32) (harg13 : arg13.IsWhole) (arg14 : Memref sig .tc .vmem S1x1 .f32) (harg14 : arg14.IsWhole)

set_option maxHeartbeats 1000000 in
/-- The first point: the accumulators are cleared, so nothing of what the outputs held is read. -/
def runA (hc0 : cond0_0 i)
    (x0 : Vec F S432x1024 .f32) (x1 : Vec F S432x1024 .bf16) (x2 : Vec F S1024x1024 .bf16) (x3 : Vec F S1x1024 .f32) (x4 : Vec F S4x1024x1024 .bf16) (x5 : Vec F S4x1024x1024 .bf16) (x6 : Vec F S1x1024 .f32) (x7 : Vec F S16x1024 .f32) (x8 : Vec F S432x1024 .f32) :
    Σ' (L9 : List (View.Piece (Elt F) S432x1024 .f32)), Σ' (L10 : List (View.Piece (Elt F) S432x4096 .bf16)), Σ' (L11 : List (View.Piece (Elt F) S432x1024 .f32)), Σ' (L12 : List (View.Piece (Elt F) S1x1024 .f32)), { L13 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13)) -∗ K ⟨⟩))
          ⊢ wp frame (wpE (defs₀ (F := F)) Variants.none c none) E (cc0_fwd_post i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0_fwd_post_eq_skeleton]; unfold cc0_fwd_post_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [H12]; · iexists _; iexact H12
    iexists _; iexact H13

set_option maxHeartbeats 1000000 in
/-- A later point: the accumulators are read at what they hold (`xo12`, `xo13`). -/
def runB (hc0 : ¬cond0_0 i)
    (x0 : Vec F S432x1024 .f32) (x1 : Vec F S432x1024 .bf16) (x2 : Vec F S1024x1024 .bf16) (x3 : Vec F S1x1024 .f32) (x4 : Vec F S4x1024x1024 .bf16) (x5 : Vec F S4x1024x1024 .bf16) (x6 : Vec F S1x1024 .f32) (x7 : Vec F S16x1024 .f32) (x8 : Vec F S432x1024 .f32) (xo12 : Vec F S1x1024 .f32) (xo13 : Vec F S1x1 .f32) :
    Σ' (L9 : List (View.Piece (Elt F) S432x1024 .f32)), Σ' (L10 : List (View.Piece (Elt F) S432x4096 .bf16)), Σ' (L11 : List (View.Piece (Elt F) S432x1024 .f32)), Σ' (L12 : List (View.Piece (Elt F) S1x1024 .f32)), { L13 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xo12 ∗ owns (c : Thread nD τ) arg14 fullShare xo13
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13)) -∗ K ⟨⟩))
          ⊢ wp frame (wpE (defs₀ (F := F)) Variants.none c none) E (cc0_fwd_post i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0_fwd_post_eq_skeleton]; unfold cc0_fwd_post_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%f13, %hf13, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hf12; obtain rfl := harg14.eq_unread hf13
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [H12]; · iexists _; iexact H12
    iexists _; iexact H13

end Cert.Proof.Loss

end
-- ==== Proof.LossFrame.lean ====
/-
  The forward call with the loss head: what the outputs hold after each point, the proof data, the run and the frame.
  The targets' last block reaches sixteen rows past the array, and the body never reads those rows.
-/
module

public import proofs.«01_k».proof.Proof.LossRun
public import Idealize.ShloMosaic.Lib.Claim

@[expose] public section

set_option maxRecDepth 16384

noncomputable section

namespace Cert.Proof.Loss

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The targets' staging buffer: the block on its rows inside the array, `d` on the others. -/
def tgt (c : Dev nD) (t : Fin cfg0.N) (d : Vec F S432x1024 .f32) : Vec F S432x1024 .f32 := win0_8.fill (grid0.coords t) d (iblk m c 8 t)

/-- The body's run at the first point. -/
def ptA (c : Dev nD) (t : Fin cfg0.N) (h : t.val % 19 = 0) (d : Vec F S432x1024 .f32) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h) (iblk m c 0 t) (iblk m c 1 t) (iblk m c 2 t) (iblk m c 3 t) (iblk m c 4 t) (iblk m c 5 t) (iblk m c 6 t) (iblk m c 7 t) (tgt m c t d)

/-- The body's run at a later point. -/
def ptB (c : Dev nD) (t : Fin cfg0.N) (h : ¬t.val % 19 = 0) (d : Vec F S432x1024 .f32) (xo12 : Vec F S1x1024 .f32) (xo13 : Vec F S1x1 .f32) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun e => h ((hcond0_0 t).mp e)) (iblk m c 0 t) (iblk m c 1 t) (iblk m c 2 t) (iblk m c 3 t) (iblk m c 4 t) (iblk m c 5 t) (iblk m c 6 t) (iblk m c 7 t) (tgt m c t d) xo12 xo13

theorem coverA_9 (c : Dev nD) (t : Fin cfg0.N) (h : t.val % 19 = 0) (d : Vec F S432x1024 .f32) (y : S432x1024.Idx) :
    ∃ pc ∈ (ptA m c t h d).1, y ∈ pc.1.set :=
  View.cover_of_tiledL (ptA m c t h d).1 S432x1024.size (by sl_kernel_rfl) y
theorem coverA_10 (c : Dev nD) (t : Fin cfg0.N) (h : t.val % 19 = 0) (d : Vec F S432x1024 .f32) (y : S432x4096.Idx) :
    ∃ pc ∈ (ptA m c t h d).2.1, y ∈ pc.1.set :=
  View.cover_of_tiledL (ptA m c t h d).2.1 S432x1024.size (by sl_kernel_rfl) y
theorem coverA_11 (c : Dev nD) (t : Fin cfg0.N) (h : t.val % 19 = 0) (d : Vec F S432x1024 .f32) (y : S432x1024.Idx) :
    ∃ pc ∈ (ptA m c t h d).2.2.1, y ∈ pc.1.set :=
  View.cover_of_tiledL (ptA m c t h d).2.2.1 S432x1024.size (by sl_kernel_rfl) y
theorem coverA_12 (c : Dev nD) (t : Fin cfg0.N) (h : t.val % 19 = 0) (d : Vec F S432x1024 .f32) (y : S1x1024.Idx) :
    ∃ pc ∈ (ptA m c t h d).2.2.2.1, y ∈ pc.1.set :=
  View.cover_of_tiledL (ptA m c t h d).2.2.2.1 S1x1024.size (by sl_kernel_rfl) y
theorem coverA_13 (c : Dev nD) (t : Fin cfg0.N) (h : t.val % 19 = 0) (d : Vec F S432x1024 .f32) (y : S1x1.Idx) :
    ∃ pc ∈ (ptA m c t h d).2.2.2.2.1, y ∈ pc.1.set :=
  View.cover_of_tiledL (ptA m c t h d).2.2.2.2.1 S1x1.size (by sl_kernel_rfl) y

/-- What the five outputs hold after such a point. -/
def outA (c : Dev nD) (t : Fin cfg0.N) (h : t.val % 19 = 0) (d : Vec F S432x1024 .f32) :
    Vec F S432x1024 .f32 × Vec F S432x4096 .bf16 × Vec F S432x1024 .f32 × Vec F S1x1024 .f32 × Vec F S1x1 .f32 :=
  (VO0_9.read (Elt F) (VO0_9.writes (Elt F) VO0_9.junk (ptA m c t h d).1),
    VO0_10.read (Elt F) (VO0_10.writes (Elt F) VO0_10.junk (ptA m c t h d).2.1),
    VO0_11.read (Elt F) (VO0_11.writes (Elt F) VO0_11.junk (ptA m c t h d).2.2.1),
    VO0_12.read (Elt F) (VO0_12.writes (Elt F) VO0_12.junk (ptA m c t h d).2.2.2.1),
    VO0_13.read (Elt F) (VO0_13.writes (Elt F) VO0_13.junk (ptA m c t h d).2.2.2.2.1))

theorem coverB_9 (c : Dev nD) (t : Fin cfg0.N) (h : ¬t.val % 19 = 0) (d : Vec F S432x1024 .f32) (xo12 : Vec F S1x1024 .f32) (xo13 : Vec F S1x1 .f32) (y : S432x1024.Idx) :
    ∃ pc ∈ (ptB m c t h d xo12 xo13).1, y ∈ pc.1.set :=
  View.cover_of_tiledL (ptB m c t h d xo12 xo13).1 S432x1024.size (by sl_kernel_rfl) y
theorem coverB_10 (c : Dev nD) (t : Fin cfg0.N) (h : ¬t.val % 19 = 0) (d : Vec F S432x1024 .f32) (xo12 : Vec F S1x1024 .f32) (xo13 : Vec F S1x1 .f32) (y : S432x4096.Idx) :
    ∃ pc ∈ (ptB m c t h d xo12 xo13).2.1, y ∈ pc.1.set :=
  View.cover_of_tiledL (ptB m c t h d xo12 xo13).2.1 S432x1024.size (by sl_kernel_rfl) y
theorem coverB_11 (c : Dev nD) (t : Fin cfg0.N) (h : ¬t.val % 19 = 0) (d : Vec F S432x1024 .f32) (xo12 : Vec F S1x1024 .f32) (xo13 : Vec F S1x1 .f32) (y : S432x1024.Idx) :
    ∃ pc ∈ (ptB m c t h d xo12 xo13).2.2.1, y ∈ pc.1.set :=
  View.cover_of_tiledL (ptB m c t h d xo12 xo13).2.2.1 S432x1024.size (by sl_kernel_rfl) y
theorem coverB_12 (c : Dev nD) (t : Fin cfg0.N) (h : ¬t.val % 19 = 0) (d : Vec F S432x1024 .f32) (xo12 : Vec F S1x1024 .f32) (xo13 : Vec F S1x1 .f32) (y : S1x1024.Idx) :
    ∃ pc ∈ (ptB m c t h d xo12 xo13).2.2.2.1, y ∈ pc.1.set :=
  View.cover_of_tiledL (ptB m c t h d xo12 xo13).2.2.2.1 S1x1024.size (by sl_kernel_rfl) y
theorem coverB_13 (c : Dev nD) (t : Fin cfg0.N) (h : ¬t.val % 19 = 0) (d : Vec F S432x1024 .f32) (xo12 : Vec F S1x1024 .f32) (xo13 : Vec F S1x1 .f32) (y : S1x1.Idx) :
    ∃ pc ∈ (ptB m c t h d xo12 xo13).2.2.2.2.1, y ∈ pc.1.set :=
  View.cover_of_tiledL (ptB m c t h d xo12 xo13).2.2.2.2.1 S1x1.size (by sl_kernel_rfl) y

/-- What the five outputs hold after such a point. -/
def outB (c : Dev nD) (t : Fin cfg0.N) (h : ¬t.val % 19 = 0) (d : Vec F S432x1024 .f32) (xo12 : Vec F S1x1024 .f32) (xo13 : Vec F S1x1 .f32) :
    Vec F S432x1024 .f32 × Vec F S432x4096 .bf16 × Vec F S432x1024 .f32 × Vec F S1x1024 .f32 × Vec F S1x1 .f32 :=
  (VO0_9.read (Elt F) (VO0_9.writes (Elt F) VO0_9.junk (ptB m c t h d xo12 xo13).1),
    VO0_10.read (Elt F) (VO0_10.writes (Elt F) VO0_10.junk (ptB m c t h d xo12 xo13).2.1),
    VO0_11.read (Elt F) (VO0_11.writes (Elt F) VO0_11.junk (ptB m c t h d xo12 xo13).2.2.1),
    VO0_12.read (Elt F) (VO0_12.writes (Elt F) VO0_12.junk (ptB m c t h d xo12 xo13).2.2.2.1),
    VO0_13.read (Elt F) (VO0_13.writes (Elt F) VO0_13.junk (ptB m c t h d xo12 xo13).2.2.2.2.1))

theorem xsize8 : ∀ t : Fin cfg0.N, 416 ≤ win0_8.xsize (grid0.coords t) 0 ∧ 1024 ≤ win0_8.xsize (grid0.coords t) 1 :=
  (by decide +kernel : ∀ t : Fin grid0.N, _)

/-- The first 416 rows of the targets' buffer are the array's, at every point. -/
theorem tgt_lt (c : Dev nD) (t : Fin cfg0.N) (d d' : Vec F S432x1024 .f32) (i : S432x1024.Idx) (h : (i 0).val < 416) : tgt m c t d i = tgt m c t d' i := by
  have hm : win0_8.moved (grid0.coords t) i = true := (win0_8.moved_iff _ _).mpr fun a => by
    match a with
    | ⟨0, _⟩ => exact lt_of_lt_of_le h (xsize8 t).1
    | ⟨1, _⟩ => exact lt_of_lt_of_le (i 1).isLt (xsize8 t).2
  unfold tgt Window.fill
  rw [dif_pos hm, dif_pos hm]

/-- What the body loads of that buffer does not depend on the other rows. -/
theorem tgt_ld (c : Dev nD) (t : Fin cfg0.N) (d d' : Vec F S432x1024 .f32) (h : (ms0_8 t).IsWhole) (inb) :
    (ms0_8 t).view.readAt (Elt F) (Rect.unit (s := S432x1024) ![0, 0] ![416, 1024] inb).toLoadRect (h.unread (tgt m c t d))
      = (ms0_8 t).view.readAt (Elt F) (Rect.unit (s := S432x1024) ![0, 0] ![416, 1024] inb).toLoadRect (h.unread (tgt m c t d')) := by
  funext y
  rw [View.readAt_apply, View.readAt_apply, h.read_unread, h.read_unread]
  refine tgt_lt m c t d d' _ ?_
  show 0 + 1 * (y 0).val < 416
  have : (y 0).val < 416 := (y 0).isLt
  omega

theorem outA_tail (c : Dev nD) (t : Fin cfg0.N) (h : t.val % 19 = 0) (d d' : Vec F S432x1024 .f32) : outA m c t h d = outA m c t h d' := by
  unfold outA ptA runA
  dsimp only
  unfold runA.sl.r_11 runA.sl.r_10
  rw [tgt_ld m c t d d']

theorem outB_tail (c : Dev nD) (t : Fin cfg0.N) (h : ¬t.val % 19 = 0) (d d' : Vec F S432x1024 .f32) (xo12 : Vec F S1x1024 .f32) (xo13 : Vec F S1x1 .f32) :
    outB m c t h d xo12 xo13 = outB m c t h d' xo12 xo13 := by
  unfold outB ptB runB
  dsimp only
  unfold runB.sl.r_11 runB.sl.r_10
  rw [tgt_ld m c t d d']

/-- What the proof writes past the targets' last row; nothing reads it. -/
abbrev pad : Vec F S432x1024 .f32 := fun _ => Scalar.ofBits .f32 0#32

/-- What the five outputs hold after point `n`: the two accumulators carry over from the point before. -/
def outsAt (c : Dev nD) : (n : ℕ) → n < cfg0.N → Vec F S432x1024 .f32 × Vec F S432x4096 .bf16 × Vec F S432x1024 .f32 × Vec F S1x1024 .f32 × Vec F S1x1 .f32
  | 0, hn => outA m c ⟨0, hn⟩ (Nat.zero_mod _) pad
  | n + 1, hn =>
    if h : (n + 1) % 19 = 0 then outA m c ⟨n + 1, hn⟩ h pad
    else outB m c ⟨n + 1, hn⟩ h pad (outsAt c n (Nat.lt_of_succ_lt hn)).2.2.2.1 (outsAt c n (Nat.lt_of_succ_lt hn)).2.2.2.2

theorem outsAt_A (c : Dev nD) (t : Fin cfg0.N) (h : t.val % 19 = 0) : outsAt m c t.val t.isLt = outA m c t h pad := by
  obtain ⟨n, hn⟩ := t
  cases n with
  | zero => rfl
  | succ n => exact dif_pos h

theorem outsAt_B (c : Dev nD) (t : Fin cfg0.N) (h : ¬t.val % 19 = 0) : outsAt m c t.val t.isLt
    = outB m c t h pad (outsAt m c (t.val - 1) (Nat.lt_of_le_of_lt (Nat.sub_le _ _) t.isLt)).2.2.2.1 (outsAt m c (t.val - 1) (Nat.lt_of_le_of_lt (Nat.sub_le _ _) t.isLt)).2.2.2.2 := by
  obtain ⟨n, hn⟩ := t
  cases n with
  | zero => exact absurd (Nat.zero_mod _) h
  | succ n => exact dif_neg h

/-- The proof data: the arrays as the region finds them, and after each point the inputs' buffers at their blocks and
    the outputs' at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => tgt m c t pad
    | ⟨9, _⟩ => (outsAt m c t.val t.isLt).1
    | ⟨10, _⟩ => (outsAt m c t.val t.isLt).2.1
    | ⟨11, _⟩ => (outsAt m c t.val t.isLt).2.2.1
    | ⟨12, _⟩ => (outsAt m c t.val t.isLt).2.2.2.1
    | ⟨13, _⟩ => (outsAt m c t.val t.isLt).2.2.2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = tgt m c t pad := by dsimp only [dats]
theorem after_9 (c : Dev nD) (t : Fin cfg0.N) : (dats m 0 c).after 9 t = (outsAt m c t.val t.isLt).1 := by dsimp only [dats]
theorem after_10 (c : Dev nD) (t : Fin cfg0.N) : (dats m 0 c).after 10 t = (outsAt m c t.val t.isLt).2.1 := by dsimp only [dats]
theorem after_11 (c : Dev nD) (t : Fin cfg0.N) : (dats m 0 c).after 11 t = (outsAt m c t.val t.isLt).2.2.1 := by dsimp only [dats]
theorem after_12 (c : Dev nD) (t : Fin cfg0.N) : (dats m 0 c).after 12 t = (outsAt m c t.val t.isLt).2.2.2.1 := by dsimp only [dats]
theorem after_13 (c : Dev nD) (t : Fin cfg0.N) : (dats m 0 c).after 13 t = (outsAt m c t.val t.isLt).2.2.2.2 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- The targets' buffer was just fetched: its rows past the array hold `d`. -/
theorem before_8 (c : Dev nD) (t : Fin cfg0.N) (d) : (dats m 0 c).before 8 t d = tgt m c t d := by
  unfold Dat.before; rw [if_pos (fetch0_8 t)]; rfl

theorem before_12 (c : Dev nD) (t : Fin cfg0.N) (h : ¬t.val % 19 = 0) (d) :
    (dats m 0 c).before 12 t d = (outsAt m c (t.val - 1) (Nat.lt_of_le_of_lt (Nat.sub_le _ _) t.isLt)).2.2.2.1 := by
  have hN : t.val < 19 := lt_of_lt_of_eq t.isLt N_0
  rw [Dat.before_out_kept _ 12 rfl t (by omega) (Bool.eq_false_iff.mpr fun h => by have := (flush0_12 _).mp h; dsimp only at this; omega)
    (fun _ => rfl) (fun _ _ => rfl)]
  dsimp only [dats]

theorem before_13 (c : Dev nD) (t : Fin cfg0.N) (h : ¬t.val % 19 = 0) (d) :
    (dats m 0 c).before 13 t d = (outsAt m c (t.val - 1) (Nat.lt_of_le_of_lt (Nat.sub_le _ _) t.isLt)).2.2.2.2 := by
  have hN : t.val < 19 := lt_of_lt_of_eq t.isLt N_0
  rw [Dat.before_out_kept _ 13 rfl t (by omega) (Bool.eq_false_iff.mpr fun h => by have := (flush0_13 _).mp h; dsimp only at this; omega)
    (fun _ => rfl) (fun _ _ => rfl)]
  dsimp only [dats]

/-- What the body is given at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare (win0_8.fill (grid0.coords t) d (win0_8.cut (grid0.coords t) ((dats m 0 c).after 8 t))))
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

theorem cut_tgt (c : Dev nD) (t : Fin cfg0.N) (d : Vec F S432x1024 .f32) : win0_8.fill (grid0.coords t) d (win0_8.cut (grid0.coords t) (tgt m c t pad)) = tgt m c t d :=
  congrArg (win0_8.fill (grid0.coords t) d) (win0_8.cut_fill _ _ _)

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  by_cases h : t.val % 19 = 0
  · rw [outsAt_A m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    rw [outA_tail m c t h pad d8]
    unfold outA; dsimp only
    iapply ((ptA m c t h d8).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    iintro ⟨H0, H1, H2, H3, H4, H5, H6, H7, H8, ⟨%e9, H9⟩, ⟨%e10, H10⟩, ⟨%e11, H11⟩, ⟨%e12, H12⟩, ⟨%e13, H13⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists d8; rw [cut_tgt]; iexact H8
    isplitl [H9]
    · unfold owns; iexists _; isplitr
      swap; · iexact H9
      ipureintro; exact View.read_writes_of_cover _ _ _ _ _ (coverA_9 m c t h d8)
    isplitl [H10]
    · unfold owns; iexists _; isplitr
      swap; · iexact H10
      ipureintro; exact View.read_writes_of_cover _ _ _ _ _ (coverA_10 m c t h d8)
    isplitl [H11]
    · unfold owns; iexists _; isplitr
      swap; · iexact H11
      ipureintro; exact View.read_writes_of_cover _ _ _ _ _ (coverA_11 m c t h d8)
    isplitl [H12]
    · unfold owns; iexists _; isplitr
      swap; · iexact H12
      ipureintro; exact View.read_writes_of_cover _ _ _ _ _ (coverA_12 m c t h d8)
    unfold owns; iexists _; isplitr
    swap; · iexact H13
    ipureintro; exact View.read_writes_of_cover _ _ _ _ _ (coverA_13 m c t h d8)
  · rw [outsAt_B m c t h]
    simp only [before_12 m c t h, before_13 m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    rw [outB_tail m c t h pad d8]
    unfold outB; dsimp only
    iapply ((ptB m c t h d8 _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexact H12
    isplitl [H13]; · iexact H13
    iintro ⟨H0, H1, H2, H3, H4, H5, H6, H7, H8, ⟨%e9, H9⟩, ⟨%e10, H10⟩, ⟨%e11, H11⟩, ⟨%e12, H12⟩, ⟨%e13, H13⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists d8; rw [cut_tgt]; iexact H8
    isplitl [H9]
    · unfold owns; iexists _; isplitr
      swap; · iexact H9
      ipureintro; exact View.read_writes_of_cover _ _ _ _ _ (coverB_9 m c t h d8 _ _)
    isplitl [H10]
    · unfold owns; iexists _; isplitr
      swap; · iexact H10
      ipureintro; exact View.read_writes_of_cover _ _ _ _ _ (coverB_10 m c t h d8 _ _)
    isplitl [H11]
    · unfold owns; iexists _; isplitr
      swap; · iexact H11
      ipureintro; exact View.read_writes_of_cover _ _ _ _ _ (coverB_11 m c t h d8 _ _)
    isplitl [H12]
    · unfold owns; iexists _; isplitr
      swap; · iexact H12
      ipureintro; exact View.read_writes_of_cover _ _ _ _ _ (coverB_12 m c t h d8 _ _)
    unfold owns; iexists _; isplitr
    swap; · iexact H13
    ipureintro; exact View.read_writes_of_cover _ _ _ _ _ (coverB_13 m c t h d8 _ _)

theorem defs₀_row (t : Fin cfg0.N) : defs₀ (F := F) .tc cfg0.body (cfg0.bodyArgs t (cfg0.slots t)) = bodyAt0 t := by
  unfold defs₀; rw [Defs.onTc_tc]

/-- The library's body obligation, the targets' window stated on its rows inside the array only. -/
theorem body_obligation (c : Dev nD) : Pipeline.BodyObligationLoose (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every array ends at what the proof data says, every other buffer as the region found it, every semaphore
    at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := body_obligation m) (hq := fun _ _ _ => rfl)
    (howed := fun _ _ => rfl) (V := V m) (hmain := hmain m Variants.none) (hA := A_eq m) (hΦ := fun _ _ => rfl)

/-- The frame, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.Proof.Loss

end
-- ==== Proof.LossRef.lean ====
/-
  The reference of the forward call with the loss head: its run, the forward part's results being those of the call
  without the head, and the head's three results as functions of the step's output.
-/
module

public import proofs.«01_k».proof.Proof.Gen.Reference6Ideal
public import proofs.«01_k».proof.Proof.Gen.Reference5Ideal.Read
public import Idealize.ShloMosaic.Lib.StableHlo.Run
public import Idealize.ShloMosaic.Lib.Pipeline.Frame
public import Idealize.ShloMosaic.Lib.Claim

@[expose] public section

set_option maxRecDepth 16384

noncomputable section

namespace Cert.Proof.LossRef

open Cert.Reference6Ideal Cert.Reference6Ideal.Gen Idealize.ShloMosaic Idealize.ShloMosaic.TcCoe Idealize.SL.Sem Idealize.ShloMosaic.StableHlo

variable {F : FTy → Type} [FloatOps F]

/-- The mean squares of the rows, plus the small constant. -/
def vr (h : FVec F S8208x1024 .f32) : FVec F S8208x1 .f32 :=
  addf (Host.divf (broadcastInDim S8208x1 ![0] bcast_S8208_S8208x1_0 (Host.reduceAdd (mulf h h) (constant S_ .f32 0x00000000#32) reducesTo_S8208x1024_S8208_d1 h_S_))
    (broadcastInDim S8208x1 ![] bcast_S_S8208x1 (constant S_ .f32 0x44800000#32))) (broadcastInDim S8208x1 ![] bcast_S_S8208x1 (constant S_ .f32 0x358637BD#32))

/-- The normalised rows, before the weight. -/
def nm (h : FVec F S8208x1024 .f32) : FVec F S8208x1024 .f32 :=
  mulf h (broadcastInDim S8208x1024 ![0, 1] bcast_S8208x1_S8208x1024_0_1 (Host.rsqrt (vr h)))

/-- The norm's weight, on every row. -/
def wt (g : FVec F S1024 .f32) : FVec F S8208x1024 .f32 :=
  broadcastInDim S8208x1024 ![0, 1] bcast_S1x1024_S8208x1024_0_1 (broadcastInDim S1x1024 ![1] bcast_S1024_S1x1024_1 g)

/-- The error of the rows after the first sixteen. -/
def er (h : FVec F S8208x1024 .f32) (g : FVec F S1024 .f32) (t : FVec F S8192x1024 .f32) : FVec F S8192x1024 .f32 :=
  subf (extractStridedSlice S8192x1024 ![16, 0] (mulf (nm h) (wt g)) slices_S8208x1024_S8192x1024_16_0) t

/-- The loss. -/
def loss (h : FVec F S8208x1024 .f32) (g : FVec F S1024 .f32) (t : FVec F S8192x1024 .f32) : FVec F S1x1 .f32 :=
  broadcastInDim S1x1 ![] bcast_S_S1x1 (mulf (constant S_ .f32 0x3F000000#32) (Host.reduceAdd (Host.divf
    (Host.reduceAdd (mulf (er h g t) (er h g t)) (constant S_ .f32 0x00000000#32) reducesTo_S8192x1024_S8192_d1 h_S_)
    (broadcastInDim S8192 ![] bcast_S_S8192 (constant S_ .f32 0x44800000#32))) (constant S_ .f32 0x00000000#32) reducesTo_S8192_S_d0 h_S_))

/-- The loss's gradient at the normed rows. -/
def ge (h : FVec F S8208x1024 .f32) (g : FVec F S1024 .f32) (t : FVec F S8192x1024 .f32) : FVec F S8208x1024 .f32 :=
  pad S8208x1024 ![16, 0] ![0, 0] ![0, 0] (mulf (broadcastInDim S8192x1024 ![0] bcast_S8192_S8192x1024_0 (Host.divf
      (broadcastInDim S8192 ![] bcast_S_S8192 (mulf (constant S_ .f32 0x3F000000#32) (constant S_ .f32 0x3F800000#32)))
      (broadcastInDim S8192 ![] bcast_S_S8192 (constant S_ .f32 0x44800000#32))))
    (mulf (broadcastInDim S8192x1024 ![] bcast_S_S8192x1024 (constant S_ .f32 0x40000000#32)) (er h g t)))
    (constant (F := F) S_ .f32 0x00000000#32) pads_S8192x1024_S8208x1024_1600_000 h_S_

/-- The weight's gradient. -/
def dgf (h : FVec F S8208x1024 .f32) (g : FVec F S1024 .f32) (t : FVec F S8192x1024 .f32) : FVec F S1x1024 .f32 :=
  broadcastInDim S1x1024 ![1] bcast_S1024_S1x1024_1 (Host.reduceAdd (shapeCast S1x1024 (Host.reduceAdd (mulf (nm h) (ge h g t))
    (constant S_ .f32 0x00000000#32) reducesTo_S8208x1024_S1024_d0 h_S_) shapeCasts_S1024_S1x1024) (constant S_ .f32 0x00000000#32) reducesTo_S1x1024_S1024_d0 h_S_)

/-- The gradient at the normalised rows. -/
def ct (h : FVec F S8208x1024 .f32) (g : FVec F S1024 .f32) (t : FVec F S8192x1024 .f32) : FVec F S8208x1024 .f32 :=
  mulf (ge h g t) (wt g)

/-- The row factor of the gradient through the mean square. -/
def kr (h : FVec F S8208x1024 .f32) (g : FVec F S1024 .f32) (t : FVec F S8192x1024 .f32) : FVec F S8208x1024 .f32 :=
  broadcastInDim S8208x1024 ![0] bcast_S8208_S8208x1024_0 (Host.reduceAdd (Host.divf (mulf
    (shapeCast S8208x1 (Host.reduceAdd (mulf h (ct h g t)) (constant S_ .f32 0x00000000#32) reducesTo_S8208x1024_S8208_d1 h_S_) shapeCasts_S8208_S8208x1)
    (mulf (broadcastInDim S8208x1 ![] bcast_S_S8208x1 (constant S_ .f32 0xBF000000#32)) (Host.divf (Host.rsqrt (vr h)) (vr h))))
    (broadcastInDim S8208x1 ![] bcast_S_S8208x1 (constant S_ .f32 0x44800000#32))) (constant S_ .f32 0x00000000#32) reducesTo_S8208x1_S8208_d1 h_S_)

/-- The gradient at the step's output. -/
def dh (h : FVec F S8208x1024 .f32) (g : FVec F S1024 .f32) (t : FVec F S8192x1024 .f32) : FVec F S8208x1024 .f32 :=
  addf (addf (mulf (ct h g t) (broadcastInDim S8208x1024 ![0, 1] bcast_S8208x1_S8208x1024_0_1 (Host.rsqrt (vr h)))) (mulf h (kr h g t))) (mulf (kr h g t) h)

/-- The forward call's operations. -/
abbrev ops1 : List (HloOp τ sig (Elt F)) :=
  [ binary main_arg1 main_arg2 main_v0 ((fun l r => Host.dotGeneral dot_S8208x1024_S1024x1024_S8208x1024_1_0_0_1_n_n none l r) : (⟨S8208x1024, .f32⟩ : BufTy).Contents (Elt F) → (⟨S1024x1024, .f32⟩ : BufTy).Contents (Elt F) → (⟨S8208x1024, .f32⟩ : BufTy).Contents (Elt F)),
    binary main_arg0 main_v0 main_v1 (addf : (⟨S8208x1024, .f32⟩ : BufTy).Contents (Elt F) → (⟨S8208x1024, .f32⟩ : BufTy).Contents (Elt F) → (⟨S8208x1024, .f32⟩ : BufTy).Contents (Elt F)),
    binary main_v1 main_v1 main_v2 (mulf : (⟨S8208x1024, .f32⟩ : BufTy).Contents (Elt F) → (⟨S8208x1024, .f32⟩ : BufTy).Contents (Elt F) → (⟨S8208x1024, .f32⟩ : BufTy).Contents (Elt F)),
    nullary main_cst (constant S_ .f32 0x00000000#32),
    binary main_v2 main_cst main_v3 ((fun x v => Host.reduceAdd x v reducesTo_S8208x1024_S8208_d1 h_S_) : (⟨S8208x1024, .f32⟩ : BufTy).Contents (Elt F) → (⟨S_, .f32⟩ : BufTy).Contents (Elt F) → (⟨S8208, .f32⟩ : BufTy).Contents (Elt F)),
    unary main_v3 main_v4 (broadcastInDim S8208x1 ![0] bcast_S8208_S8208x1_0 : (⟨S8208, .f32⟩ : BufTy).Contents (Elt F) → (⟨S8208x1, .f32⟩ : BufTy).Contents (Elt F)),
    nullary main_cst_0 (constant S_ .f32 0x44800000#32),
    unary main_cst_0 main_v5 (broadcastInDim S8208x1 ![] bcast_S_S8208x1 : (⟨S_, .f32⟩ : BufTy).Contents (Elt F) → (⟨S8208x1, .f32⟩ : BufTy).Contents (Elt F)),
    binary main_v4 main_v5 main_v6 (Host.divf : (⟨S8208x1, .f32⟩ : BufTy).Contents (Elt F) → (⟨S8208x1, .f32⟩ : BufTy).Contents (Elt F) → (⟨S8208x1, .f32⟩ : BufTy).Contents (Elt F)),
    nullary main_cst_1 (constant S_ .f32 0x358637BD#32),
    unary main_cst_1 main_v7 (broadcastInDim S8208x1 ![] bcast_S_S8208x1 : (⟨S_, .f32⟩ : BufTy).Contents (Elt F) → (⟨S8208x1, .f32⟩ : BufTy).Contents (Elt F)),
    binary main_v6 main_v7 main_v8 (addf : (⟨S8208x1, .f32⟩ : BufTy).Contents (Elt F) → (⟨S8208x1, .f32⟩ : BufTy).Contents (Elt F) → (⟨S8208x1, .f32⟩ : BufTy).Contents (Elt F)),
    unary main_v8 main_v9 (Host.rsqrt : (⟨S8208x1, .f32⟩ : BufTy).Contents (Elt F) → (⟨S8208x1, .f32⟩ : BufTy).Contents (Elt F)),
    unary main_v9 main_v10 (broadcastInDim S8208x1024 ![0, 1] bcast_S8208x1_S8208x1024_0_1 : (⟨S8208x1, .f32⟩ : BufTy).Contents (Elt F) → (⟨S8208x1024, .f32⟩ : BufTy).Contents (Elt F)),
    binary main_v1 main_v10 main_v11 (mulf : (⟨S8208x1024, .f32⟩ : BufTy).Contents (Elt F) → (⟨S8208x1024, .f32⟩ : BufTy).Contents (Elt F) → (⟨S8208x1024, .f32⟩ : BufTy).Contents (Elt F)),
    unary main_arg3 main_v12 (broadcastInDim S1x1024 ![1] bcast_S1024_S1x1024_1 : (⟨S1024, .f32⟩ : BufTy).Contents (Elt F) → (⟨S1x1024, .f32⟩ : BufTy).Contents (Elt F)),
    unary main_v12 main_v13 (broadcastInDim S8208x1024 ![0, 1] bcast_S1x1024_S8208x1024_0_1 : (⟨S1x1024, .f32⟩ : BufTy).Contents (Elt F) → (⟨S8208x1024, .f32⟩ : BufTy).Contents (Elt F)),
    binary main_v11 main_v13 main_v14 (mulf : (⟨S8208x1024, .f32⟩ : BufTy).Contents (Elt F) → (⟨S8208x1024, .f32⟩ : BufTy).Contents (Elt F) → (⟨S8208x1024, .f32⟩ : BufTy).Contents (Elt F)),
    binary main_v14 main_arg4 main_v15 ((fun l r => Host.dotGeneral dot_S8208x1024_S1024x4096_S8208x4096_1_0_0_1_n_n none l r) : (⟨S8208x1024, .f32⟩ : BufTy).Contents (Elt F) → (⟨S1024x4096, .f32⟩ : BufTy).Contents (Elt F) → (⟨S8208x4096, .f32⟩ : BufTy).Contents (Elt F)),
    unary main_v15 main_v16 ((truncf .bf16 · bitsLt_bf16_f32) : (⟨S8208x4096, .f32⟩ : BufTy).Contents (Elt F) → (⟨S8208x4096, .bf16⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8208x4096, .f32⟩) main_call0_v0) (broadcastInDim S8208x4096 ![] bcast_S_S8208x4096),
    TRef.binary (TRef.of (T := ⟨S8208x4096, .f32⟩) main_v15) (TRef.of (T := ⟨S8208x4096, .f32⟩) main_call0_v0) (TRef.of (T := ⟨S8208x4096, .f32⟩) main_v17) maximumf,
    binary main_v17 main_v17 main_v18 (mulf : (⟨S8208x4096, .f32⟩ : BufTy).Contents (Elt F) → (⟨S8208x4096, .f32⟩ : BufTy).Contents (Elt F) → (⟨S8208x4096, .f32⟩ : BufTy).Contents (Elt F)),
    binary main_v18 main_arg5 main_v19 ((fun l r => Host.dotGeneral dot_S8208x4096_S4096x1024_S8208x1024_1_0_0_1_n_n none l r) : (⟨S8208x4096, .f32⟩ : BufTy).Contents (Elt F) → (⟨S4096x1024, .f32⟩ : BufTy).Contents (Elt F) → (⟨S8208x1024, .f32⟩ : BufTy).Contents (Elt F)),
    binary main_v1 main_v19 main_v20 (addf : (⟨S8208x1024, .f32⟩ : BufTy).Contents (Elt F) → (⟨S8208x1024, .f32⟩ : BufTy).Contents (Elt F) → (⟨S8208x1024, .f32⟩ : BufTy).Contents (Elt F)) ]

/-- The loss head's operations and their derivative's. -/
abbrev ops2 : List (HloOp τ sig (Elt F)) :=
  [ binary main_v20 main_v20 main_v21 (mulf : (⟨S8208x1024, .f32⟩ : BufTy).Contents (Elt F) → (⟨S8208x1024, .f32⟩ : BufTy).Contents (Elt F) → (⟨S8208x1024, .f32⟩ : BufTy).Contents (Elt F)),
    nullary main_cst_2 (constant S_ .f32 0x00000000#32),
    binary main_v21 main_cst_2 main_v22 ((fun x v => Host.reduceAdd x v reducesTo_S8208x1024_S8208_d1 h_S_) : (⟨S8208x1024, .f32⟩ : BufTy).Contents (Elt F) → (⟨S_, .f32⟩ : BufTy).Contents (Elt F) → (⟨S8208, .f32⟩ : BufTy).Contents (Elt F)),
    unary main_v22 main_v23 (broadcastInDim S8208x1 ![0] bcast_S8208_S8208x1_0 : (⟨S8208, .f32⟩ : BufTy).Contents (Elt F) → (⟨S8208x1, .f32⟩ : BufTy).Contents (Elt F)),
    nullary main_cst_3 (constant S_ .f32 0x44800000#32),
    unary main_cst_3 main_v24 (broadcastInDim S8208x1 ![] bcast_S_S8208x1 : (⟨S_, .f32⟩ : BufTy).Contents (Elt F) → (⟨S8208x1, .f32⟩ : BufTy).Contents (Elt F)),
    binary main_v23 main_v24 main_v25 (Host.divf : (⟨S8208x1, .f32⟩ : BufTy).Contents (Elt F) → (⟨S8208x1, .f32⟩ : BufTy).Contents (Elt F) → (⟨S8208x1, .f32⟩ : BufTy).Contents (Elt F)),
    nullary main_cst_4 (constant S_ .f32 0x358637BD#32),
    unary main_cst_4 main_v26 (broadcastInDim S8208x1 ![] bcast_S_S8208x1 : (⟨S_, .f32⟩ : BufTy).Contents (Elt F) → (⟨S8208x1, .f32⟩ : BufTy).Contents (Elt F)),
    binary main_v25 main_v26 main_v27 (addf : (⟨S8208x1, .f32⟩ : BufTy).Contents (Elt F) → (⟨S8208x1, .f32⟩ : BufTy).Contents (Elt F) → (⟨S8208x1, .f32⟩ : BufTy).Contents (Elt F)),
    unary main_v27 main_v28 (Host.rsqrt : (⟨S8208x1, .f32⟩ : BufTy).Contents (Elt F) → (⟨S8208x1, .f32⟩ : BufTy).Contents (Elt F)),
    binary main_v28 main_v27 main_v29 (Host.divf : (⟨S8208x1, .f32⟩ : BufTy).Contents (Elt F) → (⟨S8208x1, .f32⟩ : BufTy).Contents (Elt F) → (⟨S8208x1, .f32⟩ : BufTy).Contents (Elt F)),
    nullary main_cst_5 (constant S_ .f32 0xBF000000#32),
    unary main_cst_5 main_v30 (broadcastInDim S8208x1 ![] bcast_S_S8208x1 : (⟨S_, .f32⟩ : BufTy).Contents (Elt F) → (⟨S8208x1, .f32⟩ : BufTy).Contents (Elt F)),
    binary main_v30 main_v29 main_v31 (mulf : (⟨S8208x1, .f32⟩ : BufTy).Contents (Elt F) → (⟨S8208x1, .f32⟩ : BufTy).Contents (Elt F) → (⟨S8208x1, .f32⟩ : BufTy).Contents (Elt F)),
    unary main_v28 main_v32 (broadcastInDim S8208x1024 ![0, 1] bcast_S8208x1_S8208x1024_0_1 : (⟨S8208x1, .f32⟩ : BufTy).Contents (Elt F) → (⟨S8208x1024, .f32⟩ : BufTy).Contents (Elt F)),
    binary main_v20 main_v32 main_v33 (mulf : (⟨S8208x1024, .f32⟩ : BufTy).Contents (Elt F) → (⟨S8208x1024, .f32⟩ : BufTy).Contents (Elt F) → (⟨S8208x1024, .f32⟩ : BufTy).Contents (Elt F)),
    unary main_arg6 main_v34 (broadcastInDim S1x1024 ![1] bcast_S1024_S1x1024_1 : (⟨S1024, .f32⟩ : BufTy).Contents (Elt F) → (⟨S1x1024, .f32⟩ : BufTy).Contents (Elt F)),
    unary main_v34 main_v35 (broadcastInDim S8208x1024 ![0, 1] bcast_S1x1024_S8208x1024_0_1 : (⟨S1x1024, .f32⟩ : BufTy).Contents (Elt F) → (⟨S8208x1024, .f32⟩ : BufTy).Contents (Elt F)),
    binary main_v33 main_v35 main_v36 (mulf : (⟨S8208x1024, .f32⟩ : BufTy).Contents (Elt F) → (⟨S8208x1024, .f32⟩ : BufTy).Contents (Elt F) → (⟨S8208x1024, .f32⟩ : BufTy).Contents (Elt F)),
    unary main_v36 main_v37 ((extractStridedSlice S8192x1024 ![16, 0] · slices_S8208x1024_S8192x1024_16_0) : (⟨S8208x1024, .f32⟩ : BufTy).Contents (Elt F) → (⟨S8192x1024, .f32⟩ : BufTy).Contents (Elt F)),
    binary main_v37 main_arg7 main_v38 (subf : (⟨S8192x1024, .f32⟩ : BufTy).Contents (Elt F) → (⟨S8192x1024, .f32⟩ : BufTy).Contents (Elt F) → (⟨S8192x1024, .f32⟩ : BufTy).Contents (Elt F)),
    binary main_v38 main_v38 main_v39 (mulf : (⟨S8192x1024, .f32⟩ : BufTy).Contents (Elt F) → (⟨S8192x1024, .f32⟩ : BufTy).Contents (Elt F) → (⟨S8192x1024, .f32⟩ : BufTy).Contents (Elt F)),
    nullary main_cst_6 (constant S_ .f32 0x40000000#32),
    unary main_cst_6 main_v40 (broadcastInDim S8192x1024 ![] bcast_S_S8192x1024 : (⟨S_, .f32⟩ : BufTy).Contents (Elt F) → (⟨S8192x1024, .f32⟩ : BufTy).Contents (Elt F)),
    binary main_v40 main_v38 main_v41 (mulf : (⟨S8192x1024, .f32⟩ : BufTy).Contents (Elt F) → (⟨S8192x1024, .f32⟩ : BufTy).Contents (Elt F) → (⟨S8192x1024, .f32⟩ : BufTy).Contents (Elt F)),
    nullary main_cst_7 (constant S_ .f32 0x00000000#32),
    binary main_v39 main_cst_7 main_v42 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    nullary main_cst_8 (constant S_ .f32 0x44800000#32),
    unary main_cst_8 main_v43 (broadcastInDim S8192 ![] bcast_S_S8192 : (⟨S_, .f32⟩ : BufTy).Contents (Elt F) → (⟨S8192, .f32⟩ : BufTy).Contents (Elt F)),
    binary main_v42 main_v43 main_v44 (Host.divf : (⟨S8192, .f32⟩ : BufTy).Contents (Elt F) → (⟨S8192, .f32⟩ : BufTy).Contents (Elt F) → (⟨S8192, .f32⟩ : BufTy).Contents (Elt F)),
    nullary main_cst_9 (constant S_ .f32 0x00000000#32),
    binary main_v44 main_cst_9 main_v45 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_10 (constant S_ .f32 0x3F000000#32),
    binary main_cst_10 main_v45 main_v46 (mulf : (⟨S_, .f32⟩ : BufTy).Contents (Elt F) → (⟨S_, .f32⟩ : BufTy).Contents (Elt F) → (⟨S_, .f32⟩ : BufTy).Contents (Elt F)),
    nullary main_cst_11 (constant S_ .f32 0x3F000000#32),
    nullary main_cst_12 (constant S_ .f32 0x3F800000#32),
    binary main_cst_11 main_cst_12 main_v47 (mulf : (⟨S_, .f32⟩ : BufTy).Contents (Elt F) → (⟨S_, .f32⟩ : BufTy).Contents (Elt F) → (⟨S_, .f32⟩ : BufTy).Contents (Elt F)),
    unary main_v47 main_v48 (broadcastInDim S8192 ![] bcast_S_S8192 : (⟨S_, .f32⟩ : BufTy).Contents (Elt F) → (⟨S8192, .f32⟩ : BufTy).Contents (Elt F)),
    nullary main_cst_13 (constant S_ .f32 0x44800000#32),
    unary main_cst_13 main_v49 (broadcastInDim S8192 ![] bcast_S_S8192 : (⟨S_, .f32⟩ : BufTy).Contents (Elt F) → (⟨S8192, .f32⟩ : BufTy).Contents (Elt F)),
    binary main_v48 main_v49 main_v50 (Host.divf : (⟨S8192, .f32⟩ : BufTy).Contents (Elt F) → (⟨S8192, .f32⟩ : BufTy).Contents (Elt F) → (⟨S8192, .f32⟩ : BufTy).Contents (Elt F)),
    unary main_v50 main_v51 (broadcastInDim S8192x1024 ![0] bcast_S8192_S8192x1024_0 : (⟨S8192, .f32⟩ : BufTy).Contents (Elt F) → (⟨S8192x1024, .f32⟩ : BufTy).Contents (Elt F)),
    binary main_v51 main_v41 main_v52 (mulf : (⟨S8192x1024, .f32⟩ : BufTy).Contents (Elt F) → (⟨S8192x1024, .f32⟩ : BufTy).Contents (Elt F) → (⟨S8192x1024, .f32⟩ : BufTy).Contents (Elt F)),
    nullary main_cst_14 (constant S_ .f32 0x00000000#32),
    binary main_v52 main_cst_14 main_v53 ((fun x v => pad S8208x1024 ![16, 0] ![0, 0] ![0, 0] x v pads_S8192x1024_S8208x1024_1600_000 h_S_) : (⟨S8192x1024, .f32⟩ : BufTy).Contents (Elt F) → (⟨S_, .f32⟩ : BufTy).Contents (Elt F) → (⟨S8208x1024, .f32⟩ : BufTy).Contents (Elt F)),
    binary main_v33 main_v53 main_v54 (mulf : (⟨S8208x1024, .f32⟩ : BufTy).Contents (Elt F) → (⟨S8208x1024, .f32⟩ : BufTy).Contents (Elt F) → (⟨S8208x1024, .f32⟩ : BufTy).Contents (Elt F)),
    nullary main_cst_15 (constant S_ .f32 0x00000000#32),
    binary main_v54 main_cst_15 main_v55 ((fun x v => Host.reduceAdd x v reducesTo_S8208x1024_S1024_d0 h_S_) : (⟨S8208x1024, .f32⟩ : BufTy).Contents (Elt F) → (⟨S_, .f32⟩ : BufTy).Contents (Elt F) → (⟨S1024, .f32⟩ : BufTy).Contents (Elt F)),
    reshape main_v55 main_v56 (rfl : (.f32 : EltTy) = .f32) shapeCasts_S1024_S1x1024,
    unary main_v34 main_v57 (broadcastInDim S8208x1024 ![0, 1] bcast_S1x1024_S8208x1024_0_1 : (⟨S1x1024, .f32⟩ : BufTy).Contents (Elt F) → (⟨S8208x1024, .f32⟩ : BufTy).Contents (Elt F)),
    binary main_v53 main_v57 main_v58 (mulf : (⟨S8208x1024, .f32⟩ : BufTy).Contents (Elt F) → (⟨S8208x1024, .f32⟩ : BufTy).Contents (Elt F) → (⟨S8208x1024, .f32⟩ : BufTy).Contents (Elt F)),
    nullary main_cst_16 (constant S_ .f32 0x00000000#32),
    binary main_v56 main_cst_16 main_v59 ((fun x v => Host.reduceAdd x v reducesTo_S1x1024_S1024_d0 h_S_) : (⟨S1x1024, .f32⟩ : BufTy).Contents (Elt F) → (⟨S_, .f32⟩ : BufTy).Contents (Elt F) → (⟨S1024, .f32⟩ : BufTy).Contents (Elt F)),
    binary main_v20 main_v58 main_v60 (mulf : (⟨S8208x1024, .f32⟩ : BufTy).Contents (Elt F) → (⟨S8208x1024, .f32⟩ : BufTy).Contents (Elt F) → (⟨S8208x1024, .f32⟩ : BufTy).Contents (Elt F)),
    nullary main_cst_17 (constant S_ .f32 0x00000000#32),
    binary main_v60 main_cst_17 main_v61 ((fun x v => Host.reduceAdd x v reducesTo_S8208x1024_S8208_d1 h_S_) : (⟨S8208x1024, .f32⟩ : BufTy).Contents (Elt F) → (⟨S_, .f32⟩ : BufTy).Contents (Elt F) → (⟨S8208, .f32⟩ : BufTy).Contents (Elt F)),
    reshape main_v61 main_v62 (rfl : (.f32 : EltTy) = .f32) shapeCasts_S8208_S8208x1,
    unary main_v28 main_v63 (broadcastInDim S8208x1024 ![0, 1] bcast_S8208x1_S8208x1024_0_1 : (⟨S8208x1, .f32⟩ : BufTy).Contents (Elt F) → (⟨S8208x1024, .f32⟩ : BufTy).Contents (Elt F)),
    binary main_v58 main_v63 main_v64 (mulf : (⟨S8208x1024, .f32⟩ : BufTy).Contents (Elt F) → (⟨S8208x1024, .f32⟩ : BufTy).Contents (Elt F) → (⟨S8208x1024, .f32⟩ : BufTy).Contents (Elt F)),
    binary main_v62 main_v31 main_v65 (mulf : (⟨S8208x1, .f32⟩ : BufTy).Contents (Elt F) → (⟨S8208x1, .f32⟩ : BufTy).Contents (Elt F) → (⟨S8208x1, .f32⟩ : BufTy).Contents (Elt F)),
    nullary main_cst_18 (constant S_ .f32 0x44800000#32),
    unary main_cst_18 main_v66 (broadcastInDim S8208x1 ![] bcast_S_S8208x1 : (⟨S_, .f32⟩ : BufTy).Contents (Elt F) → (⟨S8208x1, .f32⟩ : BufTy).Contents (Elt F)),
    binary main_v65 main_v66 main_v67 (Host.divf : (⟨S8208x1, .f32⟩ : BufTy).Contents (Elt F) → (⟨S8208x1, .f32⟩ : BufTy).Contents (Elt F) → (⟨S8208x1, .f32⟩ : BufTy).Contents (Elt F)),
    nullary main_cst_19 (constant S_ .f32 0x00000000#32),
    binary main_v67 main_cst_19 main_v68 ((fun x v => Host.reduceAdd x v reducesTo_S8208x1_S8208_d1 h_S_) : (⟨S8208x1, .f32⟩ : BufTy).Contents (Elt F) → (⟨S_, .f32⟩ : BufTy).Contents (Elt F) → (⟨S8208, .f32⟩ : BufTy).Contents (Elt F)),
    unary main_v68 main_v69 (broadcastInDim S8208x1024 ![0] bcast_S8208_S8208x1024_0 : (⟨S8208, .f32⟩ : BufTy).Contents (Elt F) → (⟨S8208x1024, .f32⟩ : BufTy).Contents (Elt F)),
    binary main_v20 main_v69 main_v70 (mulf : (⟨S8208x1024, .f32⟩ : BufTy).Contents (Elt F) → (⟨S8208x1024, .f32⟩ : BufTy).Contents (Elt F) → (⟨S8208x1024, .f32⟩ : BufTy).Contents (Elt F)),
    binary main_v64 main_v70 main_v71 (addf : (⟨S8208x1024, .f32⟩ : BufTy).Contents (Elt F) → (⟨S8208x1024, .f32⟩ : BufTy).Contents (Elt F) → (⟨S8208x1024, .f32⟩ : BufTy).Contents (Elt F)),
    binary main_v69 main_v20 main_v72 (mulf : (⟨S8208x1024, .f32⟩ : BufTy).Contents (Elt F) → (⟨S8208x1024, .f32⟩ : BufTy).Contents (Elt F) → (⟨S8208x1024, .f32⟩ : BufTy).Contents (Elt F)),
    binary main_v71 main_v72 main_v73 (addf : (⟨S8208x1024, .f32⟩ : BufTy).Contents (Elt F) → (⟨S8208x1024, .f32⟩ : BufTy).Contents (Elt F) → (⟨S8208x1024, .f32⟩ : BufTy).Contents (Elt F)),
    unary main_v59 main_v74 (broadcastInDim S1x1024 ![1] bcast_S1024_S1x1024_1 : (⟨S1024, .f32⟩ : BufTy).Contents (Elt F) → (⟨S1x1024, .f32⟩ : BufTy).Contents (Elt F)),
    unary main_v46 main_v75 (broadcastInDim S1x1 ![] bcast_S_S1x1 : (⟨S_, .f32⟩ : BufTy).Contents (Elt F) → (⟨S1x1, .f32⟩ : BufTy).Contents (Elt F)) ]

set_option maxHeartbeats 4000000 in
theorem main_eq (c : Dev nD) : main (F := F) c = seq (ops1 ++ ops2) := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops1 ++ ops2 : List (HloOp τ sig (Elt F))).Forall fun op => op.bufs ⊆ tcRefs τ sig :=
  ⟨binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., nullary_bufs_sub .., unary_bufs_sub .., binary_bufs_sub .., binary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub .., nullary_bufs_sub .., binary_bufs_sub .., nullary_bufs_sub .., unary_bufs_sub .., binary_bufs_sub .., nullary_bufs_sub .., binary_bufs_sub .., nullary_bufs_sub .., binary_bufs_sub .., nullary_bufs_sub .., nullary_bufs_sub .., binary_bufs_sub .., unary_bufs_sub .., nullary_bufs_sub .., unary_bufs_sub .., binary_bufs_sub .., unary_bufs_sub .., binary_bufs_sub .., nullary_bufs_sub .., binary_bufs_sub .., binary_bufs_sub .., nullary_bufs_sub .., binary_bufs_sub .., reshape_bufs_sub .., unary_bufs_sub .., binary_bufs_sub .., nullary_bufs_sub .., binary_bufs_sub .., binary_bufs_sub .., nullary_bufs_sub .., binary_bufs_sub .., reshape_bufs_sub .., unary_bufs_sub .., binary_bufs_sub .., binary_bufs_sub .., nullary_bufs_sub .., unary_bufs_sub .., binary_bufs_sub .., nullary_bufs_sub .., binary_bufs_sub .., unary_bufs_sub .., binary_bufs_sub .., binary_bufs_sub .., binary_bufs_sub .., binary_bufs_sub .., unary_bufs_sub .., unary_bufs_sub ..⟩

section part1

variable (V : Valuation τ sig (Elt F))

theorem p1_v1 : after ops1 V (Proc.devRef .tc main_v1) = Cert.Reference5Ideal.Read.val_main_v1 (F := F) (V (Proc.devRef .tc main_arg0)) (V (Proc.devRef .tc main_arg1)) (V (Proc.devRef .tc main_arg2)) := by
  simp only [ops1, TRef.binary, TRef.nullary, TRef.unary, TRef.toBuf, TRef.ofBuf, cast_eq]; after_results_simp <;> rfl
theorem p1_v16 : after ops1 V (Proc.devRef .tc main_v16) = Cert.Reference5Ideal.Read.val_main_v16 (F := F) (V (Proc.devRef .tc main_arg0)) (V (Proc.devRef .tc main_arg1)) (V (Proc.devRef .tc main_arg2)) (V (Proc.devRef .tc main_arg3)) (V (Proc.devRef .tc main_arg4)) := by
  simp only [ops1, TRef.binary, TRef.nullary, TRef.unary, TRef.toBuf, TRef.ofBuf, cast_eq]; after_results_simp <;> rfl
theorem p1_v20 : after ops1 V (Proc.devRef .tc main_v20) = Cert.Reference5Ideal.Read.val_main_v20 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  simp only [ops1, TRef.binary, TRef.nullary, TRef.unary, TRef.toBuf, TRef.ofBuf, cast_eq]; after_results_simp <;> rfl
theorem p1_arg0 : after ops1 V (Proc.devRef .tc main_arg0) = V (Proc.devRef .tc main_arg0) := by
  simp only [ops1, TRef.binary, TRef.nullary, TRef.unary, TRef.toBuf, TRef.ofBuf, cast_eq]; after_results_simp <;> rfl
theorem p1_arg1 : after ops1 V (Proc.devRef .tc main_arg1) = V (Proc.devRef .tc main_arg1) := by
  simp only [ops1, TRef.binary, TRef.nullary, TRef.unary, TRef.toBuf, TRef.ofBuf, cast_eq]; after_results_simp <;> rfl
theorem p1_arg2 : after ops1 V (Proc.devRef .tc main_arg2) = V (Proc.devRef .tc main_arg2) := by
  simp only [ops1, TRef.binary, TRef.nullary, TRef.unary, TRef.toBuf, TRef.ofBuf, cast_eq]; after_results_simp <;> rfl
theorem p1_arg3 : after ops1 V (Proc.devRef .tc main_arg3) = V (Proc.devRef .tc main_arg3) := by
  simp only [ops1, TRef.binary, TRef.nullary, TRef.unary, TRef.toBuf, TRef.ofBuf, cast_eq]; after_results_simp <;> rfl
theorem p1_arg4 : after ops1 V (Proc.devRef .tc main_arg4) = V (Proc.devRef .tc main_arg4) := by
  simp only [ops1, TRef.binary, TRef.nullary, TRef.unary, TRef.toBuf, TRef.ofBuf, cast_eq]; after_results_simp <;> rfl
theorem p1_arg5 : after ops1 V (Proc.devRef .tc main_arg5) = V (Proc.devRef .tc main_arg5) := by
  simp only [ops1, TRef.binary, TRef.nullary, TRef.unary, TRef.toBuf, TRef.ofBuf, cast_eq]; after_results_simp <;> rfl
theorem p1_arg6 : after ops1 V (Proc.devRef .tc main_arg6) = V (Proc.devRef .tc main_arg6) := by
  simp only [ops1, TRef.binary, TRef.nullary, TRef.unary, TRef.toBuf, TRef.ofBuf, cast_eq]; after_results_simp <;> rfl
theorem p1_arg7 : after ops1 V (Proc.devRef .tc main_arg7) = V (Proc.devRef .tc main_arg7) := by
  simp only [ops1, TRef.binary, TRef.nullary, TRef.unary, TRef.toBuf, TRef.ofBuf, cast_eq]; after_results_simp <;> rfl
theorem p2_v1 : after ops2 V (Proc.devRef .tc main_v1) = V (Proc.devRef .tc main_v1) := by
  simp only [ops2, TRef.binary, TRef.nullary, TRef.unary, TRef.toBuf, TRef.ofBuf, cast_eq]; after_results_simp <;> rfl
theorem p2_v16 : after ops2 V (Proc.devRef .tc main_v16) = V (Proc.devRef .tc main_v16) := by
  simp only [ops2, TRef.binary, TRef.nullary, TRef.unary, TRef.toBuf, TRef.ofBuf, cast_eq]; after_results_simp <;> rfl
theorem p2_arg0 : after ops2 V (Proc.devRef .tc main_arg0) = V (Proc.devRef .tc main_arg0) := by
  simp only [ops2, TRef.binary, TRef.nullary, TRef.unary, TRef.toBuf, TRef.ofBuf, cast_eq]; after_results_simp <;> rfl
theorem p2_arg1 : after ops2 V (Proc.devRef .tc main_arg1) = V (Proc.devRef .tc main_arg1) := by
  simp only [ops2, TRef.binary, TRef.nullary, TRef.unary, TRef.toBuf, TRef.ofBuf, cast_eq]; after_results_simp <;> rfl
theorem p2_arg2 : after ops2 V (Proc.devRef .tc main_arg2) = V (Proc.devRef .tc main_arg2) := by
  simp only [ops2, TRef.binary, TRef.nullary, TRef.unary, TRef.toBuf, TRef.ofBuf, cast_eq]; after_results_simp <;> rfl
theorem p2_arg3 : after ops2 V (Proc.devRef .tc main_arg3) = V (Proc.devRef .tc main_arg3) := by
  simp only [ops2, TRef.binary, TRef.nullary, TRef.unary, TRef.toBuf, TRef.ofBuf, cast_eq]; after_results_simp <;> rfl
theorem p2_arg4 : after ops2 V (Proc.devRef .tc main_arg4) = V (Proc.devRef .tc main_arg4) := by
  simp only [ops2, TRef.binary, TRef.nullary, TRef.unary, TRef.toBuf, TRef.ofBuf, cast_eq]; after_results_simp <;> rfl
theorem p2_arg5 : after ops2 V (Proc.devRef .tc main_arg5) = V (Proc.devRef .tc main_arg5) := by
  simp only [ops2, TRef.binary, TRef.nullary, TRef.unary, TRef.toBuf, TRef.ofBuf, cast_eq]; after_results_simp <;> rfl
theorem p2_arg6 : after ops2 V (Proc.devRef .tc main_arg6) = V (Proc.devRef .tc main_arg6) := by
  simp only [ops2, TRef.binary, TRef.nullary, TRef.unary, TRef.toBuf, TRef.ofBuf, cast_eq]; after_results_simp <;> rfl
theorem p2_arg7 : after ops2 V (Proc.devRef .tc main_arg7) = V (Proc.devRef .tc main_arg7) := by
  simp only [ops2, TRef.binary, TRef.nullary, TRef.unary, TRef.toBuf, TRef.ofBuf, cast_eq]; after_results_simp <;> rfl
theorem p2_v73 : after ops2 V (Proc.devRef .tc main_v73) = dh (V (Proc.devRef .tc main_v20)) (V (Proc.devRef .tc main_arg6)) (V (Proc.devRef .tc main_arg7)) := by
  simp only [ops2, TRef.binary, TRef.nullary, TRef.unary, TRef.toBuf, TRef.ofBuf, cast_eq]; after_results_simp <;> rfl
theorem p2_v74 : after ops2 V (Proc.devRef .tc main_v74) = dgf (V (Proc.devRef .tc main_v20)) (V (Proc.devRef .tc main_arg6)) (V (Proc.devRef .tc main_arg7)) := by
  simp only [ops2, TRef.binary, TRef.nullary, TRef.unary, TRef.toBuf, TRef.ofBuf, cast_eq]; after_results_simp <;> rfl
theorem p2_v75 : after ops2 V (Proc.devRef .tc main_v75) = loss (V (Proc.devRef .tc main_v20)) (V (Proc.devRef .tc main_arg6)) (V (Proc.devRef .tc main_arg7)) := by
  simp only [ops2, TRef.binary, TRef.nullary, TRef.unary, TRef.toBuf, TRef.ofBuf, cast_eq]; after_results_simp <;> rfl

end part1

set_option maxHeartbeats 4000000 in
/-- The reference ends with these results, its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1) = Cert.Reference5Ideal.Read.val_main_v1 (F := F) (m ((c.tc : Thread nD τ).loc main_arg0)) (m ((c.tc : Thread nD τ).loc main_arg1)) (m ((c.tc : Thread nD τ).loc main_arg2))
      ∧ r.2.mem ((c.tc : Thread nD τ).loc main_v16) = Cert.Reference5Ideal.Read.val_main_v16 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v73) = dh (Cert.Reference5Ideal.Read.val_main_v20 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6)) (m ((c.tc : Thread nD τ).loc main_arg7))
      ∧ r.2.mem ((c.tc : Thread nD τ).loc main_v74) = dgf (Cert.Reference5Ideal.Read.val_main_v20 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6)) (m ((c.tc : Thread nD τ).loc main_arg7))
      ∧ r.2.mem ((c.tc : Thread nD τ).loc main_v75) = loss (Cert.Reference5Ideal.Read.val_main_v20 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v1).trans (by rw [after_append, p2_v1, p1_v1]),
      (h c main_v16).trans (by rw [after_append, p2_v16, p1_v16]),
      (h c main_v73).trans (by rw [after_append, p2_v73, p1_v20, p1_arg6, p1_arg7]),
      (h c main_v74).trans (by rw [after_append, p2_v74, p1_v20, p1_arg6, p1_arg7]),
      (h c main_v75).trans (by rw [after_append, p2_v75, p1_v20, p1_arg6, p1_arg7]),
      (h c main_arg0).trans (by rw [after_append, p2_arg0, p1_arg0]),
      (h c main_arg1).trans (by rw [after_append, p2_arg1, p1_arg1]),
      (h c main_arg2).trans (by rw [after_append, p2_arg2, p1_arg2]),
      (h c main_arg3).trans (by rw [after_append, p2_arg3, p1_arg3]),
      (h c main_arg4).trans (by rw [after_append, p2_arg4, p1_arg4]),
      (h c main_arg5).trans (by rw [after_append, p2_arg5, p1_arg5]),
      (h c main_arg6).trans (by rw [after_append, p2_arg6, p1_arg6]),
      (h c main_arg7).trans (by rw [after_append, p2_arg7, p1_arg7])⟩)
    (run_seq scopedRefs_eq scopedSems_eq defs main (fun _ => ops1 ++ ops2) main_eq (fun _ => ops_sub) m ρ)

end Cert.Proof.LossRef

end
-- ==== Proof.Rms.lean ====
/-
  The arithmetic of the rms norm's backward pass on one row, over the extended reals. The kernel multiplies the
  bracketed difference by the row's reciprocal root; the reference differentiates the quotient step by step. Both are
  the same number for every input, because the reciprocal root is always a finite number that is not negative.
-/
module

public import Idealize.ShloMosaic.Lib.Claim
public import Idealize.ShloMosaic.Lib.Pipeline.ValueKit

@[expose] public section

noncomputable section

namespace Cert.Proof.Rms

open Idealize.ShloMosaic
open scoped BigOperators

/-- The float word of two is two. -/
theorem two_word : Ideal.ofBits FTy.f32 1073741824#32 = (2 : EReal) := by
  rw [show (2 : EReal) = ((2 : ℝ) : EReal) by norm_cast]
  simp [Ideal.ofBits, Ideal.ieee, -EReal.coe_mul]; norm_num

/-- The float word of minus one half. -/
theorem neg_half_word : Ideal.ofBits FTy.f32 0xBF000000#32 = ((-(1 / 2) : ℝ) : EReal) := by
  simp [Ideal.ofBits, Ideal.ieee, -EReal.coe_mul, -EReal.coe_neg]; norm_num

/-- The float word of 1024. -/
theorem width_word : Ideal.ofBits FTy.f32 0x44800000#32 = ((1024 : ℝ) : EReal) := by
  simp [Ideal.ofBits, Ideal.ieee, -EReal.coe_mul]; norm_num

/-- The norm's small constant, as its float word says it. -/
theorem eps_word : ∃ e : ℝ, 0 < e ∧ Ideal.ofBits FTy.f32 0x358637BD#32 = (e : EReal) := by
  refine ⟨8796093 * 2 ^ (-43 : ℤ), by positivity, ?_⟩
  simp [Ideal.ofBits, Ideal.ieee, -EReal.coe_mul]

/-- The mean square of a row plus the small constant. -/
def var (x : Fin 1024 → EReal) : EReal :=
  Ideal.div (∑ k, x k * x k) (Ideal.ofBits FTy.f32 0x44800000#32) + Ideal.ofBits FTy.f32 0x358637BD#32

/-- The reciprocal root of a row. -/
def root (x : Fin 1024 → EReal) : EReal := Ideal.rsqrt (var x)

theorem div_real (a : EReal) : Ideal.div a (Ideal.ofBits FTy.f32 0x44800000#32) = a * ((1 / 1024 : ℝ) : EReal) := by
  rw [width_word, Ideal.div, if_neg (by norm_cast)]
  rw [← EReal.coe_inv, one_div]

theorem var_pos (x : Fin 1024 → EReal) : 0 < var x := by
  obtain ⟨e, he, hw⟩ := eps_word
  rw [var, div_real, hw]
  have h : 0 ≤ (∑ k, x k * x k) * ((1 / 1024 : ℝ) : EReal) := by
    refine mul_nonneg (Finset.sum_nonneg fun k _ => ?_) (by norm_cast; norm_num)
    rcases le_total 0 (x k) with hk | hk
    · exact mul_nonneg hk hk
    · exact EReal.mul_nonneg_iff.mpr (Or.inr ⟨hk, hk⟩)
  calc (0 : EReal) < (e : EReal) := by exact_mod_cast he
    _ = 0 + (e : EReal) := (zero_add _).symm
    _ ≤ _ := by gcongr

/-- The reciprocal root is a finite number that is not negative, and its quotient by the mean square is its cube. -/
theorem root_real (x : Fin 1024 → EReal) : ∃ r : ℝ, 0 ≤ r ∧ root x = (r : EReal) ∧ Ideal.div (root x) (var x) = ((r * r * r : ℝ) : EReal) := by
  have hp := var_pos x
  unfold root
  generalize var x = v at hp ⊢
  induction v with
  | bot => exact absurd hp (by simp)
  | top => exact ⟨0, le_refl _, by simp, by simp [Ideal.div]⟩
  | coe v =>
    have hv : (0 : ℝ) < v := by exact_mod_cast hp
    have hs : 0 < Real.sqrt v := Real.sqrt_pos.mpr hv
    refine ⟨(Real.sqrt v)⁻¹, (inv_pos.mpr hs).le, ?_, ?_⟩
    · rw [Ideal.rsqrt_coe, if_neg (not_lt.mpr hv.le), if_neg hv.ne']
    · rw [Ideal.rsqrt_coe, if_neg (not_lt.mpr hv.le), if_neg hv.ne', Ideal.div, if_neg (by exact_mod_cast hv.ne'),
        ← EReal.coe_inv, ← EReal.coe_mul]
      congr 1
      have h2 : (Real.sqrt v)⁻¹ * (Real.sqrt v)⁻¹ = v⁻¹ := by rw [← mul_inv, Real.mul_self_sqrt hv.le]
      rw [mul_assoc, h2]

/-- A real number that is not negative distributes over a finite sum. -/
theorem real_mul_sum {n : ℕ} (r : ℝ) (hr : 0 ≤ r) (f : Fin n → EReal) : ∑ k, (r : EReal) * f k = (r : EReal) * ∑ k, f k := by
  classical
  induction (Finset.univ : Finset (Fin n)) using Finset.induction_on with
  | empty => simp
  | insert a s ha ih =>
    rw [Finset.sum_insert ha, Finset.sum_insert ha, ih,
      EReal.left_distrib_of_nonneg_of_ne_top (by exact_mod_cast hr) (EReal.coe_ne_top r)]

/-- The gradient through the rms norm at one entry: the kernel's form is the reference's. -/
theorem bwd (x ct : Fin 1024 → EReal) (d : EReal) (j : Fin 1024) :
    d + root x * (ct j - x j * root x * Ideal.div (∑ k, ct k * (x k * root x)) (Ideal.ofBits FTy.f32 0x44800000#32))
    = ((d + ct j * root x)
        + x j * Ideal.div ((∑ k, x k * ct k) * (Ideal.ofBits FTy.f32 0xBF000000#32 * Ideal.div (root x) (var x))) (Ideal.ofBits FTy.f32 0x44800000#32))
      + Ideal.div ((∑ k, x k * ct k) * (Ideal.ofBits FTy.f32 0xBF000000#32 * Ideal.div (root x) (var x))) (Ideal.ofBits FTy.f32 0x44800000#32) * x j := by
  obtain ⟨r, hr, h1, h2⟩ := root_real x
  rw [h2, h1, div_real, div_real, neg_half_word]
  have hs : (∑ k, ct k * (x k * (r : EReal))) = (r : EReal) * ∑ k, x k * ct k := by
    rw [← real_mul_sum r hr]
    exact Finset.sum_congr rfl fun k _ => by rw [← mul_assoc, mul_comm (r : EReal), mul_comm (ct k)]
  rw [hs]
  generalize (∑ k, x k * ct k) = S
  generalize x j = X
  generalize ct j = C
  have hneg : ∀ b : EReal, (r : EReal) * (C - b) = C * r + -((r : EReal) * b) := by
    intro b
    rw [sub_eq_add_neg, EReal.left_distrib_of_nonneg_of_ne_top (by exact_mod_cast hr) (EReal.coe_ne_top r), mul_neg, mul_comm C]
  rw [hneg, add_assoc, add_assoc]
  congr 2
  have hL : (r : EReal) * (X * r * (r * S * ((1 / 1024 : ℝ) : EReal))) = ((r * r * r * (1 / 1024) : ℝ) : EReal) * (X * S) := by
    push_cast
    ac_rfl
  have hR : X * (S * (((-(1 / 2) : ℝ) : EReal) * ((r * r * r : ℝ) : EReal)) * ((1 / 1024 : ℝ) : EReal))
      = ((-(1 / 2 * (r * r * r * (1 / 1024))) : ℝ) : EReal) * (X * S) := by
    have : ((-(1 / 2 * (r * r * r * (1 / 1024))) : ℝ) : EReal) = ((-(1 / 2) : ℝ) : EReal) * ((r * r * r : ℝ) : EReal) * ((1 / 1024 : ℝ) : EReal) := by
      rw [← EReal.coe_mul, ← EReal.coe_mul]; congr 1; ring
    rw [this]
    ac_rfl
  rw [mul_comm _ X, hR, hL]
  generalize X * S = Z
  have hq : 0 ≤ r * r * r * (1 / 1024) := by positivity
  generalize r * r * r * (1 / 1024) = q at hq ⊢
  have hn : ((-(1 / 2 * q) : ℝ) : EReal) = -((1 / 2 * q : ℝ) : EReal) := by push_cast; rfl
  rw [hn, EReal.neg_mul]
  have hh : (q : EReal) * Z = ((1 / 2 * q : ℝ) : EReal) * Z + ((1 / 2 * q : ℝ) : EReal) * Z := by
    rw [← EReal.right_distrib_of_nonneg (by exact_mod_cast (by positivity)) (by exact_mod_cast (by positivity)), ← EReal.coe_add]
    congr 2; ring
  rw [hh]
  generalize ((1 / 2 * q : ℝ) : EReal) * Z = a
  rw [EReal.neg_add (by induction a <;> simp) (by induction a <;> simp), sub_eq_add_neg]

end Cert.Proof.Rms
end
-- ==== Proof.MlpDx.lean ====
module

public import proofs.«01_k».proof.Proof.Gen.KernelIdeal.Value
public import proofs.«01_k».proof.Proof.Gen.ReferenceIdeal.Read
public import proofs.«01_k».proof.Proof.Rms
public import Idealize.ShloMosaic.Lib.Claim
public import Idealize.ShloMosaic.Lib.Pipeline.ValueKit

@[expose] public section

set_option maxRecDepth 16384

noncomputable section

namespace Cert.Proof.MlpDx

open Idealize.ShloMosaic Idealize.ShloMosaic.TcCoe Idealize.SL.Sem
open Idealize.ShloMosaic.Pipeline (Dat)
open Cert.KernelIdeal Cert.KernelIdeal.Gen
open scoped BigOperators

variable (m : (ℓ : Loc nD τ sig) → Buf (Elt Ideal) ℓ)

/-- Where each window's block sits at grid point `t`. -/
theorem idx : ∀ t : Fin cfg0.N, win0_0.index t = ![t.val, 0] ∧ win0_1.index t = ![t.val, 0]
    ∧ win0_2.index t = ![t.val, 0] ∧ win0_3.index t = ![0, 0] ∧ win0_4.index t = ![0, 0, 0] ∧ win0_5.index t = ![0, 0, 0]
    ∧ win0_6.index t = ![t.val, 0] ∧ win0_7.index t = ![t.val, 0] ∧ win0_8.index t = ![t.val, 0]
    ∧ win0_9.index t = ![0, 0] ∧ t.val < 19 :=
  (by decide +kernel : ∀ t : Fin grid0.N, _)

/-- The hidden layer the call is given is the reference's. -/
theorem V14 (c : Dev nD) (i : S8208x4096.Idx) : (V m c main_v14 i : EReal)
    = Cert.ReferenceIdeal.Read.val_main_v16 (F := Ideal) (m ((c : Thread nD τ).loc main_arg1)) (m ((c : Thread nD τ).loc main_arg2)) (m ((c : Thread nD τ).loc main_arg3)) i := by
  entry_read; rfl

/-- Slab `q` of the up-projection the call is given holds its columns from `1024 q`. -/
theorem V18 (c : Dev nD) (i : S4x1024x1024.Idx) : (V m c main_v18 i : EReal)
    = m ((c : Thread nD τ).loc main_arg3) (ix2 (i 1) ⟨(i 0).val * 1024 + (i 2).val, by have h0 : (i 0).val < 4 := (i 0).isLt; have h2 : (i 2).val < 1024 := (i 2).isLt; omega⟩) := by
  entry_read
  pointwise
  blk_ext

/-- Slab `q` of the down-projection the call is given holds its rows from `1024 q`. -/
theorem V20 (c : Dev nD) (i : S4x1024x1024.Idx) : (V m c main_v20 i : EReal)
    = m ((c : Thread nD τ).loc main_arg4) (ix2 ⟨(i 0).val * 1024 + (i 1).val, by have h0 : (i 0).val < 4 := (i 0).isLt; have h2 : (i 1).val < 1024 := (i 1).isLt; omega⟩ (i 2)) := by
  entry_read
  pointwise
  blk_ext

/-- The norm's weight the call is given. -/
theorem V15 (c : Dev nD) (i : S1x1024.Idx) : (V m c main_v15 i : EReal)
    = m ((c : Thread nD τ).loc main_arg2) (ix1 (i 1)) := by
  entry_read
  pointwise
  try blk_ext

/-- One entry of the gradient at the hidden layer, from one slab's operands. -/
def da (d : FVec Ideal S432x1024 .f32) (a : FVec Ideal S432x1024 .bf16) (w : FVec Ideal S1x1024x1024 .bf16) (i : Fin 432) (j : Fin 1024) : EReal :=
  (∑ k : Fin 1024, d (ix2 i k) * w (ix3 0 j k)) * (Ideal.ofBits FTy.f32 1073741824#32 * max (a (ix2 i j)) 0)

theorem pay9_apply (d : FVec Ideal S432x1024 .f32) (a : FVec Ideal S432x1024 .bf16) (w : FVec Ideal S1x1024x1024 .bf16) (y) :
    (k0_pay9 (F := Ideal) d a w y : EReal) = da d a w (y 0) (y 1) := by
  unfold da
  pointwise [k0_pay9, k0_pay7]

theorem pay10_apply (d : FVec Ideal S432x1024 .f32) (a : FVec Ideal S432x1024 .bf16) (w : FVec Ideal S1x1024x1024 .bf16) (y) :
    (k0_pay10 (F := Ideal) (k0_pay7 d) a w y : EReal) = da d a w (y 0) (y 1) := by
  unfold da
  pointwise [k0_pay10, k0_pay7]

theorem pay15_apply (d : FVec Ideal S432x1024 .f32) (a : FVec Ideal S432x1024 .bf16) (w : FVec Ideal S1x1024x1024 .bf16) (y) :
    (k0_pay15 (F := Ideal) (k0_pay7 d) a w y : EReal) = da d a w (y 0) (y 1) := by
  unfold da
  pointwise [k0_pay15, k0_pay7]

theorem pay14_apply (d : FVec Ideal S432x1024 .f32) (a : FVec Ideal S432x1024 .bf16) (w : FVec Ideal S1x1024x1024 .bf16) (y) :
    (k0_pay14 (F := Ideal) (k0_pay12 a) (k0_pay13 (k0_pay7 d) w) (FloatOps.ofBits FTy.f32 1073741824#32) y : EReal) = da d a w (y 0) (y 1) := by
  unfold da
  pointwise [k0_pay14, k0_pay12, k0_pay13, k0_pay7]

/-- The gradient at the normalised input, from the four slabs. -/
theorem pay16_apply (d : FVec Ideal S432x1024 .f32) (a0 a1 a2 a3 : FVec Ideal S432x1024 .bf16) (w0 w1 w2 w3 u0 u1 u2 u3 : FVec Ideal S1x1024x1024 .bf16) (y) :
    (k0_pay16 (F := Ideal) (k0_pay7 d) (k0_pay11 (k0_pay7 d) k0_pay8 (k0_pay9 d a0 w0) u0 a1 w1 u1) (k0_pay12 a2)
      (k0_pay13 (k0_pay7 d) w2) (FloatOps.ofBits FTy.f32 1073741824#32) u2 a3 w3 u3 y : EReal)
    = (((∑ j : Fin 1024, da d a0 w0 (y 0) j * u0 (ix3 0 (y 1) j)) + ∑ j : Fin 1024, da d a1 w1 (y 0) j * u1 (ix3 0 (y 1) j))
      + ∑ j : Fin 1024, da d a2 w2 (y 0) j * u2 (ix3 0 (y 1) j)) + ∑ j : Fin 1024, da d a3 w3 (y 0) j * u3 (ix3 0 (y 1) j) := by
  unfold da
  pointwise [k0_pay16, k0_pay11, k0_pay8, k0_pay9, k0_pay10, k0_pay12, k0_pay13, k0_pay14, k0_pay15, k0_pay7]

variable (x0 x1 : FVec Ideal S8208x1024 .f32) (x2 : FVec Ideal S1024 .f32) (x3 : FVec Ideal S1024x4096 .f32) (x4 : FVec Ideal S4096x1024 .f32)

/-- Twice a product with a number that is not negative, however the two is placed. -/
theorem twice (c z : EReal) (hz : 0 ≤ z) : c * (2 * z) = z * c + c * z := by
  have h2 : (2 : EReal) * z = z + z := by
    rw [← one_add_one_eq_two, EReal.right_distrib_of_nonneg zero_le_one zero_le_one, one_mul]
  rw [h2, EReal.left_distrib_of_nonneg hz hz, mul_comm z c]

/-- The squared relu's derivative, as the reference writes it. -/
theorem relu_grad (c a z z' z'' : EReal) (hz : z = 0) (hz' : z' = 0) (hz'' : z'' = 0) :
    c * (2 * max a 0) = Scalar.select (FloatOps.cmpf (F := Ideal) (φ := .f32) .ogt a z) (max a z'' * c + c * max a z'') z' := by
  subst hz hz' hz''
  rw [twice c (max a 0) (le_max_right _ _)]
  simp only [Scalar.select, Ideal.cmpf_def]
  by_cases h : (0 : EReal) < a
  · simp [Ideal.cmp, h]
  · simp [Ideal.cmp, h, max_eq_right (not_lt.mp h)]

/-- The reference's gradient at the hidden layer, at an index. -/
theorem v30_apply (i : S8208x4096.Idx) : (Cert.ReferenceIdeal.Read.val_main_v30 (F := Ideal) x0 x1 x2 x3 x4 i : EReal)
    = (∑ k : Fin 1024, x0 (ix2 (i 0) k) * x4 (ix2 (i 1) k)) * (2 * max (Cert.ReferenceIdeal.Read.val_main_v16 (F := Ideal) x1 x2 x3 i) 0) := by
  rw [Cert.ReferenceIdeal.Read.val_main_v30_apply, Cert.ReferenceIdeal.Read.val_main_v28_apply, Cert.ReferenceIdeal.Read.val_main_v26_apply,
    Cert.ReferenceIdeal.Read.val_main_v27_apply, Cert.ReferenceIdeal.Read.val_main_v25_apply, Cert.ReferenceIdeal.Read.val_main_v19_apply,
    Cert.ReferenceIdeal.Read.val_main_v17_apply]
  generalize Cert.ReferenceIdeal.Read.val_main_v16 (F := Ideal) x1 x2 x3 i = a
  have e : ∀ k : Fin 1024, (Cert.ReferenceIdeal.Read.val_main_v24 (F := Ideal) x0 (Cert.ReferenceIdeal.Read.lidx_main_v25 i k) : EReal)
      * x4 (Cert.ReferenceIdeal.Read.ridx_main_v25 i k) = x0 (ix2 (i 0) k) * x4 (ix2 (i 1) k) := by
    intro k
    rw [Cert.ReferenceIdeal.Read.val_main_v24_apply]
    blk_point []
  rw [Finset.sum_congr rfl fun k _ => e k]
  refine (relu_grad _ a _ _ _ ?_ ?_ ?_).symm
  · unfold Cert.ReferenceIdeal.Read.val_main_v18 Cert.ReferenceIdeal.Read.val_main_cst_3
    pointwise
  · unfold Cert.ReferenceIdeal.Read.val_main_v29 Cert.ReferenceIdeal.Read.val_main_cst_5
    pointwise
  · unfold Cert.ReferenceIdeal.Read.val_main_call0_v0 Cert.ReferenceIdeal.Read.val_main_call0_cst
    pointwise

/-- The reference writes the same gradient twice. -/
theorem v78_eq : Cert.ReferenceIdeal.Read.val_main_v78 (F := Ideal) x0 x1 x2 x3 x4 = Cert.ReferenceIdeal.Read.val_main_v30 (F := Ideal) x0 x1 x2 x3 x4 := by
  have h : Cert.ReferenceIdeal.Read.val_main_v24 (F := Ideal) x0 = x0 := by
    funext i
    rw [Cert.ReferenceIdeal.Read.val_main_v24_apply]
    blk_ext
  unfold Cert.ReferenceIdeal.Read.val_main_v30 Cert.ReferenceIdeal.Read.val_main_v28 Cert.ReferenceIdeal.Read.val_main_v27 Cert.ReferenceIdeal.Read.val_main_v26 Cert.ReferenceIdeal.Read.val_main_v25
  rw [h]
  rfl

/-- One slab's gradient at the hidden layer is the reference's, when its operands are the matching parts of the arrays. -/
theorem da_ref (d : FVec Ideal S432x1024 .f32) (a : FVec Ideal S432x1024 .bf16) (w : FVec Ideal S1x1024x1024 .bf16)
    (i : Fin 432) (j : Fin 1024) (r : Fin 8208) (l : Fin 4096) (hd : ∀ k, d (ix2 i k) = x0 (ix2 r k))
    (ha : a (ix2 i j) = Cert.ReferenceIdeal.Read.val_main_v16 (F := Ideal) x1 x2 x3 (ix2 r l))
    (hw : ∀ k, w (ix3 0 j k) = x4 (ix2 l k)) :
    da d a w i j = Cert.ReferenceIdeal.Read.val_main_v30 (F := Ideal) x0 x1 x2 x3 x4 (ix2 r l) := by
  rw [v30_apply, da, Rms.two_word, ha]
  congr 1
  exact Finset.sum_congr rfl fun k _ => congrArg₂ (· * ·) (hd k) (hw k)

/-- The row `r` of an array. -/
abbrev row (x : FVec Ideal S8208x1024 .f32) (r : Fin 8208) : Fin 1024 → EReal := fun k => x (ix2 r k)

theorem v6_apply (i) : (Cert.ReferenceIdeal.Read.val_main_v6 (F := Ideal) x1 i : EReal) = Rms.var (row x1 (i 0)) := by
  unfold Rms.var row
  pointwise [Cert.ReferenceIdeal.Read.val_main_v6, Cert.ReferenceIdeal.Read.val_main_v5, Cert.ReferenceIdeal.Read.val_main_v4, Cert.ReferenceIdeal.Read.val_main_v3, Cert.ReferenceIdeal.Read.val_main_v2, Cert.ReferenceIdeal.Read.val_main_v1, Cert.ReferenceIdeal.Read.val_main_v0, Cert.ReferenceIdeal.Read.val_main_cst, Cert.ReferenceIdeal.Read.val_main_cst_0, Cert.ReferenceIdeal.Read.val_main_cst_1]

theorem v7_apply (i) : (Cert.ReferenceIdeal.Read.val_main_v7 (F := Ideal) x1 i : EReal) = Rms.root (row x1 (i 0)) := by
  rw [Cert.ReferenceIdeal.Read.val_main_v7_apply, Rms.root, ← v6_apply x1 i]
  rfl

theorem v12_apply (i) : (Cert.ReferenceIdeal.Read.val_main_v12 (F := Ideal) x1 i : EReal) = x1 i * Rms.root (row x1 (i 0)) := by
  rw [Cert.ReferenceIdeal.Read.val_main_v12_apply, Cert.ReferenceIdeal.Read.val_main_v11_apply, v7_apply]
  rfl

theorem v80_apply (i) : (Cert.ReferenceIdeal.Read.val_main_v80 (F := Ideal) x1 x2 i : EReal) = x1 i * Rms.root (row x1 (i 0)) * x2 (ix1 (i 1)) := by
  have h : Cert.ReferenceIdeal.Read.val_main_v62 (F := Ideal) x1 = Cert.ReferenceIdeal.Read.val_main_v12 (F := Ideal) x1 := rfl
  rw [Cert.ReferenceIdeal.Read.val_main_v80_apply, Cert.ReferenceIdeal.Read.val_main_v65_apply, h, v12_apply,
    Cert.ReferenceIdeal.Read.val_main_v64_apply, Cert.ReferenceIdeal.Read.val_main_v63_apply]
  exact congrArg (_ * ·) (congrArg x2 (funext fun a => Fin.ext (by match a with | ⟨0, _⟩ => rfl)))

theorem v36_apply (i) : (Cert.ReferenceIdeal.Read.val_main_v36 (F := Ideal) x0 x1 x2 x3 x4 i : EReal)
    = Cert.ReferenceIdeal.Read.val_main_v31 (F := Ideal) x0 x1 x2 x3 x4 i * x2 (ix1 (i 1)) := by
  rw [Cert.ReferenceIdeal.Read.val_main_v36_apply, Cert.ReferenceIdeal.Read.val_main_v35_apply, Cert.ReferenceIdeal.Read.val_main_v13_apply]
  exact congrArg (_ * ·) (congrArg x2 (funext fun a => Fin.ext (by match a with | ⟨0, _⟩ => rfl)))

/-- The kernel's reciprocal root of a row of its block. -/
theorem pay3_apply (h : FVec Ideal S432x1024 .f32) (y) : (k0_pay3 (F := Ideal) h y : EReal) = Rms.root (fun k => h (ix2 (y 0) k)) := by
  unfold Rms.root Rms.var
  pointwise [k0_pay3]

theorem pay4_apply (h : FVec Ideal S432x1024 .f32) (y) : (k0_pay4 (F := Ideal) h y : EReal) = h y * Rms.root (fun k => h (ix2 (y 0) k)) := by
  have e : (k0_pay4 (F := Ideal) h y : EReal) = h y * k0_pay3 (F := Ideal) h (ix2 (y 0) 0) := by
    unfold k0_pay4
    generalize k0_pay3 (F := Ideal) h = z
    pointwise
  rw [e, pay3_apply]
  rfl

theorem pay6_apply (h : FVec Ideal S432x1024 .f32) (g : FVec Ideal S1x1024 .f32) (y) : (k0_pay6 (F := Ideal) h g y : EReal) = h y * Rms.root (fun k => h (ix2 (y 0) k)) * g (ix2 0 (y 1)) := by
  rw [← pay4_apply]
  unfold k0_pay6
  generalize k0_pay4 (F := Ideal) h = z
  pointwise [k0_pay5]

/-- The kernel's gradient at the block's input. -/
theorem pay1_apply (r : FVec Ideal S432x1 .f32) (n d D : FVec Ideal S432x1024 .f32) (g : FVec Ideal S1x1024 .f32) (y) :
    (k0_pay1 (F := Ideal) r n (k0_pay5 g) d D y : EReal)
      = d y + r (ix2 (y 0) 0) * (D y * g (ix2 0 (y 1)) - n y * Ideal.div (∑ k : Fin 1024, D (ix2 (y 0) k) * g (ix2 0 k) * n (ix2 (y 0) k)) (Ideal.ofBits FTy.f32 0x44800000#32)) := by
  pointwise [k0_pay1, k0_pay5]

/-- `xn` after the run: the normalised input. -/
theorem final8 (c : Dev nD) : (dats m 0 c).arrAt 8 cfg0.N
    = Cert.ReferenceIdeal.Read.val_main_v80 (F := Ideal) (m ((c : Thread nD τ).loc main_arg1)) (m ((c : Thread nD τ).loc main_arg2)) := by
  refine (dats m 0 c).arrAt_eq_of_covers 8 _ (by decide +kernel) fun t hf y => ?_
  blk_simp
  rw [after0_8]
  have e : (outsAt0 m c t.val t.isLt).2.2.1 y = k0_pay6 (F := Ideal) (iblk m c 1 t) (iblk m c 3 t) y := by
    rcases Classical.em (t.val % 19 = 0) with h | h
    · rw [outsAt0_A m c t h]; frame_out
    · rw [outsAt0_B m c t h]; frame_out
  rw [e]
  refine (pay6_apply _ _ y).trans (Eq.trans ?_ (v80_apply _ _ _).symm)
  unfold row
  blk_point [iblk, V_main_arg1, V15, idx t]

/-- One slab's entry at a grid point. -/
theorem da_point (c : Dev nD) (t : Fin cfg0.N) (a : FVec Ideal S432x1024 .bf16) (w : FVec Ideal S1x1024x1024 .bf16) (q : ℕ) (hq : q < 4) (i : Fin 432) (j : Fin 1024)
    (ha : a (ix2 i j) = (iblk m c 2 t : FVec Ideal S432x4096 .bf16) (ix2 i ⟨1024 * q + j.val, by omega⟩))
    (hw : ∀ k, w (ix3 0 j k) = (iblk m c 5 t : FVec Ideal S4x1024x1024 .bf16) (ix3 ⟨q, hq⟩ j k))
    (r : Fin 8208) (l : Fin 4096) (hr : r.val = t.val * 432 + i.val) (hl : l.val = 1024 * q + j.val) :
    da (iblk m c 0 t) a w i j = Cert.ReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r l) := by
  refine da_ref _ _ _ _ _ _ _ _ i j r l ?_ ?_ ?_
  · intro k
    blk_point [iblk, V_main_arg0, idx t]
  · rw [ha, ← V14 m c]
    blk_point [iblk, idx t]
  · intro k
    rw [hw]
    blk_point [iblk, V20, idx t]

end Cert.Proof.MlpDx

end
-- ==== Proof.MlpDxRef.lean ====
/-
  The gradients at the MLP's normalised input and at its input, for one block of the call `bwd_mlp_dx`, are the
  reference's entries.
-/
module

public import proofs.«01_k».proof.Proof.Gen.KernelIdeal.Value
public import proofs.«01_k».proof.Proof.Gen.ReferenceIdeal.Read
public import proofs.«01_k».proof.Proof.MlpDx
public import Idealize.ShloMosaic.Lib.Claim
public import Idealize.ShloMosaic.Lib.Pipeline.ValueKit

@[expose] public section

set_option maxRecDepth 16384

noncomputable section

namespace Cert.Proof.MlpDx

open Idealize.ShloMosaic Idealize.ShloMosaic.TcCoe Idealize.SL.Sem
open Idealize.ShloMosaic.Pipeline (Dat)
open Cert.KernelIdeal Cert.KernelIdeal.Gen
open scoped BigOperators

variable (m : (ℓ : Loc nD τ sig) → Buf (Elt Ideal) ℓ)

/-- A load of the columns from `1024 q` of a block. -/
theorem ld_a {Val : EltTy → Type} {e : EltTy} (B : S432x4096.Idx → Val e) (q o : ℕ) (hq : q < 4) (ho : o = 1024 * q) (inb) (i : Fin 432) (j : Fin 1024) :
    View.ld B (Rect.unit (s := S432x4096) ![0, o] ![432, 1024] inb) (ix2 i j) = B (ix2 i ⟨1024 * q + j.val, by omega⟩) := by
  subst ho
  rw [View.ld_apply]
  refine congrArg B (funext fun a => Fin.ext ?_)
  match a with
  | ⟨0, _⟩ => show 0 + 1 * i.val = i.val; omega
  | ⟨1, _⟩ => show 1024 * q + 1 * j.val = 1024 * q + j.val; omega

/-- A load of slab `q`. -/
theorem ld_w {Val : EltTy → Type} {e : EltTy} (B : S4x1024x1024.Idx → Val e) (q : ℕ) (hq : q < 4) (inb) (j : Fin 1024) (k : Fin 1024) :
    View.ld B (Rect.unit (s := S4x1024x1024) ![q, 0, 0] ![1, 1024, 1024] inb) (ix3 0 j k) = B (ix3 ⟨q, hq⟩ j k) := by
  rw [View.ld_apply]
  refine congrArg B (funext fun a => Fin.ext ?_)
  match a with
  | ⟨0, _⟩ => show q + 1 * 0 = q; omega
  | ⟨1, _⟩ => show 0 + 1 * j.val = j.val; omega
  | ⟨2, _⟩ => show 0 + 1 * k.val = k.val; omega

section ref

variable (x0 x1 : FVec Ideal S8208x1024 .f32) (x2 : FVec Ideal S1024 .f32) (x3 : FVec Ideal S1024x4096 .f32) (x4 : FVec Ideal S4096x1024 .f32)

/-- The gradient at the normalised input is the reference's: the four slabs' sums join to the sum over all columns. -/
theorem dxn_ref (d : FVec Ideal S432x1024 .f32) (a0 a1 a2 a3 : FVec Ideal S432x1024 .bf16) (w0 w1 w2 w3 u0 u1 u2 u3 : FVec Ideal S1x1024x1024 .bf16)
    (y : S432x1024.Idx) (r : Fin 8208)
    (h0 : ∀ j : Fin 1024, da d a0 w0 (y 0) j = Cert.ReferenceIdeal.Read.val_main_v30 (F := Ideal) x0 x1 x2 x3 x4 (ix2 r ⟨0 * 1024 + j.val, by omega⟩)) (g0 : ∀ j : Fin 1024, u0 (ix3 0 (y 1) j) = x3 (ix2 (y 1) ⟨0 * 1024 + j.val, by omega⟩))
    (h1 : ∀ j : Fin 1024, da d a1 w1 (y 0) j = Cert.ReferenceIdeal.Read.val_main_v30 (F := Ideal) x0 x1 x2 x3 x4 (ix2 r ⟨1 * 1024 + j.val, by omega⟩)) (g1 : ∀ j : Fin 1024, u1 (ix3 0 (y 1) j) = x3 (ix2 (y 1) ⟨1 * 1024 + j.val, by omega⟩))
    (h2 : ∀ j : Fin 1024, da d a2 w2 (y 0) j = Cert.ReferenceIdeal.Read.val_main_v30 (F := Ideal) x0 x1 x2 x3 x4 (ix2 r ⟨2 * 1024 + j.val, by omega⟩)) (g2 : ∀ j : Fin 1024, u2 (ix3 0 (y 1) j) = x3 (ix2 (y 1) ⟨2 * 1024 + j.val, by omega⟩))
    (h3 : ∀ j : Fin 1024, da d a3 w3 (y 0) j = Cert.ReferenceIdeal.Read.val_main_v30 (F := Ideal) x0 x1 x2 x3 x4 (ix2 r ⟨3 * 1024 + j.val, by omega⟩)) (g3 : ∀ j : Fin 1024, u3 (ix3 0 (y 1) j) = x3 (ix2 (y 1) ⟨3 * 1024 + j.val, by omega⟩))
    :
    (k0_pay16 (F := Ideal) (k0_pay7 d) (k0_pay11 (k0_pay7 d) k0_pay8 (k0_pay9 d a0 w0) u0 a1 w1 u1) (k0_pay12 a2)
      (k0_pay13 (k0_pay7 d) w2) (FloatOps.ofBits FTy.f32 1073741824#32) u2 a3 w3 u3 y : EReal) = Cert.ReferenceIdeal.Read.val_main_v31 (F := Ideal) x0 x1 x2 x3 x4 (ix2 r (y 1)) := by
  rw [pay16_apply, Cert.ReferenceIdeal.Read.val_main_v31_apply]
  have e := Fin.sum_mul_add_fin 4 1024 (fun l : Fin 4096 => (Cert.ReferenceIdeal.Read.val_main_v30 (F := Ideal) x0 x1 x2 x3 x4 (ix2 r l) : EReal) * x3 (ix2 (y 1) l))
  rw [Fin.sum_univ_four] at e
  simp only [h0, h1, h2, h3, g0, g1, g2, g3]
  refine Eq.trans e (Finset.sum_congr rfl fun k _ => ?_)
  have e1 : Cert.ReferenceIdeal.Read.lidx_main_v31 (ix2 r (y 1)) k = ix2 r k := funext fun a => Fin.ext (by match a with | ⟨0, _⟩ => rfl | ⟨1, _⟩ => rfl)
  have e2 : Cert.ReferenceIdeal.Read.ridx_main_v31 (ix2 r (y 1)) k = ix2 (y 1) k := funext fun a => Fin.ext (by match a with | ⟨0, _⟩ => rfl | ⟨1, _⟩ => rfl)
  rw [e1, e2]
  rfl

/-- The reference's row factor: the sum of the row times the incoming gradient, times the derivative of the root. -/
theorem v48_apply (r : Fin 8208) (j : Fin 1024) : (Cert.ReferenceIdeal.Read.val_main_v48 (F := Ideal) x0 x1 x2 x3 x4 (ix2 r j) : EReal)
      = Ideal.div ((∑ k : Fin 1024, row x1 r k * Cert.ReferenceIdeal.Read.val_main_v36 (F := Ideal) x0 x1 x2 x3 x4 (ix2 r k)) * (Ideal.ofBits FTy.f32 0xBF000000#32 * Ideal.div (Rms.root (row x1 r)) (Rms.var (row x1 r)))) (Ideal.ofBits FTy.f32 0x44800000#32) := by
  have z8 : ∀ i, (Cert.ReferenceIdeal.Read.val_main_cst_8 (F := Ideal) i : EReal) = 0 := by
    intro i; unfold Cert.ReferenceIdeal.Read.val_main_cst_8; pointwise
  have z10 : ∀ i, (Cert.ReferenceIdeal.Read.val_main_cst_10 (F := Ideal) i : EReal) = 0 := by
    intro i; unfold Cert.ReferenceIdeal.Read.val_main_cst_10; pointwise
  rw [Cert.ReferenceIdeal.Read.val_main_v48_apply, Cert.ReferenceIdeal.Read.val_main_v47_apply, z10, zero_add, Fin.sum_univ_one, Cert.ReferenceIdeal.Read.val_main_v46_apply, Cert.ReferenceIdeal.Read.val_main_v44_apply, Cert.ReferenceIdeal.Read.val_main_v40_apply, Cert.ReferenceIdeal.Read.val_main_v39_apply, z8, zero_add,
    Cert.ReferenceIdeal.Read.val_main_v10_apply, Cert.ReferenceIdeal.Read.val_main_v8_apply, v7_apply, v6_apply, Cert.ReferenceIdeal.Read.val_main_v9_apply, Cert.ReferenceIdeal.Read.val_main_cst_2_apply, Cert.ReferenceIdeal.Read.val_main_v45_apply, Cert.ReferenceIdeal.Read.val_main_cst_9_apply]
  refine congrArg (fun z : EReal => Ideal.div (z * _) _) (Finset.sum_congr rfl fun k _ => ?_)
  rw [Cert.ReferenceIdeal.Read.val_main_v38_apply]
  have e : Cert.ReferenceIdeal.Read.idx_main_v39 (Cert.ReferenceIdeal.Read.idx_main_v40 (Cert.ReferenceIdeal.Read.idx_main_v47 (Cert.ReferenceIdeal.Read.idx_main_v48 (ix2 r j)) 0)) k = ix2 r k :=
    funext fun a => Fin.ext (by match a with | ⟨0, _⟩ => exact (by show r.val * 1 + 0 = r.val; omega) | ⟨1, _⟩ => rfl)
  rw [e]
  rfl

/-- The gradient at the call's input is the reference's. -/
theorem dh1_ref (h d D : FVec Ideal S432x1024 .f32) (g : FVec Ideal S1x1024 .f32) (i : Fin 432) (j : Fin 1024) (r : Fin 8208)
    (hh : ∀ k, h (ix2 i k) = x1 (ix2 r k)) (hg : ∀ k, g (ix2 0 k) = x2 (ix1 k)) (hd : d (ix2 i j) = x0 (ix2 r j))
    (hD : ∀ k, D (ix2 i k) = Cert.ReferenceIdeal.Read.val_main_v31 (F := Ideal) x0 x1 x2 x3 x4 (ix2 r k)) :
    (k0_pay1 (F := Ideal) (k0_pay3 h) (k0_pay4 h) (k0_pay5 g) d D (ix2 i j) : EReal) = Cert.ReferenceIdeal.Read.val_main_v52 (F := Ideal) x0 x1 x2 x3 x4 (ix2 r j) := by
  have ct : ∀ k, D (ix2 i k) * g (ix2 0 k) = (Cert.ReferenceIdeal.Read.val_main_v36 (F := Ideal) x0 x1 x2 x3 x4 (ix2 r k) : EReal) := by
    intro k
    rw [v36_apply, hD, hg]
    rfl
  have hrow : (fun k => h (ix2 i k)) = row x1 r := funext hh
  have p3 : (k0_pay3 (F := Ideal) h (ix2 i 0) : EReal) = Rms.root (row x1 r) := (pay3_apply h _).trans (congrArg Rms.root hrow)
  have p4 : ∀ k, (k0_pay4 (F := Ideal) h (ix2 i k) : EReal) = row x1 r k * Rms.root (row x1 r) := fun k =>
    (pay4_apply h _).trans (congrArg₂ (fun a b : EReal => a * b) (hh k) (congrArg Rms.root hrow))
  refine (pay1_apply _ _ _ _ _ _).trans ?_
  show d (ix2 i j) + k0_pay3 (F := Ideal) h (ix2 i 0) * (D (ix2 i j) * g (ix2 0 j) - k0_pay4 (F := Ideal) h (ix2 i j)
    * Ideal.div (∑ k : Fin 1024, D (ix2 i k) * g (ix2 0 k) * k0_pay4 (F := Ideal) h (ix2 i k)) (Ideal.ofBits FTy.f32 0x44800000#32)) = _
  simp only [p3, p4, ct]
  refine (Rms.bwd (row x1 r) (fun k => Cert.ReferenceIdeal.Read.val_main_v36 (F := Ideal) x0 x1 x2 x3 x4 (ix2 r k)) (d (ix2 i j)) j).trans ?_
  rw [Cert.ReferenceIdeal.Read.val_main_v52_apply, Cert.ReferenceIdeal.Read.val_main_v51_apply, Cert.ReferenceIdeal.Read.val_main_v50_apply, Cert.ReferenceIdeal.Read.val_main_v49_apply, v48_apply, Cert.ReferenceIdeal.Read.val_main_v43_apply, Cert.ReferenceIdeal.Read.val_main_v42_apply, Cert.ReferenceIdeal.Read.val_main_v41_apply, v7_apply, hd]
  rfl

end ref

end Cert.Proof.MlpDx

end
-- ==== Proof.MlpDxOut.lean ====
module

public import proofs.«01_k».proof.Proof.Gen.KernelIdeal.Value
public import proofs.«01_k».proof.Proof.Gen.ReferenceIdeal.Read
public import proofs.«01_k».proof.Proof.MlpDxRef
public import Idealize.ShloMosaic.Lib.Claim
public import Idealize.ShloMosaic.Lib.Pipeline.ValueKit

@[expose] public section

set_option maxRecDepth 16384

noncomputable section

namespace Cert.Proof.MlpDx

open Idealize.ShloMosaic Idealize.ShloMosaic.TcCoe Idealize.SL.Sem
open Idealize.ShloMosaic.Pipeline (Dat)
open Cert.KernelIdeal Cert.KernelIdeal.Gen
open scoped BigOperators

variable (m : (ℓ : Loc nD τ sig) → Buf (Elt Ideal) ℓ)

/-- The block of the gradient at the normalised input that grid point `t` works on. -/
def dxn (c : Dev nD) (t : Fin cfg0.N) : FVec Ideal S432x1024 .f32 :=
  k0_pay16 (F := Ideal) (k0_pay7 (iblk m c 0 t)) (k0_pay11 (k0_pay7 (iblk m c 0 t)) k0_pay8 (k0_pay9 (iblk m c 0 t) (View.ld (iblk m c 2 t) (Rect.unit ![0, 0] ![432, 1024] inb_S432x4096_S432x1024_0_0)) (View.ld (iblk m c 5 t) (Rect.unit ![0, 0, 0] ![1, 1024, 1024] inb_S4x1024x1024_S1x1024x1024_0_0_0))) (View.ld (iblk m c 4 t) (Rect.unit ![0, 0, 0] ![1, 1024, 1024] inb_S4x1024x1024_S1x1024x1024_0_0_0)) (View.ld (iblk m c 2 t) (Rect.unit ![0, 1024] ![432, 1024] inb_S432x4096_S432x1024_0_1024)) (View.ld (iblk m c 5 t) (Rect.unit ![1, 0, 0] ![1, 1024, 1024] inb_S4x1024x1024_S1x1024x1024_1_0_0)) (View.ld (iblk m c 4 t) (Rect.unit ![1, 0, 0] ![1, 1024, 1024] inb_S4x1024x1024_S1x1024x1024_1_0_0))) (k0_pay12 (View.ld (iblk m c 2 t) (Rect.unit ![0, 2048] ![432, 1024] inb_S432x4096_S432x1024_0_2048)))
      (k0_pay13 (k0_pay7 (iblk m c 0 t)) (View.ld (iblk m c 5 t) (Rect.unit ![2, 0, 0] ![1, 1024, 1024] inb_S4x1024x1024_S1x1024x1024_2_0_0))) (FloatOps.ofBits FTy.f32 1073741824#32) (View.ld (iblk m c 4 t) (Rect.unit ![2, 0, 0] ![1, 1024, 1024] inb_S4x1024x1024_S1x1024x1024_2_0_0)) (View.ld (iblk m c 2 t) (Rect.unit ![0, 3072] ![432, 1024] inb_S432x4096_S432x1024_0_3072)) (View.ld (iblk m c 5 t) (Rect.unit ![3, 0, 0] ![1, 1024, 1024] inb_S4x1024x1024_S1x1024x1024_3_0_0)) (View.ld (iblk m c 4 t) (Rect.unit ![3, 0, 0] ![1, 1024, 1024] inb_S4x1024x1024_S1x1024x1024_3_0_0))

/-- It is the reference's. -/
theorem dxn_point (c : Dev nD) (t : Fin cfg0.N) (y : S432x1024.Idx) (r : Fin 8208) (hr : r.val = t.val * 432 + (y 0).val) :
    (dxn m c t y : EReal) = Cert.ReferenceIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r (y 1)) := by
  have hu : ∀ (q : ℕ) (hq : q < 4) (inb) (j : Fin 1024) (l : Fin 4096) (hl : l.val = q * 1024 + j.val), (View.ld (iblk m c 4 t) (Rect.unit (s := S4x1024x1024) ![q, 0, 0] ![1, 1024, 1024] inb) (ix3 0 (y 1) j) : EReal) = m ((c : Thread nD τ).loc main_arg3) (ix2 (y 1) l) := by
    intro q hq inb j l hl
    refine (ld_w _ q hq inb (y 1) j).trans ?_
    blk_point [iblk, V18, idx t]
  unfold dxn
  refine dxn_ref _ _ _ _ _ _ _ _ _ _ _ _ _ _ _ _ _ _ y r (fun j => da_point m c t _ _ 0 (by decide) (y 0) j (ld_a _ 0 _ (by decide) rfl _ _ _) (ld_w _ 0 (by decide) _ _) _ _ hr (by show 0 * 1024 + j.val = _; omega)) (fun j => hu 0 (by decide) _ j _ rfl)
     (fun j => da_point m c t _ _ 1 (by decide) (y 0) j (ld_a _ 1 _ (by decide) rfl _ _ _) (ld_w _ 1 (by decide) _ _) _ _ hr (by show 1 * 1024 + j.val = _; omega)) (fun j => hu 1 (by decide) _ j _ rfl)
     (fun j => da_point m c t _ _ 2 (by decide) (y 0) j (ld_a _ 2 _ (by decide) rfl _ _ _) (ld_w _ 2 (by decide) _ _) _ _ hr (by show 2 * 1024 + j.val = _; omega)) (fun j => hu 2 (by decide) _ j _ rfl)
     (fun j => da_point m c t _ _ 3 (by decide) (y 0) j (ld_a _ 3 _ (by decide) rfl _ _ _) (ld_w _ 3 (by decide) _ _) _ _ hr (by show 3 * 1024 + j.val = _; omega)) (fun j => hu 3 (by decide) _ j _ rfl)

/-- `da` after the run: the gradient at the hidden layer. -/
theorem final7 (c : Dev nD) : (dats m 0 c).arrAt 7 cfg0.N
    = Cert.ReferenceIdeal.Read.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  have e : Cert.ReferenceIdeal.Read.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4))
     = Cert.ReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := v78_eq _ _ _ _ _
  rw [e]
  have pt : ∀ (x : S432x1024.Idx) (q : ℕ) (hq : q < 4) (h0 : (y 0).val = (x 0).val) (h1 : (y 1).val = 1024 * q + (x 1).val)
      (a : FVec Ideal S432x1024 .bf16) (w : FVec Ideal S1x1024x1024 .bf16)
      (ha : a (ix2 (x 0) (x 1)) = (iblk m c 2 t : FVec Ideal S432x4096 .bf16) (ix2 (x 0) ⟨1024 * q + (x 1).val, by have := (x 1).isLt; have : (x 1).val < 1024 := this; omega⟩))
      (hw : ∀ k, w (ix3 0 (x 1) k) = (iblk m c 5 t : FVec Ideal S4x1024x1024 .bf16) (ix3 ⟨q, hq⟩ (x 1) k)),
      da (iblk m c 0 t) a w (x 0) (x 1) = Cert.ReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((View.whole main_v21_1).slice (win0_7.rect t)).emb y) := by
    intro x q hq h0 h1 a w ha hw
    refine (da_point m c t a w q hq (x 0) (x 1) ha hw _ _ ?_ ?_).trans (congrArg _ (ix2_eta _))
    · blk_simp [idx t] <;> try omega
    · blk_simp [idx t] <;> try omega
  rcases Classical.em (t.val % 19 = 0) with h | h
  · rw [outsAt0_A m c t h]; frame_out
    canon_tiles x hx
    · exact (pay15_apply _ _ _ _).trans (pt x 3 (by decide) hx0 (by omega) _ _ (ld_a _ 3 _ (by decide) rfl _ _ _) (ld_w _ 3 (by decide) _ _))
    · exact (pay14_apply _ _ _ _).trans (pt x 2 (by decide) hx0 (by omega) _ _ (ld_a _ 2 _ (by decide) rfl _ _ _) (ld_w _ 2 (by decide) _ _))
    · exact (pay10_apply _ _ _ _).trans (pt x 1 (by decide) hx0 (by omega) _ _ (ld_a _ 1 _ (by decide) rfl _ _ _) (ld_w _ 1 (by decide) _ _))
    · exact (pay9_apply _ _ _ _).trans (pt x 0 (by decide) hx0 (by omega) _ _ (ld_a _ 0 _ (by decide) rfl _ _ _) (ld_w _ 0 (by decide) _ _))
  · rw [outsAt0_B m c t h]; frame_out
    canon_tiles x hx
    · exact (pay15_apply _ _ _ _).trans (pt x 3 (by decide) hx0 (by omega) _ _ (ld_a _ 3 _ (by decide) rfl _ _ _) (ld_w _ 3 (by decide) _ _))
    · exact (pay14_apply _ _ _ _).trans (pt x 2 (by decide) hx0 (by omega) _ _ (ld_a _ 2 _ (by decide) rfl _ _ _) (ld_w _ 2 (by decide) _ _))
    · exact (pay10_apply _ _ _ _).trans (pt x 1 (by decide) hx0 (by omega) _ _ (ld_a _ 1 _ (by decide) rfl _ _ _) (ld_w _ 1 (by decide) _ _))
    · exact (pay9_apply _ _ _ _).trans (pt x 0 (by decide) hx0 (by omega) _ _ (ld_a _ 0 _ (by decide) rfl _ _ _) (ld_w _ 0 (by decide) _ _))

/-- `dh1` after the run. -/
theorem final6 (c : Dev nD) : (dats m 0 c).arrAt 6 cfg0.N
    = Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  have e : (outsAt0 m c t.val t.isLt).1 y = k0_pay1 (F := Ideal) (k0_pay3 (iblk m c 1 t)) (k0_pay4 (iblk m c 1 t)) (k0_pay5 (iblk m c 3 t)) (iblk m c 0 t) (dxn m c t) y := by
    rcases Classical.em (t.val % 19 = 0) with h | h
    · rw [outsAt0_A m c t h]; frame_out; rfl
    · rw [outsAt0_B m c t h]; frame_out; rfl
  have hb : t.val * 432 + (y 0).val < 8208 := by
    have h1 : t.val < 19 := (idx t).2.2.2.2.2.2.2.2.2.2
    have h2 : (y 0).val < 432 := (y 0).isLt
    omega
  rw [e]
  refine (congrArg _ (ix2_eta y).symm).trans ?_
  refine (dh1_ref _ _ _ _ _ _ _ _ _ (y 0) (y 1) ⟨t.val * 432 + (y 0).val, hb⟩ ?_ ?_ ?_ (fun k => dxn_point m c t (ix2 (y 0) k) _ rfl)).trans (congrArg _ ?_)
  · intro k
    blk_point [iblk, V_main_arg1, idx t]
  · intro k
    blk_point [iblk, V15, idx t]
  · blk_point [iblk, V_main_arg0, idx t]
  · blk_ext [idx t]

/-- The two cases of the norm's weight gradient. -/
theorem hzero9 (j) : k0_pay2 (F := Ideal) j = 0 := by pointwise [k0_pay2]

/-- One step of the norm's weight gradient: what was there plus this block's 432 rows. -/
theorem hpay9 (n : FVec Ideal S432x1024 .f32) (v21 : FVec Ideal S432x1024 .bf16) (v56 v61 v64 : FVec Ideal S432x1024 .f32) (c2 : Ideal .f32) (v70 : FVec Ideal S1x1024x1024 .bf16) (v74 : FVec Ideal S432x1024 .bf16) (v79 v87 : FVec Ideal S1x1024x1024 .bf16) (acc : FVec Ideal S1x1024 .f32) (j) :
    (k0_pay17 (F := Ideal) n v21 v56 v61 v64 c2 v70 v74 v79 v87 acc j : EReal)
      = acc j + ∑ i : Fin 432, k0_pay16 (F := Ideal) v21 v56 v61 v64 c2 v70 v74 v79 v87 (ix2 i (j 1)) * n (ix2 i (j 1)) := by
  unfold k0_pay17
  generalize k0_pay16 (F := Ideal) v21 v56 v61 v64 c2 v70 v74 v79 v87 = D
  pointwise

/-- `dg` after the run: the sum over all rows. -/
theorem final9 (c : Dev nD) : (dats m 0 c).arrAt 9 cfg0.N
    = Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  rw [after0_9, Pipeline.eq_sum_fin_of_reset_step_apply_of_flush (fun n h => (outsAt0 m c n h).2.2.2) 19 (fun _ => 0)
    (fun p j => (∑ i : Fin 432, dxn m c p (ix2 i (j 1)) * k0_pay4 (F := Ideal) (iblk m c 1 p) (ix2 i (j 1)) : EReal))
    (fun t h j => by rw [outsAt0_A m c t h]; frame_out; rw [hpay9, hzero9]; rfl)
    (fun t h j => by rw [outsAt0_B m c t h]; frame_out; rw [hpay9]; rfl)
    t ((flush0_9 t).mp hf) _, zero_add]
  have z6 : ∀ i, (Cert.ReferenceIdeal.Read.val_main_cst_6 (F := Ideal) i : EReal) = 0 := by
    intro i; unfold Cert.ReferenceIdeal.Read.val_main_cst_6; pointwise
  have z7 : ∀ i, (Cert.ReferenceIdeal.Read.val_main_cst_7 (F := Ideal) i : EReal) = 0 := by
    intro i; unfold Cert.ReferenceIdeal.Read.val_main_cst_7; pointwise
  rw [Cert.ReferenceIdeal.Read.val_main_v81_apply, Cert.ReferenceIdeal.Read.val_main_v37_apply, z7, zero_add, Fin.sum_univ_one, Cert.ReferenceIdeal.Read.val_main_v34_apply, Cert.ReferenceIdeal.Read.val_main_v33_apply, z6, zero_add]
  refine Fin.sum_mul_add_congr fun s k hl => ?_
  rw [Cert.ReferenceIdeal.Read.val_main_v32_apply, v12_apply]
  have ej : Cert.ReferenceIdeal.Read.idx_main_v33 (Cert.ReferenceIdeal.Read.idx_main_v34 (Cert.ReferenceIdeal.Read.idx_main_v37
      (Cert.ReferenceIdeal.Read.idx_main_v81 ((win0_9.blk t).view.emb y)) 0)) ⟨s.val * 432 + k.val, hl⟩ = ix2 ⟨s.val * 432 + k.val, hl⟩ (y 1) := by
    have e1 : ((win0_9.blk t).view.emb y 1).val = (y 1).val := by blk_simp [idx t] <;> try omega
    refine funext fun a => Fin.ext ?_
    match a with
    | ⟨0, _⟩ => rfl
    | ⟨1, _⟩ => show 0 * 1024 + ((win0_9.blk t).view.emb y 1).val = (y 1).val; rw [e1]; omega
  rw [ej]
  have hs : (19 * (t.val / 19) + s.val) = s.val := by
    have h1 : t.val < 19 := (idx t).2.2.2.2.2.2.2.2.2.2
    omega
  have hr : s.val * 432 + k.val = (19 * (t.val / 19) + s.val) * 432 + k.val := by rw [hs]
  show (_ : EReal) = _
  refine (mul_comm (_ : EReal) _).trans (congrArg₂ (fun a b : EReal => a * b) ?_ (dxn_point m c ⟨19 * (t.val / 19) + s.val, _⟩ (ix2 k (y 1)) ⟨s.val * 432 + k.val, hl⟩ hr))
  refine (pay4_apply _ _).trans ?_
  have hx : ∀ l : Fin 1024, (iblk m c 1 ⟨19 * (t.val / 19) + s.val, Pipeline.run_point_lt_of_flush t ((flush0_9 t).mp hf) s⟩ : FVec Ideal S432x1024 .f32) (ix2 k l) = (m ((c : Thread nD τ).loc main_arg1) : FVec Ideal S8208x1024 .f32) (ix2 ⟨s.val * 432 + k.val, hl⟩ l) := by
    intro l
    blk_point [iblk, V_main_arg1, idx ⟨_, Pipeline.run_point_lt_of_flush t ((flush0_9 t).mp hf) s⟩, idx t]
  exact congrArg₂ (fun a b : EReal => a * b) (hx (y 1)) (congrArg Rms.root (funext hx))

end Cert.Proof.MlpDx

end
-- ==== Proof.Alg1.lean ====
module

public import proofs.«01_k».proof.Defs
public import proofs.«01_k».proof.Proof.MlpDxOut
public import proofs.«01_k».proof.Proof.Gen.ReferenceIdeal.Run
public import Idealize.ShloMosaic.Lib.Claim

@[expose] public section

noncomputable section

namespace Cert.Proof

open Idealize.ShloMosaic Idealize.SL.Sem

set_option maxRecDepth 16384 in
/-- The input-gradient call of the feed-forward block and its reference end with equal results. -/
theorem alg1 : Cert.algebraic_KernelIdeal_ReferenceIdeal := by
  pair_intro
  · run_from Cert.KernelIdeal.Value.run_blocks m g
  · run_from Cert.ReferenceIdeal.Value.run m' g'
    · rw [Cert.ReferenceIdeal.Read.val_main_v52_eq, (hagree c).1, (hagree c).2.1, (hagree c).2.2.1, (hagree c).2.2.2.1, (hagree c).2.2.2.2]
      exact (MlpDx.final6 m c).symm
    · exact (Cert.ReferenceIdeal.Read.val_main_v79_eq ..).trans (MlpDx.final7 m c).symm
    · exact (Cert.ReferenceIdeal.Read.val_main_v80_eq ..).trans (MlpDx.final8 m c).symm
    · rw [Cert.ReferenceIdeal.Read.val_main_v81_eq, (hagree c).1, (hagree c).2.1, (hagree c).2.2.1, (hagree c).2.2.2.1, (hagree c).2.2.2.2]
      exact (MlpDx.final9 m c).symm

end Cert.Proof

end
-- ==== Proof.MlpDw.lean ====
/-
  The gradients of the two MLP weights: what the call `bwd_mlp_dw` leaves in its two result arrays. For each of the
  four column slabs the two result blocks are zeroed at the first of nine grid points and added into at each, so
  their final contents are the sums over all 8208 rows.
-/
module

public import proofs.«01_k».proof.Proof.Gen.Kernel2Ideal.Value
public import proofs.«01_k».proof.Proof.Gen.Reference2Ideal.Read
public import Idealize.ShloMosaic.Lib.Claim
public import Idealize.ShloMosaic.Lib.Pipeline.ValueKit

@[expose] public section

set_option maxRecDepth 16384

noncomputable section

namespace Cert.Proof.MlpDw

open Idealize.ShloMosaic Idealize.ShloMosaic.TcCoe Idealize.SL.Sem
open Idealize.ShloMosaic.Pipeline (Dat)
open Cert.Kernel2Ideal Cert.Kernel2Ideal.Gen
open scoped BigOperators

variable (m : (ℓ : Loc nD τ sig) → Buf (Elt Ideal) ℓ)

/-- Where each window's block sits at grid point `t`. -/
theorem idx : ∀ t : Fin cfg0.N, win0_0.index t = ![t.val % 9, 0] ∧ win0_1.index t = ![t.val % 9, t.val / 9]
    ∧ win0_2.index t = ![t.val % 9, t.val / 9] ∧ win0_3.index t = ![t.val % 9, 0]
    ∧ win0_4.index t = ![t.val / 9, 0, 0] ∧ win0_5.index t = ![t.val / 9, 0, 0] ∧ t.val / 9 < 4 :=
  (by decide +kernel : ∀ t : Fin grid0.N, _)

/-- The two zero fills. -/
theorem hzero4 (j) : k0_pay1 (F := Ideal) j = 0 := by pointwise [k0_pay1]
theorem hzero5 (j) : k0_pay2 (F := Ideal) j = 0 := by pointwise [k0_pay2]

/-- One step of `dw_up`: what was there plus this block's 912 rows. -/
theorem hpay4 (acc : FVec Ideal S1x1024x1024 .f32) (x d : FVec Ideal S912x1024 .bf16) (j) :
    k0_pay3 acc x d j = acc j + ∑ k : Fin 912, d (ix2 k (j 2)) * x (ix2 k (j 1)) := by
  have h : k0_pay3 acc x d j = acc j + ∑ k : Fin 912, x (ix2 k (j 1)) * d (ix2 k (j 2)) := by
    pointwise [k0_pay3]
  rw [h]
  congr 1
  exact Finset.sum_congr rfl fun k _ => mul_comm _ _

/-- One step of `dw_down`: what was there plus this block's 912 rows. -/
theorem hpay5 (acc : FVec Ideal S1x1024x1024 .f32) (a : FVec Ideal S912x1024 .bf16) (d : FVec Ideal S912x1024 .f32) (j) :
    k0_pay4 a acc d j = acc j + ∑ k : Fin 912, d (ix2 k (j 2)) * (max (a (ix2 k (j 1))) 0 * max (a (ix2 k (j 1))) 0) := by
  have h : k0_pay4 a acc d j = acc j + ∑ k : Fin 912, (max (a (ix2 k (j 1))) 0 * max (a (ix2 k (j 1))) 0) * d (ix2 k (j 2)) := by
    pointwise [k0_pay4]
  rw [h]
  congr 1
  exact Finset.sum_congr rfl fun k _ => mul_comm _ _

/-- The normalised input the call is given is the reference's. -/
theorem V26 (c : Dev nD) (i : S8208x1024.Idx) : (V m c main_v26 i : EReal)
    = Cert.Reference2Ideal.Read.val_main_v12 (F := Ideal) (m ((c : Thread nD τ).loc main_arg1)) (m ((c : Thread nD τ).loc main_arg2)) i := by
  entry_read; rfl

/-- The gradient at the hidden layer the call is given is the reference's. -/
theorem V27 (c : Dev nD) (i : S8208x4096.Idx) : (V m c main_v27 i : EReal)
    = Cert.Reference2Ideal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i := by
  entry_read; rfl

/-- The hidden layer the call is given is the reference's. -/
theorem V28 (c : Dev nD) (i : S8208x4096.Idx) : (V m c main_v28 i : EReal)
    = Cert.Reference2Ideal.Read.val_main_v13 (F := Ideal) (m ((c : Thread nD τ).loc main_arg1)) (m ((c : Thread nD τ).loc main_arg2)) (m ((c : Thread nD τ).loc main_arg3)) i := by
  entry_read; rfl

/-- `dw_up` after the run: the sum over all rows of the normalised input times the gradient at the hidden layer. -/
theorem final4 (c : Dev nD) : (dats m 0 c).arrAt 4 cfg0.N
    = Cert.Reference2Ideal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 4 _ (by decide +kernel) fun t hf y => ?_
  blk_simp
  rw [after0_4, Pipeline.eq_sum_fin_of_reset_step_apply_of_flush (fun n h => (outsAt0 m c n h).1) 9 (fun _ => 0) _
    (fun t h j => by rw [outsAt0_A m c t h]; frame_out; rw [hpay4, hzero4])
    (fun t h j => by rw [outsAt0_B m c t h]; frame_out; rw [hpay4])
    t ((flush0_4 t).mp hf) _, zero_add,
    Cert.Reference2Ideal.Read.val_main_v32_apply, Cert.Reference2Ideal.Read.val_main_v31_apply,
    Cert.Reference2Ideal.Read.val_main_v30_apply, Cert.Reference2Ideal.Read.val_main_v29_apply]
  refine Fin.sum_mul_add_congr fun s k hl => ?_
  rw [← V26 m c, ← V27 m c]
  blk_point [iblk, idx ⟨_, Pipeline.run_point_lt_of_flush t ((flush0_4 t).mp hf) s⟩, idx t]

/-- The reference's squared relu at an index. -/
theorem sq_relu_apply (x1 : FVec Ideal S8208x1024 .f32) (x2 : FVec Ideal S1024 .f32) (x3 : FVec Ideal S1024x4096 .f32) (i : S8208x4096.Idx) :
    (Cert.Reference2Ideal.Read.val_main_v18 (F := Ideal) x1 x2 x3 i : EReal)
      = max (Cert.Reference2Ideal.Read.val_main_v13 (F := Ideal) x1 x2 x3 i) (0 : EReal)
        * max (Cert.Reference2Ideal.Read.val_main_v13 (F := Ideal) x1 x2 x3 i) (0 : EReal) := by
  rw [Cert.Reference2Ideal.Read.val_main_v18_apply, Cert.Reference2Ideal.Read.val_main_v14_apply]
  generalize Cert.Reference2Ideal.Read.val_main_v13 (F := Ideal) x1 x2 x3 i = z
  have hz : (Cert.Reference2Ideal.Read.val_main_call0_v0 (F := Ideal) i : EReal) = 0 := by
    unfold Cert.Reference2Ideal.Read.val_main_call0_v0 Cert.Reference2Ideal.Read.val_main_call0_cst
    pointwise
  rw [hz]; rfl

/-- `dw_down` after the run: the sum over all rows of the squared relu times `dh2`. -/
theorem final5 (c : Dev nD) : (dats m 0 c).arrAt 5 cfg0.N
    = Cert.Reference2Ideal.Read.val_main_v33 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, Pipeline.eq_sum_fin_of_reset_step_apply_of_flush (fun n h => (outsAt0 m c n h).2) 9 (fun _ => 0) _
    (fun t h j => by rw [outsAt0_A m c t h]; frame_out; rw [hpay5, hzero5])
    (fun t h j => by rw [outsAt0_B m c t h]; frame_out; rw [hpay5])
    t ((flush0_5 t).mp hf) _, zero_add,
    Cert.Reference2Ideal.Read.val_main_v33_apply, Cert.Reference2Ideal.Read.val_main_v22_apply,
    Cert.Reference2Ideal.Read.val_main_v21_apply]
  refine Fin.sum_mul_add_congr fun s k hl => ?_
  rw [sq_relu_apply, ← V28 m c]
  blk_point [iblk, V_main_arg0, idx ⟨_, Pipeline.run_point_lt_of_flush t ((flush0_5 t).mp hf) s⟩, idx t]

end Cert.Proof.MlpDw

end
-- ==== Proof.Alg2.lean ====
module

public import proofs.«01_k».proof.Defs
public import proofs.«01_k».proof.Proof.MlpDw
public import proofs.«01_k».proof.Proof.Gen.Reference2Ideal.Run
public import Idealize.ShloMosaic.Lib.Claim

@[expose] public section

noncomputable section

namespace Cert.Proof

open Idealize.ShloMosaic Idealize.SL.Sem

set_option maxRecDepth 16384 in
/-- The weight-gradient call of the feed-forward block and its reference end with equal results. -/
theorem alg2 : Cert.algebraic_Kernel2Ideal_Reference2Ideal := by
  pair_intro
  · run_from Cert.Kernel2Ideal.Value.run_blocks m g
  · run_from Cert.Reference2Ideal.Value.run m' g'
    · rw [Cert.Reference2Ideal.Read.val_main_v32_eq, (hagree c).1, (hagree c).2.1, (hagree c).2.2.1, (hagree c).2.2.2.1, (hagree c).2.2.2.2]
      exact (MlpDw.final4 m c).symm
    · exact (Cert.Reference2Ideal.Read.val_main_v33_eq ..).trans (MlpDw.final5 m c).symm

end Cert.Proof

end
-- ==== Proof.In.lean ====
/-
  The gradients through the mixer's input projection: what the call `bwd_in` leaves in its three result arrays. The
  projection's weight is copied into a scratch array at the first grid point and stays there; its gradient and the
  gradient of the norm's weight are zeroed at the first grid point and added into at each.
-/
module

public import proofs.«01_k».proof.Proof.Gen.Kernel3Ideal.Value
public import proofs.«01_k».proof.Proof.Gen.Reference3Ideal.Read
public import proofs.«01_k».proof.Proof.Rms
public import Idealize.ShloMosaic.Lib.Claim
public import Idealize.ShloMosaic.Lib.Pipeline.ValueKit
public import Idealize.ShloMosaic.Lib.Pipeline.ReadBack

@[expose] public section

set_option maxRecDepth 16384

noncomputable section

namespace Cert.Proof.In

open Idealize.ShloMosaic Idealize.ShloMosaic.TcCoe Idealize.SL.Sem
open Idealize.ShloMosaic.Pipeline (Dat)
open Cert.Kernel3Ideal Cert.Kernel3Ideal.Gen
open scoped BigOperators

variable (m : (ℓ : Loc nD τ sig) → Buf (Elt Ideal) ℓ)

/-- Where each window's block sits at grid point `t`. -/
theorem idx : ∀ t : Fin cfg0.N, win0_0.index t = ![t.val, 0] ∧ win0_1.index t = ![t.val, 0]
    ∧ win0_2.index t = ![0, 0] ∧ win0_3.index t = ![0, 0, 0] ∧ win0_4.index t = ![t.val, 0] ∧ win0_5.index t = ![t.val, 0]
    ∧ win0_6.index t = ![0, 0, 0] ∧ win0_7.index t = ![0, 0] ∧ t.val < 19 :=
  (by decide +kernel : ∀ t : Fin grid0.N, _)

/-- The gradient at the projection the call is given. -/
theorem V0 (c : Dev nD) (i : S8208x1536.Idx) : (V m c main_v0 i : EReal) = m ((c : Thread nD τ).loc main_arg0) i := by
  entry_read; rfl

/-- The norm's weight the call is given. -/
theorem V1 (c : Dev nD) (i : S1x1024.Idx) : (V m c main_v1 i : EReal)
    = m ((c : Thread nD τ).loc main_arg2) (ix1 (i 1)) := by
  entry_read
  pointwise
  try blk_ext

/-- Slab `q` of the projection the call is given holds its columns from `384 q`. -/
theorem V4 (c : Dev nD) (i : S4x1024x384.Idx) : (V m c main_v4 i : EReal)
    = m ((c : Thread nD τ).loc main_arg3) (ix2 (i 1) ⟨(i 0).val * 384 + (i 2).val, by have h0 : (i 0).val < 4 := (i 0).isLt; have h2 : (i 2).val < 384 := (i 2).isLt; omega⟩) := by
  entry_read
  pointwise
  blk_ext

/-- A load of slab `q`. -/
theorem ld_w {Val : EltTy → Type} {e : EltTy} (B : S4x1024x384.Idx → Val e) (q : ℕ) (hq : q < 4) (inb) (j : Fin 1024) (k : Fin 384) :
    View.ld B (Rect.unit (s := S4x1024x384) ![q, 0, 0] ![1, 1024, 384] inb) (ix3 0 j k) = B (ix3 ⟨q, hq⟩ j k) := by
  rw [View.ld_apply]
  refine congrArg B (funext fun a => Fin.ext ?_)
  match a with
  | ⟨0, _⟩ => show q + 1 * 0 = q; omega
  | ⟨1, _⟩ => show 0 + 1 * j.val = j.val; omega
  | ⟨2, _⟩ => show 0 + 1 * k.val = k.val; omega

theorem pay6_apply (w : FVec Ideal S1x1024x384 .bf16) (y) : (k0_pay6 (F := Ideal) w y : EReal) = w (ix3 0 (y 0) (y 1)) := by
  pointwise [k0_pay6]
theorem pay7_apply (w : FVec Ideal S1x1024x384 .bf16) (y) : (k0_pay7 (F := Ideal) w y : EReal) = w (ix3 0 (y 0) (y 1)) := by
  pointwise [k0_pay7]
theorem pay8_apply (w : FVec Ideal S1x1024x384 .bf16) (y) : (k0_pay8 (F := Ideal) w y : EReal) = w (ix3 0 (y 0) (y 1)) := by
  pointwise [k0_pay8]
theorem pay9_apply (w : FVec Ideal S1x1024x384 .bf16) (y) : (k0_pay9 (F := Ideal) w y : EReal) = w (ix3 0 (y 0) (y 1)) := by
  pointwise [k0_pay9]

/-- The projection's weight, as the scratch array holds it. -/
def W (c : Dev nD) : FVec Ideal S1024x1536 .bf16 := fun i => (m ((c : Thread nD τ).loc main_arg3) : FVec Ideal S1024x1536 .f32) i

/-- One entry of a stored slab. -/
theorem slab (c : Dev nD) (t : Fin cfg0.N) (y : S1024x1536.Idx) (x : S1024x384.Idx) (q : ℕ) (hq : q < 4) (inb)
    (h0 : (y 0).val = (x 0).val) (h1 : (y 1).val = 384 * q + (x 1).val) :
    (View.ld (iblk m c 3 t) (Rect.unit (s := S4x1024x384) ![q, 0, 0] ![1, 1024, 384] inb) (ix3 0 (x 0) (x 1)) : EReal) = W m c y := by
  refine (ld_w _ q hq inb (x 0) (x 1)).trans ?_
  unfold W
  blk_point [iblk, V4, idx t]

/-- The four slabs stored at the first grid point make the projection's weight. -/
theorem tiles (c : Dev nD) (t : Fin cfg0.N) (y : S1024x1536.Idx) :
    (View.canon [(⟨Rect.unit ![0, 1152] ![1024, 384] inb_S1024x1536_S1024x384_0_1152,
            k0_pay9 (View.ld (iblk m c 3 t) (Rect.unit ![3, 0, 0] ![1, 1024, 384] inb_S4x1024x384_S1x1024x384_3_0_0))⟩ : View.Piece (Elt Ideal) S1024x1536 .bf16),
          ⟨Rect.unit ![0, 768] ![1024, 384] inb_S1024x1536_S1024x384_0_768,
            k0_pay8 (View.ld (iblk m c 3 t) (Rect.unit ![2, 0, 0] ![1, 1024, 384] inb_S4x1024x384_S1x1024x384_2_0_0))⟩,
          ⟨Rect.unit ![0, 384] ![1024, 384] inb_S1024x1536_S1024x384_0_384,
            k0_pay7 (View.ld (iblk m c 3 t) (Rect.unit ![1, 0, 0] ![1, 1024, 384] inb_S4x1024x384_S1x1024x384_1_0_0))⟩,
          ⟨Rect.unit ![0, 0] ![1024, 384] inb_S1024x1536_S1024x384_0_0,
            k0_pay6 (View.ld (iblk m c 3 t) (Rect.unit ![0, 0, 0] ![1, 1024, 384] inb_S4x1024x384_S1x1024x384_0_0_0))⟩] y : EReal) = W m c y := by
  canon_tiles x hx
  · exact (pay9_apply _ _).trans (slab m c t y x 3 (by decide) _ hx0 (by omega))
  · exact (pay8_apply _ _).trans (slab m c t y x 2 (by decide) _ hx0 (by omega))
  · exact (pay7_apply _ _).trans (slab m c t y x 1 (by decide) _ hx0 (by omega))
  · exact (pay6_apply _ _).trans (slab m c t y x 0 (by decide) _ hx0 (by omega))

/-- The scratch copy of the projection's weight after any grid point. -/
theorem wfull (c : Dev nD) (n : ℕ) (hn : n < cfg0.N) : (outsAt0 m c n hn).2.2.2.1 = W m c := by
  induction n with
  | zero =>
    rw [outsAt0_A m c ⟨0, hn⟩ rfl (show ¬(0 % 19 = 18) by decide)]; frame_out
    exact funext fun y => tiles m c _ y
  | succ n ih =>
    have h0 : ¬(n + 1) % 19 = 0 := by have := (idx ⟨n + 1, hn⟩).2.2.2.2.2.2.2.2; simp only at this; omega
    rcases Classical.em ((n + 1) % 19 = 18) with h1 | h1
    · refine Eq.trans ?_ (ih (by omega))
      rw [outsAt0_C m c ⟨n + 1, hn⟩ h0 h1]
      rfl
    · refine Eq.trans ?_ (ih (by omega))
      rw [outsAt0_B m c ⟨n + 1, hn⟩ h0 h1]
      rfl

theorem hzero10 (j) : k0_pay10 (F := Ideal) j = 0 := by pointwise [k0_pay10]
theorem hzero11 (j) : k0_pay11 (F := Ideal) j = 0 := by pointwise [k0_pay11]

/-- The kernel's reciprocal root of a row of its block. -/
theorem pay12_apply (h : FVec Ideal S432x1024 .f32) (y) : (k0_pay12 (F := Ideal) h y : EReal) = Rms.root (fun k => h (ix2 (y 0) k)) := by
  unfold Rms.root Rms.var
  pointwise [k0_pay12]

theorem pay13_apply (h : FVec Ideal S432x1024 .f32) (y) : (k0_pay13 (F := Ideal) h y : EReal) = h y * Rms.root (fun k => h (ix2 (y 0) k)) := by
  have e : (k0_pay13 (F := Ideal) h y : EReal) = h y * k0_pay12 (F := Ideal) h (ix2 (y 0) 0) := by
    unfold k0_pay13
    generalize k0_pay12 (F := Ideal) h = z
    pointwise
  rw [e, pay12_apply]
  rfl

theorem pay16_apply (d : FVec Ideal S432x1536 .bf16) (w : FVec Ideal S1024x1536 .bf16) (y) :
    (k0_pay16 (F := Ideal) d w y : EReal) = ∑ k : Fin 1536, d (ix2 (y 0) k) * w (ix2 (y 1) k) := by
  pointwise [k0_pay16, k0_pay15]

/-- The kernel's gradient at the block's input. -/
theorem pay1_apply (r : FVec Ideal S432x1 .f32) (n d D : FVec Ideal S432x1024 .f32) (g : FVec Ideal S1x1024 .f32) (y) :
    (k0_pay1 (F := Ideal) r n (k0_pay14 g) D d y : EReal)
      = d y + r (ix2 (y 0) 0) * (D y * g (ix2 0 (y 1)) - n y * Ideal.div (∑ k : Fin 1024, D (ix2 (y 0) k) * g (ix2 0 k) * n (ix2 (y 0) k)) (Ideal.ofBits FTy.f32 0x44800000#32)) := by
  pointwise [k0_pay1, k0_pay14]

/-- One step of the norm's weight gradient: what was there plus this block's 432 rows. -/
theorem pay18_apply (h : FVec Ideal S432x1024 .f32) (d : FVec Ideal S432x1536 .bf16) (w : FVec Ideal S1024x1536 .bf16) (acc : FVec Ideal S1x1024 .f32) (j) :
    (k0_pay18 (F := Ideal) h d w acc j : EReal)
      = acc j + ∑ i : Fin 432, k0_pay16 (F := Ideal) d w (ix2 i (j 1)) * k0_pay13 (F := Ideal) h (ix2 i (j 1)) := by
  unfold k0_pay18
  generalize k0_pay16 (F := Ideal) d w = D
  generalize k0_pay13 (F := Ideal) h = n
  pointwise

/-- One step of the projection's weight gradient: what was there plus this block's 432 rows. -/
theorem pay17_apply (h : FVec Ideal S432x1024 .f32) (g : FVec Ideal S1x1024 .f32) (d : FVec Ideal S432x1536 .bf16) (acc : FVec Ideal S1024x1536 .f32) (j) :
    (k0_pay17 (F := Ideal) h g d acc j : EReal)
      = acc j + ∑ i : Fin 432, k0_pay13 (F := Ideal) h (ix2 i (j 0)) * g (ix2 0 (j 0)) * d (ix2 i (j 1)) := by
  unfold k0_pay17
  generalize k0_pay13 (F := Ideal) h = n
  pointwise [k0_pay14, k0_pay15]

/-- The weight as the first grid point reads it back. -/
theorem cov (c : Dev nD) (t : Fin cfg0.N) (h0 : t.val % 19 = 0) (h1 : ¬t.val % 19 = 18) :
    (View.whole cc0_scratch0).readCov
        [(⟨Rect.unit ![0, 1152] ![1024, 384] inb_S1024x1536_S1024x384_0_1152,
            k0_pay9 (View.ld (iblk m c 3 t) (Rect.unit ![3, 0, 0] ![1, 1024, 384] inb_S4x1024x384_S1x1024x384_3_0_0))⟩ : View.Piece (Elt Ideal) S1024x1536 .bf16),
          ⟨Rect.unit ![0, 768] ![1024, 384] inb_S1024x1536_S1024x384_0_768,
            k0_pay8 (View.ld (iblk m c 3 t) (Rect.unit ![2, 0, 0] ![1, 1024, 384] inb_S4x1024x384_S1x1024x384_2_0_0))⟩,
          ⟨Rect.unit ![0, 384] ![1024, 384] inb_S1024x1536_S1024x384_0_384,
            k0_pay7 (View.ld (iblk m c 3 t) (Rect.unit ![1, 0, 0] ![1, 1024, 384] inb_S4x1024x384_S1x1024x384_1_0_0))⟩,
          ⟨Rect.unit ![0, 0] ![1024, 384] inb_S1024x1536_S1024x384_0_0,
            k0_pay6 (View.ld (iblk m c 3 t) (Rect.unit ![0, 0, 0] ![1, 1024, 384] inb_S4x1024x384_S1x1024x384_0_0_0))⟩]
        (Rect.unit ![0, 0] ![1024, 1536] inb_S1024x1536_S1024x1536_0_0).toLoadRect = W m c := by
  rw [View.readCov_eq_canon']
  refine funext fun y => ?_
  refine (tiles m c t _).trans (congrArg (W m c) ?_)
  refine funext fun a => Fin.ext ?_
  match a with
  | ⟨0, _⟩ => show 0 + 1 * (y 0).val = (y 0).val; omega
  | ⟨1, _⟩ => show 0 + 1 * (y 1).val = (y 1).val; omega

/-- The gradient at the call's input after any grid point. -/
theorem dh_at (c : Dev nD) (t : Fin cfg0.N) : (outsAt0 m c t.val t.isLt).1
    = k0_pay1 (F := Ideal) (k0_pay12 (iblk m c 1 t)) (k0_pay13 (iblk m c 1 t)) (k0_pay14 (iblk m c 2 t)) (k0_pay16 (iblk m c 0 t) (W m c)) (iblk m c 4 t) := by
  rcases Classical.em (t.val % 19 = 0) with h0 | h0
  · have h1 : ¬t.val % 19 = 18 := by omega
    rw [outsAt0_A m c t h0 h1]; frame_out
    exact congrArg (fun w => k0_pay1 (F := Ideal) (k0_pay12 (iblk m c 1 t)) (k0_pay13 (iblk m c 1 t)) (k0_pay14 (iblk m c 2 t)) (k0_pay16 (iblk m c 0 t) w) (iblk m c 4 t)) (cov m c t h0 h1)
  · rcases Classical.em (t.val % 19 = 18) with h1 | h1
    · rw [outsAt0_C m c t h0 h1]; frame_out [read_unread_whole, wfull]
    · rw [outsAt0_B m c t h0 h1]; frame_out [read_unread_whole, wfull]

theorem dg_first (c : Dev nD) (t : Fin cfg0.N) (h0 : t.val % 19 = 0) : (outsAt0 m c t.val t.isLt).2.2.1
    = k0_pay18 (F := Ideal) (iblk m c 1 t) (iblk m c 0 t) (W m c) (k0_pay11 (F := Ideal)) := by
  have h1 : ¬t.val % 19 = 18 := by omega
  rw [outsAt0_A m c t h0 h1]; frame_out
  exact congrArg (fun w => k0_pay18 (F := Ideal) (iblk m c 1 t) (iblk m c 0 t) w (k0_pay11 (F := Ideal))) (cov m c t h0 h1)

theorem dg_next (c : Dev nD) (t : Fin cfg0.N) (h0 : ¬t.val % 19 = 0) : (outsAt0 m c t.val t.isLt).2.2.1
    = k0_pay18 (F := Ideal) (iblk m c 1 t) (iblk m c 0 t) (W m c) (outsAt0 m c (t.val - 1) (Nat.lt_of_le_of_lt (Nat.sub_le _ _) t.isLt)).2.2.1 := by
  rcases Classical.em (t.val % 19 = 18) with h1 | h1
  · rw [outsAt0_C m c t h0 h1]; frame_out [read_unread_whole, wfull]
  · rw [outsAt0_B m c t h0 h1]; frame_out [read_unread_whole, wfull]

theorem acc_first (c : Dev nD) (t : Fin cfg0.N) (h0 : t.val % 19 = 0) : (outsAt0 m c t.val t.isLt).2.2.2.2
    = k0_pay17 (F := Ideal) (iblk m c 1 t) (iblk m c 2 t) (iblk m c 0 t) (k0_pay10 (F := Ideal)) := by
  have h1 : ¬t.val % 19 = 18 := by omega
  rw [outsAt0_A m c t h0 h1]; frame_out

theorem acc_next (c : Dev nD) (t : Fin cfg0.N) (h0 : ¬t.val % 19 = 0) : (outsAt0 m c t.val t.isLt).2.2.2.2
    = k0_pay17 (F := Ideal) (iblk m c 1 t) (iblk m c 2 t) (iblk m c 0 t) (outsAt0 m c (t.val - 1) (Nat.lt_of_le_of_lt (Nat.sub_le _ _) t.isLt)).2.2.2.2 := by
  rcases Classical.em (t.val % 19 = 18) with h1 | h1
  · rw [outsAt0_C m c t h0 h1]; frame_out [read_unread_whole]
  · rw [outsAt0_B m c t h0 h1]; frame_out [read_unread_whole]

/-- The columns from `384 q` of the accumulated gradient, read back after its last store. -/
theorem ld_acc (A : FVec Ideal S1024x1536 .f32) (q o : ℕ) (hq : q < 4) (ho : o = 384 * q) (inb inb') (i : Fin 1024) (j : Fin 384) :
    ((View.whole cc0_scratch1).readCov [(⟨Rect.unit ![0, 0] ![1024, 1536] inb', A⟩ : View.Piece (Elt Ideal) S1024x1536 .f32)]
      (Rect.unit (s := S1024x1536) ![0, o] ![1024, 384] inb).toLoadRect (ix2 i j) : EReal) = A (ix2 i ⟨384 * q + j.val, by omega⟩) := by
  subst ho
  refine (congrFun (View.readCov_fill (Val := Elt Ideal) (View.whole cc0_scratch1) inb' A [] (Rect.unit (s := S1024x1536) ![0, 384 * q] ![1024, 384] inb) (by decide)) (ix2 i j)).trans ?_
  rw [View.ld_apply]
  refine congrArg A (funext fun a => Fin.ext ?_)
  match a with
  | ⟨0, _⟩ => show 0 + 1 * i.val = i.val; omega
  | ⟨1, _⟩ => show 384 * q + 1 * j.val = 384 * q + j.val; omega

theorem pay2_apply (w : FVec Ideal S1024x384 .f32) (y) : (k0_pay2 (F := Ideal) w y : EReal) = w (ix2 (y 1) (y 2)) := by
  pointwise [k0_pay2]
theorem pay3_apply (w : FVec Ideal S1024x384 .f32) (y) : (k0_pay3 (F := Ideal) w y : EReal) = w (ix2 (y 1) (y 2)) := by
  pointwise [k0_pay3]
theorem pay4_apply (w : FVec Ideal S1024x384 .f32) (y) : (k0_pay4 (F := Ideal) w y : EReal) = w (ix2 (y 1) (y 2)) := by
  pointwise [k0_pay4]
theorem pay5_apply (w : FVec Ideal S1024x384 .f32) (y) : (k0_pay5 (F := Ideal) w y : EReal) = w (ix2 (y 1) (y 2)) := by
  pointwise [k0_pay5]

/-- What the last grid point stores of the projection's weight gradient. -/
theorem dw_at (c : Dev nD) (t : Fin cfg0.N) (h0 : ¬t.val % 19 = 0) (h1 : t.val % 19 = 18) (y : S4x1024x384.Idx) :
    ((outsAt0 m c t.val t.isLt).2.1 y : EReal) = (outsAt0 m c t.val t.isLt).2.2.2.2 (ix2 (y 1) ⟨384 * (y 0).val + (y 2).val, by have h0 : (y 0).val < 4 := (y 0).isLt; have h2 : (y 2).val < 384 := (y 2).isLt; omega⟩) := by
  rw [acc_next m c t h0, outsAt0_C m c t h0 h1]; frame_out [read_unread_whole]
  generalize k0_pay17 (F := Ideal) (iblk m c 1 t) (iblk m c 2 t) (iblk m c 0 t) (outsAt0 m c (t.val - 1) (Nat.lt_of_le_of_lt (Nat.sub_le _ _) t.isLt)).2.2.2.2 = A
  have e : ∀ (q : ℕ) (hq : q < 4) (x : S1x1024x384.Idx), (y 0).val = q + (x 0).val → (x 0).val < 1 → (y 1).val = (x 1).val → (y 2).val = (x 2).val →
      ∀ h, (A (ix2 (x 1) ⟨384 * q + (x 2).val, h⟩) : EReal) = A (ix2 (y 1) ⟨384 * (y 0).val + (y 2).val, by have h0 : (y 0).val < 4 := (y 0).isLt; have h2 : (y 2).val < 384 := (y 2).isLt; omega⟩) := by
    intro q hq x h0 hl h1 h2 h
    refine congrArg A (funext fun a => Fin.ext ?_)
    match a with
    | ⟨0, _⟩ => exact h1.symm
    | ⟨1, _⟩ => show 384 * q + (x 2).val = 384 * (y 0).val + (y 2).val; omega
  canon_tiles x hx
  · exact (pay5_apply _ _).trans ((ld_acc A 3 _ (by decide) rfl _ _ _ _).trans (e 3 (by decide) x hx0 x0_lt hx1 hx2 _))
  · exact (pay4_apply _ _).trans ((ld_acc A 2 _ (by decide) rfl _ _ _ _).trans (e 2 (by decide) x hx0 x0_lt hx1 hx2 _))
  · exact (pay3_apply _ _).trans ((ld_acc A 1 _ (by decide) rfl _ _ _ _).trans (e 1 (by decide) x hx0 x0_lt hx1 hx2 _))
  · exact (pay2_apply _ _).trans ((ld_acc A 0 _ (by decide) rfl _ _ _ _).trans (e 0 (by decide) x (by omega) x0_lt hx1 hx2 _))

end Cert.Proof.In

end
-- ==== Proof.InOut.lean ====
/-
  The three results of the call `bwd_in` are the reference's gradients.
-/
module

public import proofs.«01_k».proof.Proof.Gen.Kernel3Ideal.Value
public import proofs.«01_k».proof.Proof.Gen.Reference3Ideal.Read
public import proofs.«01_k».proof.Proof.In
public import Idealize.ShloMosaic.Lib.Claim
public import Idealize.ShloMosaic.Lib.Pipeline.ValueKit
public import Idealize.ShloMosaic.Lib.Pipeline.ReadBack

@[expose] public section

set_option maxRecDepth 16384

noncomputable section

namespace Cert.Proof.In

open Idealize.ShloMosaic Idealize.ShloMosaic.TcCoe Idealize.SL.Sem
open Idealize.ShloMosaic.Pipeline (Dat)
open Cert.Kernel3Ideal Cert.Kernel3Ideal.Gen
open scoped BigOperators

variable (m : (ℓ : Loc nD τ sig) → Buf (Elt Ideal) ℓ)

section ref

variable (x0 : FVec Ideal S8208x1536 .f32) (x1 : FVec Ideal S8208x1024 .f32) (x2 : FVec Ideal S1024 .f32) (x3 : FVec Ideal S1024x1536 .f32) (x4 : FVec Ideal S8208x1024 .f32)

/-- The row `r` of an array. -/
abbrev row (x : FVec Ideal S8208x1024 .f32) (r : Fin 8208) : Fin 1024 → EReal := fun k => x (ix2 r k)

theorem v6_apply (i) : (Cert.Reference3Ideal.Read.val_main_v6 (F := Ideal) x1 i : EReal) = Rms.var (row x1 (i 0)) := by
  unfold Rms.var row
  pointwise [Cert.Reference3Ideal.Read.val_main_v6, Cert.Reference3Ideal.Read.val_main_v5, Cert.Reference3Ideal.Read.val_main_v4, Cert.Reference3Ideal.Read.val_main_v3, Cert.Reference3Ideal.Read.val_main_v2, Cert.Reference3Ideal.Read.val_main_v1, Cert.Reference3Ideal.Read.val_main_v0, Cert.Reference3Ideal.Read.val_main_cst, Cert.Reference3Ideal.Read.val_main_cst_0, Cert.Reference3Ideal.Read.val_main_cst_1]

theorem v7_apply (i) : (Cert.Reference3Ideal.Read.val_main_v7 (F := Ideal) x1 i : EReal) = Rms.root (row x1 (i 0)) := by
  rw [Cert.Reference3Ideal.Read.val_main_v7_apply, Rms.root, ← v6_apply x1 i]
  rfl

theorem v12_apply (i) : (Cert.Reference3Ideal.Read.val_main_v12 (F := Ideal) x1 i : EReal) = x1 i * Rms.root (row x1 (i 0)) := by
  rw [Cert.Reference3Ideal.Read.val_main_v12_apply, Cert.Reference3Ideal.Read.val_main_v11_apply, v7_apply]
  rfl

theorem v15_apply (i) : (Cert.Reference3Ideal.Read.val_main_v15 (F := Ideal) x1 x2 i : EReal) = x1 i * Rms.root (row x1 (i 0)) * x2 (ix1 (i 1)) := by
  rw [Cert.Reference3Ideal.Read.val_main_v15_apply, v12_apply, Cert.Reference3Ideal.Read.val_main_v14_apply, Cert.Reference3Ideal.Read.val_main_v13_apply]
  exact congrArg (_ * ·) (congrArg x2 (funext fun a => Fin.ext (by match a with | ⟨0, _⟩ => rfl)))

theorem v24_apply (i) : (Cert.Reference3Ideal.Read.val_main_v24 (F := Ideal) x0 x2 x3 i : EReal)
    = Cert.Reference3Ideal.Read.val_main_v19 (F := Ideal) x0 x3 i * x2 (ix1 (i 1)) := by
  rw [Cert.Reference3Ideal.Read.val_main_v24_apply, Cert.Reference3Ideal.Read.val_main_v23_apply, Cert.Reference3Ideal.Read.val_main_v13_apply]
  exact congrArg (_ * ·) (congrArg x2 (funext fun a => Fin.ext (by match a with | ⟨0, _⟩ => rfl)))

/-- The reference's row factor: the sum of the row times the incoming gradient, times the derivative of the root. -/
theorem v36_apply (r : Fin 8208) (j : Fin 1024) : (Cert.Reference3Ideal.Read.val_main_v36 (F := Ideal) x0 x1 x2 x3 (ix2 r j) : EReal)
      = Ideal.div ((∑ k : Fin 1024, row x1 r k * Cert.Reference3Ideal.Read.val_main_v24 (F := Ideal) x0 x2 x3 (ix2 r k)) * (Ideal.ofBits FTy.f32 0xBF000000#32 * Ideal.div (Rms.root (row x1 r)) (Rms.var (row x1 r)))) (Ideal.ofBits FTy.f32 0x44800000#32) := by
  have z5 : ∀ i, (Cert.Reference3Ideal.Read.val_main_cst_5 (F := Ideal) i : EReal) = 0 := by
    intro i; unfold Cert.Reference3Ideal.Read.val_main_cst_5; pointwise
  have z7 : ∀ i, (Cert.Reference3Ideal.Read.val_main_cst_7 (F := Ideal) i : EReal) = 0 := by
    intro i; unfold Cert.Reference3Ideal.Read.val_main_cst_7; pointwise
  rw [Cert.Reference3Ideal.Read.val_main_v36_apply, Cert.Reference3Ideal.Read.val_main_v35_apply, z7, zero_add, Fin.sum_univ_one, Cert.Reference3Ideal.Read.val_main_v34_apply, Cert.Reference3Ideal.Read.val_main_v32_apply, Cert.Reference3Ideal.Read.val_main_v28_apply, Cert.Reference3Ideal.Read.val_main_v27_apply, z5, zero_add,
    Cert.Reference3Ideal.Read.val_main_v10_apply, Cert.Reference3Ideal.Read.val_main_v8_apply, v7_apply, v6_apply, Cert.Reference3Ideal.Read.val_main_v9_apply, Cert.Reference3Ideal.Read.val_main_cst_2_apply, Cert.Reference3Ideal.Read.val_main_v33_apply, Cert.Reference3Ideal.Read.val_main_cst_6_apply]
  refine congrArg (fun z : EReal => Ideal.div (z * _) _) (Finset.sum_congr rfl fun k _ => ?_)
  rw [Cert.Reference3Ideal.Read.val_main_v26_apply]
  have e : Cert.Reference3Ideal.Read.idx_main_v27 (Cert.Reference3Ideal.Read.idx_main_v28 (Cert.Reference3Ideal.Read.idx_main_v35 (Cert.Reference3Ideal.Read.idx_main_v36 (ix2 r j)) 0)) k = ix2 r k :=
    funext fun a => Fin.ext (by match a with | ⟨0, _⟩ => exact (by show r.val * 1 + 0 = r.val; omega) | ⟨1, _⟩ => rfl)
  rw [e]
  rfl

/-- The gradient at the call's input is the reference's. -/
theorem dh_ref (h d D : FVec Ideal S432x1024 .f32) (g : FVec Ideal S1x1024 .f32) (i : Fin 432) (j : Fin 1024) (r : Fin 8208)
    (hh : ∀ k, h (ix2 i k) = x1 (ix2 r k)) (hg : ∀ k, g (ix2 0 k) = x2 (ix1 k)) (hd : d (ix2 i j) = x4 (ix2 r j))
    (hD : ∀ k, D (ix2 i k) = Cert.Reference3Ideal.Read.val_main_v19 (F := Ideal) x0 x3 (ix2 r k)) :
    (k0_pay1 (F := Ideal) (k0_pay12 h) (k0_pay13 h) (k0_pay14 g) D d (ix2 i j) : EReal) = Cert.Reference3Ideal.Read.val_main_v40 (F := Ideal) x0 x1 x2 x3 x4 (ix2 r j) := by
  have ct : ∀ k, D (ix2 i k) * g (ix2 0 k) = (Cert.Reference3Ideal.Read.val_main_v24 (F := Ideal) x0 x2 x3 (ix2 r k) : EReal) := by
    intro k
    rw [v24_apply, hD, hg]
    rfl
  have hrow : (fun k => h (ix2 i k)) = row x1 r := funext hh
  have p3 : (k0_pay12 (F := Ideal) h (ix2 i 0) : EReal) = Rms.root (row x1 r) := (pay12_apply h _).trans (congrArg Rms.root hrow)
  have p4 : ∀ k, (k0_pay13 (F := Ideal) h (ix2 i k) : EReal) = row x1 r k * Rms.root (row x1 r) := fun k =>
    (pay13_apply h _).trans (congrArg₂ (fun a b : EReal => a * b) (hh k) (congrArg Rms.root hrow))
  refine (pay1_apply _ _ _ _ _ _).trans ?_
  show d (ix2 i j) + k0_pay12 (F := Ideal) h (ix2 i 0) * (D (ix2 i j) * g (ix2 0 j) - k0_pay13 (F := Ideal) h (ix2 i j)
    * Ideal.div (∑ k : Fin 1024, D (ix2 i k) * g (ix2 0 k) * k0_pay13 (F := Ideal) h (ix2 i k)) (Ideal.ofBits FTy.f32 0x44800000#32)) = _
  simp only [p3, p4, ct]
  refine (Rms.bwd (row x1 r) (fun k => Cert.Reference3Ideal.Read.val_main_v24 (F := Ideal) x0 x2 x3 (ix2 r k)) (d (ix2 i j)) j).trans ?_
  rw [Cert.Reference3Ideal.Read.val_main_v40_apply, Cert.Reference3Ideal.Read.val_main_v39_apply, Cert.Reference3Ideal.Read.val_main_v38_apply, Cert.Reference3Ideal.Read.val_main_v37_apply, v36_apply, Cert.Reference3Ideal.Read.val_main_v31_apply, Cert.Reference3Ideal.Read.val_main_v30_apply, Cert.Reference3Ideal.Read.val_main_v29_apply, v7_apply, hd]
  rfl

end ref

/-- The gradient at the normalised input at a grid point is the reference's. -/
theorem dxn_point (c : Dev nD) (t : Fin cfg0.N) (y : S432x1024.Idx) (r : Fin 8208) (hr : r.val = t.val * 432 + (y 0).val) :
    (k0_pay16 (F := Ideal) (iblk m c 0 t) (W m c) y : EReal) = Cert.Reference3Ideal.Read.val_main_v19 (F := Ideal) (m ((c : Thread nD τ).loc main_arg0)) (m ((c : Thread nD τ).loc main_arg3)) (ix2 r (y 1)) := by
  rw [pay16_apply, Cert.Reference3Ideal.Read.val_main_v19_apply]
  refine Finset.sum_congr rfl fun k _ => ?_
  have e2 : Cert.Reference3Ideal.Read.ridx_main_v19 (ix2 r (y 1)) k = ix2 (y 1) k := funext fun a => Fin.ext (by match a with | ⟨0, _⟩ => rfl | ⟨1, _⟩ => rfl)
  rw [e2]
  refine congrArg₂ (fun a b : EReal => a * b) ?_ rfl
  blk_point [iblk, V0, idx t]

/-- `dh` after the run: the gradient at the call's input. -/
theorem final5 (c : Dev nD) : (dats m 0 c).arrAt 5 cfg0.N
    = Cert.Reference3Ideal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5, dh_at]
  have hb : t.val * 432 + (y 0).val < 8208 := by
    have h1 : t.val < 19 := (idx t).2.2.2.2.2.2.2.2
    have h2 : (y 0).val < 432 := (y 0).isLt
    omega
  refine (congrArg _ (ix2_eta y).symm).trans ?_
  refine (dh_ref _ _ _ _ _ _ _ _ _ (y 0) (y 1) ⟨t.val * 432 + (y 0).val, hb⟩ ?_ ?_ ?_ (fun k => dxn_point m c t (ix2 (y 0) k) _ rfl)).trans (congrArg _ ?_)
  · intro k
    blk_point [iblk, V_main_arg1, idx t]
  · intro k
    blk_point [iblk, V1, idx t]
  · blk_point [iblk, V_main_arg4, idx t]
  · blk_ext [idx t]

/-- The normalised input at a grid point is the reference's. -/
theorem xn_point (c : Dev nD) (t : Fin cfg0.N) (k : Fin 432) (j : Fin 1024) (r : Fin 8208) (hr : r.val = t.val * 432 + k.val) :
    (k0_pay13 (F := Ideal) (iblk m c 1 t) (ix2 k j) : EReal) = Cert.Reference3Ideal.Read.val_main_v12 (F := Ideal) (m ((c : Thread nD τ).loc main_arg1)) (ix2 r j) := by
  rw [v12_apply]
  refine (pay13_apply _ _).trans ?_
  have hx : ∀ l : Fin 1024, (iblk m c 1 t : FVec Ideal S432x1024 .f32) (ix2 k l) = (m ((c : Thread nD τ).loc main_arg1) : FVec Ideal S8208x1024 .f32) (ix2 r l) := by
    intro l
    blk_point [iblk, V_main_arg1, idx t]
  exact congrArg₂ (fun a b : EReal => a * b) (hx j) (congrArg Rms.root (funext hx))

/-- The norm's weight at a grid point. -/
theorem g_point (c : Dev nD) (t : Fin cfg0.N) (j : Fin 1024) (r : Fin 8208) :
    ((iblk m c 2 t : FVec Ideal S1x1024 .f32) (ix2 0 j) : EReal) = Cert.Reference3Ideal.Read.val_main_v14 (F := Ideal) (m ((c : Thread nD τ).loc main_arg2)) (ix2 r j) := by
  rw [Cert.Reference3Ideal.Read.val_main_v14_apply, Cert.Reference3Ideal.Read.val_main_v13_apply]
  blk_point [iblk, V1, idx t]

/-- `dw` after the run: the projection's weight gradient, in its four slabs. -/
theorem final6 (c : Dev nD) : (dats m 0 c).arrAt 6 cfg0.N
    = Cert.Reference3Ideal.Read.val_main_v42 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  have h18 : t.val % 19 = 18 := (flush0_6 t).mp hf
  rw [after0_6, dw_at m c t (by omega) h18, Pipeline.eq_sum_fin_of_reset_step_apply_of_flush (fun n h => (outsAt0 m c n h).2.2.2.2) 19 (fun _ => 0)
    (fun p j => (∑ i : Fin 432, k0_pay13 (F := Ideal) (iblk m c 1 p) (ix2 i (j 0)) * (iblk m c 2 p : FVec Ideal S1x1024 .f32) (ix2 0 (j 0)) * (iblk m c 0 p : FVec Ideal S432x1536 .bf16) (ix2 i (j 1)) : EReal))
    (fun t h j => by rw [acc_first m c t h, pay17_apply, hzero10])
    (fun t h j => by rw [acc_next m c t h, pay17_apply])
    t h18 _, zero_add]
  rw [Cert.Reference3Ideal.Read.val_main_v42_apply, Cert.Reference3Ideal.Read.val_main_v41_apply, Cert.Reference3Ideal.Read.val_main_v18_apply, Cert.Reference3Ideal.Read.val_main_v17_apply]
  refine Fin.sum_mul_add_congr fun s k hl => ?_
  have hs : (19 * (t.val / 19) + s.val) = s.val := by
    have h1 : t.val < 19 := (idx t).2.2.2.2.2.2.2.2
    omega
  have hr : s.val * 432 + k.val = (19 * (t.val / 19) + s.val) * 432 + k.val := by rw [hs]
  refine (mul_comm (_ : EReal) _).trans (congrArg₂ (fun a b : EReal => a * b) ?_ ?_)
  · blk_point [iblk, V0, idx ⟨_, Pipeline.run_point_lt_of_flush t h18 s⟩, idx t]
  · rw [Cert.Reference3Ideal.Read.val_main_v15_apply]
    have er : Cert.Reference3Ideal.Read.ridx_main_v17 (Cert.Reference3Ideal.Read.idx_main_v18 (Cert.Reference3Ideal.Read.idx_main_v41
        (Cert.Reference3Ideal.Read.idx_main_v42 ((win0_6.blk t).view.emb y)))) ⟨s.val * 432 + k.val, hl⟩ = ix2 ⟨s.val * 432 + k.val, hl⟩ (y 1) := by
      blk_ext [idx t]
    rw [er]
    exact congrArg₂ (fun a b : EReal => a * b) (xn_point m c ⟨19 * (t.val / 19) + s.val, _⟩ k (y 1) ⟨s.val * 432 + k.val, hl⟩ hr) (g_point m c _ (y 1) _)

/-- `dg` after the run: the norm's weight gradient, the sum over all rows. -/
theorem final7 (c : Dev nD) : (dats m 0 c).arrAt 7 cfg0.N
    = Cert.Reference3Ideal.Read.val_main_v43 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  have h18 : t.val % 19 = 18 := (flush0_7 t).mp hf
  rw [after0_7, Pipeline.eq_sum_fin_of_reset_step_apply_of_flush (fun n h => (outsAt0 m c n h).2.2.1) 19 (fun _ => 0)
    (fun p j => (∑ i : Fin 432, k0_pay16 (F := Ideal) (iblk m c 0 p) (W m c) (ix2 i (j 1)) * k0_pay13 (F := Ideal) (iblk m c 1 p) (ix2 i (j 1)) : EReal))
    (fun t h j => by rw [dg_first m c t h, pay18_apply, hzero11])
    (fun t h j => by rw [dg_next m c t h, pay18_apply])
    t h18 _, zero_add]
  have z3 : ∀ i, (Cert.Reference3Ideal.Read.val_main_cst_3 (F := Ideal) i : EReal) = 0 := by
    intro i; unfold Cert.Reference3Ideal.Read.val_main_cst_3; pointwise
  have z4 : ∀ i, (Cert.Reference3Ideal.Read.val_main_cst_4 (F := Ideal) i : EReal) = 0 := by
    intro i; unfold Cert.Reference3Ideal.Read.val_main_cst_4; pointwise
  rw [Cert.Reference3Ideal.Read.val_main_v43_apply, Cert.Reference3Ideal.Read.val_main_v25_apply, z4, zero_add, Fin.sum_univ_one, Cert.Reference3Ideal.Read.val_main_v22_apply, Cert.Reference3Ideal.Read.val_main_v21_apply, z3, zero_add]
  refine Fin.sum_mul_add_congr fun s k hl => ?_
  rw [Cert.Reference3Ideal.Read.val_main_v20_apply]
  have ej : Cert.Reference3Ideal.Read.idx_main_v21 (Cert.Reference3Ideal.Read.idx_main_v22 (Cert.Reference3Ideal.Read.idx_main_v25
      (Cert.Reference3Ideal.Read.idx_main_v43 ((win0_7.blk t).view.emb y)) 0)) ⟨s.val * 432 + k.val, hl⟩ = ix2 ⟨s.val * 432 + k.val, hl⟩ (y 1) := by
    have e1 : ((win0_7.blk t).view.emb y 1).val = (y 1).val := by blk_simp [idx t] <;> try omega
    refine funext fun a => Fin.ext ?_
    match a with
    | ⟨0, _⟩ => rfl
    | ⟨1, _⟩ => show 0 * 1024 + ((win0_7.blk t).view.emb y 1).val = (y 1).val; rw [e1]; omega
  rw [ej]
  have hs : (19 * (t.val / 19) + s.val) = s.val := by
    have h1 : t.val < 19 := (idx t).2.2.2.2.2.2.2.2
    omega
  have hr : s.val * 432 + k.val = (19 * (t.val / 19) + s.val) * 432 + k.val := by rw [hs]
  show (_ : EReal) = _
  exact (mul_comm (_ : EReal) _).trans (congrArg₂ (fun a b : EReal => a * b) (xn_point m c ⟨19 * (t.val / 19) + s.val, _⟩ k (y 1) ⟨s.val * 432 + k.val, hl⟩ hr)
    (dxn_point m c ⟨19 * (t.val / 19) + s.val, _⟩ (ix2 k (y 1)) ⟨s.val * 432 + k.val, hl⟩ hr))

end Cert.Proof.In

end
-- ==== Proof.Alg3.lean ====
module

public import proofs.«01_k».proof.Defs
public import proofs.«01_k».proof.Proof.InOut
public import proofs.«01_k».proof.Proof.Gen.Reference3Ideal.Run
public import Idealize.ShloMosaic.Lib.Claim

@[expose] public section

noncomputable section

namespace Cert.Proof

open Idealize.ShloMosaic Idealize.SL.Sem

set_option maxRecDepth 16384 in
/-- The backward call of the mixer's input projection and its reference end with equal results. -/
theorem alg3 : Cert.algebraic_Kernel3Ideal_Reference3Ideal := by
  pair_intro
  · run_from Cert.Kernel3Ideal.Value.run_blocks m g
  · run_from Cert.Reference3Ideal.Value.run m' g'
    · rw [Cert.Reference3Ideal.Read.val_main_v40_eq, (hagree c).1, (hagree c).2.1, (hagree c).2.2.1, (hagree c).2.2.2.1, (hagree c).2.2.2.2]
      exact (In.final5 m c).symm
    · exact (Cert.Reference3Ideal.Read.val_main_v42_eq ..).trans (In.final6 m c).symm
    · exact (Cert.Reference3Ideal.Read.val_main_v43_eq ..).trans (In.final7 m c).symm

end Cert.Proof

end
-- ==== Proof.Out.lean ====
/-
  The gradient of the output projection, `y @ w_out`: what the call `bwd_out` leaves in its two result arrays.
  `dy` is written one block of 432 rows per grid point; `dwo` is zeroed at the first point and added into at each of
  the nineteen, so its final contents are the sum over all 8208 rows.
-/
module

public import proofs.«01_k».proof.Proof.Gen.Kernel4Ideal.Value
public import proofs.«01_k».proof.Proof.Gen.Reference4Ideal.Read
public import Idealize.ShloMosaic.Lib.Claim
public import Idealize.ShloMosaic.Lib.Pipeline.ValueKit

@[expose] public section

set_option maxRecDepth 16384

noncomputable section

namespace Cert.Proof.Out

open Idealize.ShloMosaic Idealize.ShloMosaic.TcCoe Idealize.SL.Sem
open Idealize.ShloMosaic.Pipeline (Dat)
open Cert.Kernel4Ideal Cert.Kernel4Ideal.Gen
open scoped BigOperators

variable (m : (ℓ : Loc nD τ sig) → Buf (Elt Ideal) ℓ)

/-- Where each window's block sits at grid point `t`. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] :=
  (by decide +kernel : ∀ t : Fin grid0.N, _)

/-- The zero fill. -/
theorem hzero (j) : k0_pay1 (F := Ideal) j = 0 := by pointwise [k0_pay1]

/-- One block of `dy`: a row of `dh1` against a row of `w_out`. -/
theorem hdy (x : FVec Ideal S432x1024 .f32) (w : FVec Ideal S1024x1024 .bf16) (j) :
    k0_pay3 x w j = ∑ k : Fin 1024, x (ix2 (j 0) k) * w (ix2 (j 1) k) := by
  pointwise [k0_pay3, k0_pay2]

/-- One step of `dwo`: what was there plus this block's 432 rows. -/
theorem hpay (x : FVec Ideal S432x1024 .f32) (acc : FVec Ideal S1024x1024 .f32) (y : FVec Ideal S432x1024 .bf16) (j) :
    k0_pay4 x acc y j = acc j + ∑ k : Fin 432, x (ix2 k (j 1)) * y (ix2 k (j 0)) := by
  have h : k0_pay4 x acc y j = acc j + ∑ k : Fin 432, y (ix2 k (j 0)) * x (ix2 k (j 1)) := by
    pointwise [k0_pay4, k0_pay2]
  rw [h]
  congr 1
  exact Finset.sum_congr rfl fun k _ => mul_comm _ _

/-- `dy` after the run: `dh1` against the rows of `w_out`. -/
theorem final3 (c : Dev nD) : (dats m 0 c).arrAt 3 cfg0.N
    = Cert.Reference4Ideal.Read.val_main_v3 (F := Ideal) (m ((c : Thread nD τ).loc main_arg0)) (m ((c : Thread nD τ).loc main_arg2)) := by
  refine (dats m 0 c).arrAt_eq_of_covers 3 _ (by decide +kernel) fun t hf y => ?_
  blk_simp
  rw [after0_3]
  rcases Classical.em (t.val % 19 = 0) with h | h
  · rw [outsAt0_A m c t h]; frame_out
    rw [hdy, Cert.Reference4Ideal.Read.val_main_v3_apply]
    blk_point [iblk, V, idx t]
  · rw [outsAt0_B m c t h]; frame_out
    rw [hdy, Cert.Reference4Ideal.Read.val_main_v3_apply]
    blk_point [iblk, V, idx t]

/-- `dwo` after the run: the sum over all rows of `y` times `dh1`. -/
theorem final4 (c : Dev nD) : (dats m 0 c).arrAt 4 cfg0.N
    = Cert.Reference4Ideal.Read.val_main_v2 (F := Ideal) (m ((c : Thread nD τ).loc main_arg0)) (m ((c : Thread nD τ).loc main_arg1)) := by
  refine (dats m 0 c).arrAt_eq_of_covers 4 _ (by decide +kernel) fun t hf y => ?_
  blk_simp
  rw [after0_4, Pipeline.eq_sum_fin_of_reset_step_apply_of_flush (fun n h => (outsAt0 m c n h).2) 19 (fun _ => 0) _
    (fun t h j => by rw [outsAt0_A m c t h]; frame_out; rw [hpay, hzero])
    (fun t h j => by rw [outsAt0_B m c t h]; frame_out; rw [hpay])
    t ((flush0_4 t).mp hf) _, zero_add,
    Cert.Reference4Ideal.Read.val_main_v2_apply, Cert.Reference4Ideal.Read.val_main_v1_apply]
  refine Fin.sum_mul_add_congr fun s k hl => ?_
  blk_point [iblk, V, idx ⟨_, Pipeline.run_point_lt_of_flush t ((flush0_4 t).mp hf) s⟩, idx t]

end Cert.Proof.Out

end
-- ==== Proof.Alg4.lean ====
module

public import proofs.«01_k».proof.Defs
public import proofs.«01_k».proof.Proof.Out
public import proofs.«01_k».proof.Proof.Gen.Reference4Ideal.Run
public import Idealize.ShloMosaic.Lib.Claim

@[expose] public section

noncomputable section

namespace Cert.Proof

open Idealize.ShloMosaic Idealize.SL.Sem

set_option maxRecDepth 16384 in
/-- The backward call of the output projection and its reference end with equal results. -/
theorem alg4 : Cert.algebraic_Kernel4Ideal_Reference4Ideal := by
  pair_intro
  · run_from Cert.Kernel4Ideal.Value.run_blocks m g
  · run_from Cert.Reference4Ideal.Value.run m' g'
    · exact (Cert.Reference4Ideal.Read.val_main_v3_eq ..).trans (Out.final3 m c).symm
    · exact (Cert.Reference4Ideal.Read.val_main_v2_eq ..).trans (Out.final4 m c).symm

end Cert.Proof

end
-- ==== Proof.Post.lean ====
/-
  The forward call `fwd_post`: the block's output `h1`, the hidden layer `a` and the step's output `h2` are the
  reference's, entry by entry.
-/
module

public import proofs.«01_k».proof.Proof.Gen.Kernel5Ideal.Value
public import proofs.«01_k».proof.Proof.Gen.Reference5Ideal.Read
public import proofs.«01_k».proof.Proof.Rms
public import Idealize.ShloMosaic.Lib.Claim
public import Idealize.ShloMosaic.Lib.Pipeline.ValueKit

@[expose] public section

set_option maxRecDepth 16384

noncomputable section

namespace Cert.Proof.Post

open Idealize.ShloMosaic Idealize.ShloMosaic.TcCoe Idealize.SL.Sem
open Idealize.ShloMosaic.Pipeline (Dat)
open Cert.Kernel5Ideal Cert.Kernel5Ideal.Gen
open scoped BigOperators

variable (m : (ℓ : Loc nD τ sig) → Buf (Elt Ideal) ℓ)

/-- Where each window's block sits at grid point `t`. -/
theorem idx : ∀ t : Fin cfg0.N, win0_0.index t = ![t.val, 0] ∧ win0_1.index t = ![t.val, 0]
    ∧ win0_2.index t = ![0, 0] ∧ win0_3.index t = ![0, 0] ∧ win0_4.index t = ![0, 0, 0] ∧ win0_5.index t = ![0, 0, 0]
    ∧ win0_6.index t = ![t.val, 0] ∧ win0_7.index t = ![t.val, 0] ∧ win0_8.index t = ![t.val, 0] ∧ t.val < 19 :=
  (by decide +kernel : ∀ t : Fin grid0.N, _)

/-- The mixer's output the call is given. -/
theorem V0 (c : Dev nD) (i : S8208x1024.Idx) : (V m c main_v0 i : EReal) = m ((c : Thread nD τ).loc main_arg1) i := by
  entry_read; rfl

/-- The output projection the call is given. -/
theorem V1 (c : Dev nD) (i : S1024x1024.Idx) : (V m c main_v1 i : EReal) = m ((c : Thread nD τ).loc main_arg2) i := by
  entry_read; rfl

/-- The norm's weight the call is given. -/
theorem V2 (c : Dev nD) (i : S1x1024.Idx) : (V m c main_v2 i : EReal)
    = m ((c : Thread nD τ).loc main_arg3) (ix1 (i 1)) := by
  entry_read
  pointwise
  try blk_ext

/-- Slab `q` of the up-projection the call is given holds its columns from `1024 q`. -/
theorem V5 (c : Dev nD) (i : S4x1024x1024.Idx) : (V m c main_v5 i : EReal)
    = m ((c : Thread nD τ).loc main_arg4) (ix2 (i 1) ⟨(i 0).val * 1024 + (i 2).val, by have h0 : (i 0).val < 4 := (i 0).isLt; have h2 : (i 2).val < 1024 := (i 2).isLt; omega⟩) := by
  entry_read
  pointwise
  blk_ext

/-- Slab `q` of the down-projection the call is given holds its rows from `1024 q`. -/
theorem V7 (c : Dev nD) (i : S4x1024x1024.Idx) : (V m c main_v7 i : EReal)
    = m ((c : Thread nD τ).loc main_arg5) (ix2 ⟨(i 0).val * 1024 + (i 1).val, by have h0 : (i 0).val < 4 := (i 0).isLt; have h2 : (i 1).val < 1024 := (i 1).isLt; omega⟩ (i 2)) := by
  entry_read
  pointwise
  blk_ext

/-- One entry of the hidden layer, from one slab. -/
def up (X : FVec Ideal S432x1024 .bf16) (u : FVec Ideal S1x1024x1024 .bf16) (i : Fin 432) (j : Fin 1024) : EReal :=
  ∑ k : Fin 1024, X (ix2 i k) * u (ix3 0 k j)

/-- The squared relu. -/
def sq (z : EReal) : EReal := max z 0 * max z 0

theorem pay4_apply (h : FVec Ideal S432x1024 .f32) (y : FVec Ideal S432x1024 .bf16) (w : FVec Ideal S1024x1024 .bf16) (i : Fin 432) (j : Fin 1024) :
    (k0_pay4 (F := Ideal) h y w (ix2 i j) : EReal) = h (ix2 i j) + ∑ k : Fin 1024, y (ix2 i k) * w (ix2 k j) := by
  pointwise [k0_pay4]

theorem pay5_apply (h : FVec Ideal S432x1024 .f32) (y : FVec Ideal S432x1024 .bf16) (w : FVec Ideal S1024x1024 .bf16) (g : FVec Ideal S1x1024 .f32) (i : Fin 432) (j : Fin 1024) :
    (k0_pay5 (F := Ideal) h y w g (ix2 i j) : EReal)
      = k0_pay4 (F := Ideal) h y w (ix2 i j) * Rms.root (fun k => k0_pay4 (F := Ideal) h y w (ix2 i k)) * g (ix2 0 j) := by
  unfold k0_pay5 Rms.root Rms.var
  generalize k0_pay4 (F := Ideal) h y w = H
  pointwise

theorem pay9_apply (X : FVec Ideal S432x1024 .bf16) (u : FVec Ideal S1x1024x1024 .bf16) (i : Fin 432) (j : Fin 1024) :
    (k0_pay9 (F := Ideal) X u (ix2 i j) : EReal) = up X u i j := by
  unfold up
  pointwise [k0_pay9]

theorem pay1_apply (X : FVec Ideal S432x1024 .bf16) (u : FVec Ideal S1x1024x1024 .bf16) (i : Fin 432) (j : Fin 1024) :
    (k0_pay1 (F := Ideal) X (k0_pay14 u) (constant S432x1024 .f32 0x00000000#32) (ix2 i j) : EReal) = up X u i j := by
  unfold up
  pointwise [k0_pay1, k0_pay14]

theorem pay13_apply (H : FVec Ideal S432x1024 .f32) (X S : FVec Ideal S432x1024 .bf16) (d0 u1 d1 u2 d2 : FVec Ideal S1x1024x1024 .bf16) (i : Fin 432) (j : Fin 1024) :
    (k0_pay13 (F := Ideal) H X S d0 u1 d1 u2 d2 (ix2 i j) : EReal)
      = ((H (ix2 i j) + ∑ k : Fin 1024, S (ix2 i k) * d0 (ix3 0 k j)) + ∑ k : Fin 1024, sq (up X u1 i k) * d1 (ix3 0 k j))
        + ∑ k : Fin 1024, sq (up X u2 i k) * d2 (ix3 0 k j) := by
  unfold sq up
  pointwise [k0_pay13, k0_pay9, k0_pay11]

theorem pay8_apply (h : FVec Ideal S432x1024 .f32) (y : FVec Ideal S432x1024 .bf16) (w : FVec Ideal S1024x1024 .bf16) (g : FVec Ideal S1x1024 .f32) (u : FVec Ideal S1x1024x1024 .bf16) (i : Fin 432) (j : Fin 1024) :
    (k0_pay8 (F := Ideal) h y w g u (ix2 i j) : EReal) = sq (up (k0_pay5 h y w g) u i j) := by
  unfold k0_pay8 k0_pay6 sq up
  generalize k0_pay5 (F := Ideal) h y w g = X
  pointwise

theorem pay3_apply (X : FVec Ideal S432x1024 .bf16) (A : FVec Ideal S432x1024 .f32) (u d : FVec Ideal S1x1024x1024 .bf16) (i : Fin 432) (j : Fin 1024) :
    (k0_pay3 (F := Ideal) X A (k0_pay14 u) (constant S432x1024 .f32 0x00000000#32) d (ix2 i j) : EReal)
      = A (ix2 i j) + ∑ k : Fin 1024, sq (up X u i k) * d (ix3 0 k j) := by
  unfold sq up
  pointwise [k0_pay3, k0_pay1, k0_pay14]

/-- A load of slab `q`. -/
theorem ld_w {Val : EltTy → Type} {e : EltTy} (B : S4x1024x1024.Idx → Val e) (q : ℕ) (hq : q < 4) (inb) (j : Fin 1024) (k : Fin 1024) :
    View.ld B (Rect.unit (s := S4x1024x1024) ![q, 0, 0] ![1, 1024, 1024] inb) (ix3 0 j k) = B (ix3 ⟨q, hq⟩ j k) := by
  rw [View.ld_apply]
  refine congrArg B (funext fun a => Fin.ext ?_)
  match a with
  | ⟨0, _⟩ => show q + 1 * 0 = q; omega
  | ⟨1, _⟩ => show 0 + 1 * j.val = j.val; omega
  | ⟨2, _⟩ => show 0 + 1 * k.val = k.val; omega

section ref

variable (x0 x1 : FVec Ideal S8208x1024 .f32) (x2 : FVec Ideal S1024x1024 .f32) (x3 : FVec Ideal S1024 .f32) (x4 : FVec Ideal S1024x4096 .f32) (x5 : FVec Ideal S4096x1024 .f32)

theorem v1_apply (r : Fin 8208) (j : Fin 1024) : (Cert.Reference5Ideal.Read.val_main_v1 (F := Ideal) x0 x1 x2 (ix2 r j) : EReal)
    = x0 (ix2 r j) + ∑ k : Fin 1024, x1 (ix2 r k) * x2 (ix2 k j) := by
  rw [Cert.Reference5Ideal.Read.val_main_v1_apply, Cert.Reference5Ideal.Read.val_main_v0_apply]
  refine congrArg (fun z : EReal => x0 (ix2 r j) + z) (Finset.sum_congr rfl fun k _ => ?_)
  have e1 : Cert.Reference5Ideal.Read.lidx_main_v0 (ix2 r j) k = ix2 r k := funext fun a => Fin.ext (by match a with | ⟨0, _⟩ => rfl | ⟨1, _⟩ => rfl)
  have e2 : Cert.Reference5Ideal.Read.ridx_main_v0 (ix2 r j) k = ix2 k j := funext fun a => Fin.ext (by match a with | ⟨0, _⟩ => rfl | ⟨1, _⟩ => rfl)
  rw [e1, e2]

/-- The block's output is the reference's. -/
theorem h1_ref (h : FVec Ideal S432x1024 .f32) (y : FVec Ideal S432x1024 .bf16) (w : FVec Ideal S1024x1024 .bf16) (i : Fin 432) (r : Fin 8208)
    (hh : ∀ k, h (ix2 i k) = x0 (ix2 r k)) (hy : ∀ k, y (ix2 i k) = x1 (ix2 r k)) (hw : ∀ k j, w (ix2 k j) = x2 (ix2 k j)) (j : Fin 1024) :
    (k0_pay4 (F := Ideal) h y w (ix2 i j) : EReal) = Cert.Reference5Ideal.Read.val_main_v1 (F := Ideal) x0 x1 x2 (ix2 r j) := by
  refine (pay4_apply _ _ _ _ _).trans (Eq.trans ?_ (v1_apply _ _ _ _ _).symm)
  simp only [hh, hy, hw]

theorem v8_apply (i) : (Cert.Reference5Ideal.Read.val_main_v8 (F := Ideal) x0 x1 x2 i : EReal) = Rms.var (fun k => Cert.Reference5Ideal.Read.val_main_v1 (F := Ideal) x0 x1 x2 (ix2 (i 0) k)) := by
  unfold Cert.Reference5Ideal.Read.val_main_v8 Cert.Reference5Ideal.Read.val_main_v6 Cert.Reference5Ideal.Read.val_main_v4 Cert.Reference5Ideal.Read.val_main_v3 Cert.Reference5Ideal.Read.val_main_v2 Rms.var
  generalize Cert.Reference5Ideal.Read.val_main_v1 (F := Ideal) x0 x1 x2 = H
  pointwise [Cert.Reference5Ideal.Read.val_main_v7, Cert.Reference5Ideal.Read.val_main_v5, Cert.Reference5Ideal.Read.val_main_cst, Cert.Reference5Ideal.Read.val_main_cst_0, Cert.Reference5Ideal.Read.val_main_cst_1]

theorem v14_apply (r : Fin 8208) (j : Fin 1024) : (Cert.Reference5Ideal.Read.val_main_v14 (F := Ideal) x0 x1 x2 x3 (ix2 r j) : EReal)
    = Cert.Reference5Ideal.Read.val_main_v1 (F := Ideal) x0 x1 x2 (ix2 r j) * Rms.root (fun k => Cert.Reference5Ideal.Read.val_main_v1 (F := Ideal) x0 x1 x2 (ix2 r k)) * x3 (ix1 j) := by
  rw [Cert.Reference5Ideal.Read.val_main_v14_apply, Cert.Reference5Ideal.Read.val_main_v11_apply, Cert.Reference5Ideal.Read.val_main_v10_apply, Cert.Reference5Ideal.Read.val_main_v9_apply, v8_apply, Cert.Reference5Ideal.Read.val_main_v13_apply, Cert.Reference5Ideal.Read.val_main_v12_apply]
  exact congrArg (_ * ·) (congrArg x3 (funext fun a => Fin.ext (by match a with | ⟨0, _⟩ => rfl)))

/-- The normalised row is the reference's. -/
theorem xn_ref (h : FVec Ideal S432x1024 .f32) (y : FVec Ideal S432x1024 .bf16) (w : FVec Ideal S1024x1024 .bf16) (g : FVec Ideal S1x1024 .f32) (i : Fin 432) (r : Fin 8208)
    (hh : ∀ k, h (ix2 i k) = x0 (ix2 r k)) (hy : ∀ k, y (ix2 i k) = x1 (ix2 r k)) (hw : ∀ k j, w (ix2 k j) = x2 (ix2 k j)) (hg : ∀ k, g (ix2 0 k) = x3 (ix1 k)) (j : Fin 1024) :
    (k0_pay5 (F := Ideal) h y w g (ix2 i j) : EReal) = Cert.Reference5Ideal.Read.val_main_v14 (F := Ideal) x0 x1 x2 x3 (ix2 r j) := by
  refine (pay5_apply _ _ _ _ _ _).trans (Eq.trans ?_ (v14_apply _ _ _ _ _ _).symm)
  simp only [h1_ref x0 x1 x2 h y w i r hh hy hw, hg]

theorem v15_apply (r : Fin 8208) (j : Fin 4096) : (Cert.Reference5Ideal.Read.val_main_v15 (F := Ideal) x0 x1 x2 x3 x4 (ix2 r j) : EReal)
    = ∑ k : Fin 1024, Cert.Reference5Ideal.Read.val_main_v14 (F := Ideal) x0 x1 x2 x3 (ix2 r k) * x4 (ix2 k j) := by
  rw [Cert.Reference5Ideal.Read.val_main_v15_apply]
  refine Finset.sum_congr rfl fun k _ => ?_
  have e1 : Cert.Reference5Ideal.Read.lidx_main_v15 (ix2 r j) k = ix2 r k := funext fun a => Fin.ext (by match a with | ⟨0, _⟩ => rfl | ⟨1, _⟩ => rfl)
  have e2 : Cert.Reference5Ideal.Read.ridx_main_v15 (ix2 r j) k = ix2 k j := funext fun a => Fin.ext (by match a with | ⟨0, _⟩ => rfl | ⟨1, _⟩ => rfl)
  rw [e1, e2]

/-- One slab of the hidden layer is the reference's columns. -/
theorem up_ref (X : FVec Ideal S432x1024 .bf16) (u : FVec Ideal S1x1024x1024 .bf16) (i : Fin 432) (j : Fin 1024) (r : Fin 8208) (l : Fin 4096)
    (hX : ∀ k, X (ix2 i k) = Cert.Reference5Ideal.Read.val_main_v14 (F := Ideal) x0 x1 x2 x3 (ix2 r k)) (hu : ∀ k, u (ix3 0 k j) = x4 (ix2 k l)) :
    up X u i j = Cert.Reference5Ideal.Read.val_main_v15 (F := Ideal) x0 x1 x2 x3 x4 (ix2 r l) := by
  rw [v15_apply, up]
  simp only [hX, hu]

theorem v20_apply (r : Fin 8208) (j : Fin 1024) : (Cert.Reference5Ideal.Read.val_main_v20 (F := Ideal) x0 x1 x2 x3 x4 x5 (ix2 r j) : EReal)
    = Cert.Reference5Ideal.Read.val_main_v1 (F := Ideal) x0 x1 x2 (ix2 r j) + ∑ l : Fin 4096, sq (Cert.Reference5Ideal.Read.val_main_v15 (F := Ideal) x0 x1 x2 x3 x4 (ix2 r l)) * x5 (ix2 l j) := by
  rw [Cert.Reference5Ideal.Read.val_main_v20_apply, Cert.Reference5Ideal.Read.val_main_v19_apply]
  refine congrArg (fun z : EReal => Cert.Reference5Ideal.Read.val_main_v1 (F := Ideal) x0 x1 x2 (ix2 r j) + z) (Finset.sum_congr rfl fun k _ => ?_)
  have e1 : Cert.Reference5Ideal.Read.lidx_main_v19 (ix2 r j) k = ix2 r k := funext fun a => Fin.ext (by match a with | ⟨0, _⟩ => rfl | ⟨1, _⟩ => rfl)
  have e2 : Cert.Reference5Ideal.Read.ridx_main_v19 (ix2 r j) k = ix2 k j := funext fun a => Fin.ext (by match a with | ⟨0, _⟩ => rfl | ⟨1, _⟩ => rfl)
  have z : ∀ i, (Cert.Reference5Ideal.Read.val_main_call0_v0 (F := Ideal) i : EReal) = 0 := by
    intro i; unfold Cert.Reference5Ideal.Read.val_main_call0_v0 Cert.Reference5Ideal.Read.val_main_call0_cst; pointwise
  rw [e1, e2, Cert.Reference5Ideal.Read.val_main_v18_apply, Cert.Reference5Ideal.Read.val_main_v17_apply, z]
  rfl

/-- The step's output, from the block's four slabs, is the reference's. -/
theorem h2_ref (H : FVec Ideal S432x1024 .f32) (X S : FVec Ideal S432x1024 .bf16) (u0 d0 u1 d1 u2 d2 u3 d3 : FVec Ideal S1x1024x1024 .bf16) (i : Fin 432) (j : Fin 1024) (r : Fin 8208)
    (hH : H (ix2 i j) = Cert.Reference5Ideal.Read.val_main_v1 (F := Ideal) x0 x1 x2 (ix2 r j))
    (hX : ∀ k, X (ix2 i k) = Cert.Reference5Ideal.Read.val_main_v14 (F := Ideal) x0 x1 x2 x3 (ix2 r k))
    (hS : ∀ k, (S (ix2 i k) : EReal) = sq (up X u0 i k))
    (h0 : ∀ k l : Fin 1024, u0 (ix3 0 k l) = x4 (ix2 k ⟨0 * 1024 + l.val, by omega⟩)) (g0 : ∀ l k : Fin 1024, d0 (ix3 0 l k) = x5 (ix2 ⟨0 * 1024 + l.val, by omega⟩ k))
    (h1 : ∀ k l : Fin 1024, u1 (ix3 0 k l) = x4 (ix2 k ⟨1 * 1024 + l.val, by omega⟩)) (g1 : ∀ l k : Fin 1024, d1 (ix3 0 l k) = x5 (ix2 ⟨1 * 1024 + l.val, by omega⟩ k))
    (h2 : ∀ k l : Fin 1024, u2 (ix3 0 k l) = x4 (ix2 k ⟨2 * 1024 + l.val, by omega⟩)) (g2 : ∀ l k : Fin 1024, d2 (ix3 0 l k) = x5 (ix2 ⟨2 * 1024 + l.val, by omega⟩ k))
    (h3 : ∀ k l : Fin 1024, u3 (ix3 0 k l) = x4 (ix2 k ⟨3 * 1024 + l.val, by omega⟩)) (g3 : ∀ l k : Fin 1024, d3 (ix3 0 l k) = x5 (ix2 ⟨3 * 1024 + l.val, by omega⟩ k))
    : (k0_pay3 (F := Ideal) X (k0_pay13 H X S d0 u1 d1 u2 d2) (k0_pay14 u3) (constant S432x1024 .f32 0x00000000#32) d3 (ix2 i j) : EReal)
      = Cert.Reference5Ideal.Read.val_main_v20 (F := Ideal) x0 x1 x2 x3 x4 x5 (ix2 r j) := by
  refine (pay3_apply _ _ _ _ _ _).trans ?_
  refine (congrArg (fun z : EReal => z + _) (pay13_apply _ _ _ _ _ _ _ _ _ _)).trans ?_
  have e := Fin.sum_mul_add_fin 4 1024 (fun l : Fin 4096 => (sq (Cert.Reference5Ideal.Read.val_main_v15 (F := Ideal) x0 x1 x2 x3 x4 (ix2 r l)) : EReal) * x5 (ix2 l j))
  rw [Fin.sum_univ_four] at e
  rw [v20_apply, ← e]
  have t0 : ∀ l : Fin 1024, up X u0 i l = Cert.Reference5Ideal.Read.val_main_v15 (F := Ideal) x0 x1 x2 x3 x4 (ix2 r ⟨0 * 1024 + l.val, by omega⟩) := fun l =>
    up_ref x0 x1 x2 x3 x4 X u0 i l r _ hX (fun k => h0 k l)
  have t1 : ∀ l : Fin 1024, up X u1 i l = Cert.Reference5Ideal.Read.val_main_v15 (F := Ideal) x0 x1 x2 x3 x4 (ix2 r ⟨1 * 1024 + l.val, by omega⟩) := fun l =>
    up_ref x0 x1 x2 x3 x4 X u1 i l r _ hX (fun k => h1 k l)
  have t2 : ∀ l : Fin 1024, up X u2 i l = Cert.Reference5Ideal.Read.val_main_v15 (F := Ideal) x0 x1 x2 x3 x4 (ix2 r ⟨2 * 1024 + l.val, by omega⟩) := fun l =>
    up_ref x0 x1 x2 x3 x4 X u2 i l r _ hX (fun k => h2 k l)
  have t3 : ∀ l : Fin 1024, up X u3 i l = Cert.Reference5Ideal.Read.val_main_v15 (F := Ideal) x0 x1 x2 x3 x4 (ix2 r ⟨3 * 1024 + l.val, by omega⟩) := fun l =>
    up_ref x0 x1 x2 x3 x4 X u3 i l r _ hX (fun k => h3 k l)
  simp only [hH, hS, t0, t1, t2, t3, g0, g1, g2, g3, add_assoc]
  rfl

end ref

end Cert.Proof.Post

end
-- ==== Proof.PostOut.lean ====
/-
  The forward call `fwd_post`: its three results after the run.
-/
module

public import proofs.«01_k».proof.Proof.Post

@[expose] public section

set_option maxRecDepth 16384

noncomputable section

namespace Cert.Proof.Post

open Idealize.ShloMosaic Idealize.ShloMosaic.TcCoe Idealize.SL.Sem
open Idealize.ShloMosaic.Pipeline (Dat)
open Cert.Kernel5Ideal Cert.Kernel5Ideal.Gen
open scoped BigOperators

variable (m : (ℓ : Loc nD τ sig) → Buf (Elt Ideal) ℓ)

theorem pay7_apply (h : FVec Ideal S432x1024 .f32) (y : FVec Ideal S432x1024 .bf16) (w : FVec Ideal S1024x1024 .bf16) (g : FVec Ideal S1x1024 .f32) (u : FVec Ideal S1x1024x1024 .bf16) (i : Fin 432) (j : Fin 1024) :
    (k0_pay7 (F := Ideal) h y w g u (ix2 i j) : EReal) = up (k0_pay5 h y w g) u i j := by
  unfold k0_pay7 k0_pay6 up
  generalize k0_pay5 (F := Ideal) h y w g = X
  pointwise

theorem pay10_apply (X : FVec Ideal S432x1024 .bf16) (u : FVec Ideal S1x1024x1024 .bf16) (i : Fin 432) (j : Fin 1024) :
    (k0_pay10 (F := Ideal) X u (ix2 i j) : EReal) = up X u i j := by
  unfold up
  pointwise [k0_pay10, k0_pay9]

theorem pay12_apply (X : FVec Ideal S432x1024 .bf16) (u : FVec Ideal S1x1024x1024 .bf16) (i : Fin 432) (j : Fin 1024) :
    (k0_pay12 (F := Ideal) X u (ix2 i j) : EReal) = up X u i j := by
  unfold up
  pointwise [k0_pay12, k0_pay11]

theorem pay2_apply (X : FVec Ideal S432x1024 .bf16) (u : FVec Ideal S1x1024x1024 .bf16) (i : Fin 432) (j : Fin 1024) :
    (k0_pay2 (F := Ideal) X (k0_pay14 u) (constant S432x1024 .f32 0x00000000#32) (ix2 i j) : EReal) = up X u i j := by
  unfold up
  pointwise [k0_pay2, k0_pay1, k0_pay14]

section blocks

variable (c : Dev nD) (t : Fin cfg0.N) (i : Fin 432) (r : Fin 8208) (hr : r.val = t.val * 432 + i.val)
include hr

theorem b0 (k : Fin 1024) : (iblk m c 0 t : FVec Ideal S432x1024 .f32) (ix2 i k) = (m ((c : Thread nD τ).loc main_arg0) : FVec Ideal S8208x1024 .f32) (ix2 r k) := by
  blk_point [iblk, V_main_arg0, idx t]

theorem b1 (k : Fin 1024) : (iblk m c 1 t : FVec Ideal S432x1024 .bf16) (ix2 i k) = (m ((c : Thread nD τ).loc main_arg1) : FVec Ideal S8208x1024 .f32) (ix2 r k) := by
  blk_point [iblk, V0, idx t]

omit hr in
theorem b2 (k j : Fin 1024) : (iblk m c 2 t : FVec Ideal S1024x1024 .bf16) (ix2 k j) = (m ((c : Thread nD τ).loc main_arg2) : FVec Ideal S1024x1024 .f32) (ix2 k j) := by
  blk_point [iblk, V1, idx t]

omit hr in
theorem b3 (k : Fin 1024) : (iblk m c 3 t : FVec Ideal S1x1024 .f32) (ix2 0 k) = (m ((c : Thread nD τ).loc main_arg3) : FVec Ideal S1024 .f32) (ix1 k) := by
  blk_point [iblk, V2, idx t]

omit hr in
/-- Slab `q` of the up-projection, as loaded. -/
theorem b4 (q : ℕ) (hq : q < 4) (inb) (k j : Fin 1024) (l : Fin 4096) (hl : l.val = q * 1024 + j.val) :
    (View.ld (iblk m c 4 t) (Rect.unit (s := S4x1024x1024) ![q, 0, 0] ![1, 1024, 1024] inb) (ix3 0 k j) : EReal) = (m ((c : Thread nD τ).loc main_arg4) : FVec Ideal S1024x4096 .f32) (ix2 k l) := by
  refine (ld_w _ q hq inb k j).trans ?_
  blk_point [iblk, V5, idx t]

omit hr in
/-- Slab `q` of the down-projection, as loaded. -/
theorem b5 (q : ℕ) (hq : q < 4) (inb) (j k : Fin 1024) (l : Fin 4096) (hl : l.val = q * 1024 + j.val) :
    (View.ld (iblk m c 5 t) (Rect.unit (s := S4x1024x1024) ![q, 0, 0] ![1, 1024, 1024] inb) (ix3 0 j k) : EReal) = (m ((c : Thread nD τ).loc main_arg5) : FVec Ideal S4096x1024 .f32) (ix2 l k) := by
  refine (ld_w _ q hq inb j k).trans ?_
  blk_point [iblk, V7, idx t]

theorem h1_point (j : Fin 1024) : (k0_pay4 (F := Ideal) (iblk m c 0 t) (iblk m c 1 t) (iblk m c 2 t) (ix2 i j) : EReal)
    = Cert.Reference5Ideal.Read.val_main_v1 (F := Ideal) (m ((c : Thread nD τ).loc main_arg0)) (m ((c : Thread nD τ).loc main_arg1)) (m ((c : Thread nD τ).loc main_arg2)) (ix2 r j) :=
  h1_ref _ _ _ _ _ _ i r (b0 m c t i r hr) (b1 m c t i r hr) (b2 m c t) j

theorem xn_point (j : Fin 1024) : (k0_pay5 (F := Ideal) (iblk m c 0 t) (iblk m c 1 t) (iblk m c 2 t) (iblk m c 3 t) (ix2 i j) : EReal)
    = Cert.Reference5Ideal.Read.val_main_v14 (F := Ideal) (m ((c : Thread nD τ).loc main_arg0)) (m ((c : Thread nD τ).loc main_arg1)) (m ((c : Thread nD τ).loc main_arg2)) (m ((c : Thread nD τ).loc main_arg3)) (ix2 r j) :=
  xn_ref _ _ _ _ _ _ _ _ i r (b0 m c t i r hr) (b1 m c t i r hr) (b2 m c t) (b3 m c t) j

theorem up_point (q : ℕ) (hq : q < 4) (inb) (j : Fin 1024) (l : Fin 4096) (hl : l.val = q * 1024 + j.val) :
    up (k0_pay5 (F := Ideal) (iblk m c 0 t) (iblk m c 1 t) (iblk m c 2 t) (iblk m c 3 t)) (View.ld (iblk m c 4 t) (Rect.unit (s := S4x1024x1024) ![q, 0, 0] ![1, 1024, 1024] inb)) i j
      = Cert.Reference5Ideal.Read.val_main_v16 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r l) :=
  up_ref _ _ _ _ _ _ _ i j r l (xn_point m c t i r hr) (fun k => b4 m c t q hq inb k j l hl)

end blocks

/-- `h1` after the run. -/
theorem final6 (c : Dev nD) : (dats m 0 c).arrAt 6 cfg0.N = Cert.Reference5Ideal.Read.val_main_v1 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  have e : out0_6 (F := Ideal) (iblk m c 0 t) (iblk m c 1 t) (iblk m c 2 t) (iblk m c 3 t) (iblk m c 4 t) (iblk m c 5 t) y
      = k0_pay4 (F := Ideal) (iblk m c 0 t) (iblk m c 1 t) (iblk m c 2 t) y := by
    frame_out
  have hb : t.val * 432 + (y 0).val < 8208 := by
    have h1 : t.val < 19 := (idx t).2.2.2.2.2.2.2.2.2
    have h2 : (y 0).val < 432 := (y 0).isLt
    omega
  rw [e]
  refine (congrArg _ (ix2_eta y).symm).trans ?_
  refine (h1_point m c t (y 0) ⟨t.val * 432 + (y 0).val, hb⟩ rfl (y 1)).trans (congrArg _ ?_)
  blk_ext [idx t]

/-- `a` after the run. -/
theorem final7 (c : Dev nD) : (dats m 0 c).arrAt 7 cfg0.N = Cert.Reference5Ideal.Read.val_main_v16 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  have pt : ∀ (x : S432x1024.Idx) (q : ℕ) (hq : q < 4) (inb) (h0 : (y 0).val = (x 0).val) (h1 : (y 1).val = 1024 * q + (x 1).val),
      up (k0_pay5 (F := Ideal) (iblk m c 0 t) (iblk m c 1 t) (iblk m c 2 t) (iblk m c 3 t)) (View.ld (iblk m c 4 t) (Rect.unit (s := S4x1024x1024) ![q, 0, 0] ![1, 1024, 1024] inb)) (x 0) (x 1)
      = Cert.Reference5Ideal.Read.val_main_v16 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((View.whole main_v8_1).slice (win0_7.rect t)).emb y) := by
    intro x q hq inb h0 h1
    refine (up_point m c t (x 0) _ ?_ q hq inb (x 1) _ ?_).trans (congrArg _ (ix2_eta _))
    · blk_simp [idx t] <;> try omega
    · blk_simp [idx t] <;> try omega
  unfold out0_7 k0_pay15 k0_pay16 k0_pay17
  frame_out
  canon_tiles x hx
  · exact (congrArg _ (ix2_eta x).symm).trans ((pay2_apply _ _ _ _).trans (pt x 3 (by decide) _ hx0 (by omega)))
  · exact (congrArg _ (ix2_eta x).symm).trans ((pay12_apply _ _ _ _).trans (pt x 2 (by decide) _ hx0 (by omega)))
  · exact (congrArg _ (ix2_eta x).symm).trans ((pay10_apply _ _ _ _).trans (pt x 1 (by decide) _ hx0 (by omega)))
  · exact (congrArg _ (ix2_eta x).symm).trans ((pay7_apply _ _ _ _ _ _ _).trans (pt x 0 (by decide) _ hx0 (by omega)))

/-- `h2` after the run. -/
theorem final8 (c : Dev nD) : (dats m 0 c).arrAt 8 cfg0.N = Cert.Reference5Ideal.Read.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8]
  have hb : t.val * 432 + (y 0).val < 8208 := by
    have h1 : t.val < 19 := (idx t).2.2.2.2.2.2.2.2.2
    have h2 : (y 0).val < 432 := (y 0).isLt
    omega
  have e : ∀ i j, out0_8 (F := Ideal) (iblk m c 0 t) (iblk m c 1 t) (iblk m c 2 t) (iblk m c 3 t) (iblk m c 4 t) (iblk m c 5 t) (ix2 i j)
      = k0_pay3 (F := Ideal) (k0_pay5 (F := Ideal) (iblk m c 0 t) (iblk m c 1 t) (iblk m c 2 t) (iblk m c 3 t))
         (k0_pay13 (k0_pay4 (F := Ideal) (iblk m c 0 t) (iblk m c 1 t) (iblk m c 2 t)) (k0_pay5 (F := Ideal) (iblk m c 0 t) (iblk m c 1 t) (iblk m c 2 t) (iblk m c 3 t))
           (k0_pay8 (iblk m c 0 t) (iblk m c 1 t) (iblk m c 2 t) (iblk m c 3 t) (View.ld (iblk m c 4 t) r0_3)) (View.ld (iblk m c 5 t) r0_3) (View.ld (iblk m c 4 t) r0_5) (View.ld (iblk m c 5 t) r0_5) (View.ld (iblk m c 4 t) r0_7) (View.ld (iblk m c 5 t) r0_7))
         (k0_pay14 (View.ld (iblk m c 4 t) r0_9)) (constant S432x1024 .f32 0x00000000#32) (View.ld (iblk m c 5 t) r0_9) (ix2 i j) := by
    intro i j
    unfold out0_8 k0_pay15 k0_pay16 k0_pay17
    frame_out
    rfl
  refine (congrArg _ (ix2_eta y).symm).trans ((e _ _).trans ?_)
  refine (h2_ref _ _ _ _ _ _ _ _ _ _ _ _ _ _ _ _ _ (y 0) (y 1) ⟨t.val * 432 + (y 0).val, hb⟩
    (h1_point m c t (y 0) _ rfl _) (xn_point m c t (y 0) _ rfl) (fun k => pay8_apply _ _ _ _ _ _ _)
    (fun k l => b4 m c t 0 (by decide) _ k l _ rfl) (fun l k => b5 m c t 0 (by decide) _ l k _ rfl)
    (fun k l => b4 m c t 1 (by decide) _ k l _ rfl) (fun l k => b5 m c t 1 (by decide) _ l k _ rfl)
    (fun k l => b4 m c t 2 (by decide) _ k l _ rfl) (fun l k => b5 m c t 2 (by decide) _ l k _ rfl)
    (fun k l => b4 m c t 3 (by decide) _ k l _ rfl) (fun l k => b5 m c t 3 (by decide) _ l k _ rfl)).trans (congrArg _ ?_)
  blk_ext [idx t]

end Cert.Proof.Post

end
-- ==== Proof.Alg5.lean ====
module

public import proofs.«01_k».proof.Defs
public import proofs.«01_k».proof.Proof.PostOut
public import proofs.«01_k».proof.Proof.Gen.Reference5Ideal.Run
public import Idealize.ShloMosaic.Lib.Claim

@[expose] public section

noncomputable section

namespace Cert.Proof

open Idealize.ShloMosaic Idealize.SL.Sem

set_option maxRecDepth 16384 in
/-- The forward call after the mixer and its reference end with equal results. -/
theorem alg5 : Cert.algebraic_Kernel5Ideal_Reference5Ideal := by
  pair_intro
  · run_from Cert.Kernel5Ideal.Value.run_blocks m g
  · run_from Cert.Reference5Ideal.Value.run m' g'
    · exact (Cert.Reference5Ideal.Read.val_main_v1_eq ..).trans (Post.final6 m c).symm
    · exact (Cert.Reference5Ideal.Read.val_main_v16_eq ..).trans (Post.final7 m c).symm
    · exact (Cert.Reference5Ideal.Read.val_main_v20_eq ..).trans (Post.final8 m c).symm

end Cert.Proof

end
-- ==== Proof.LossTile.lean ====
/-
  The loss head on one block of rows: the entries of the kernel's values, in the words of the norm's arithmetic.
-/
module

public import proofs.«01_k».proof.Proof.LossFrame
public import proofs.«01_k».proof.Proof.Post

@[expose] public section

set_option maxRecDepth 16384

noncomputable section

namespace Cert.Proof.Loss

open Idealize.ShloMosaic Idealize.ShloMosaic.TcCoe Idealize.SL.Sem
open Cert.Kernel6Ideal Cert.Kernel6Ideal.Gen
open scoped BigOperators

/-- The float word of 1/1024. -/
theorem inv_word : Ideal.ofBits FTy.f32 0x3A800000#32 = ((1 / 1024 : ℝ) : EReal) := by
  simp [Ideal.ofBits, Ideal.ieee, -EReal.coe_mul]; norm_num

/-- The float word of one half. -/
theorem half_word : Ideal.ofBits FTy.f32 0x3F000000#32 = ((1 / 2 : ℝ) : EReal) := by
  simp [Ideal.ofBits, Ideal.ieee, -EReal.coe_mul]; norm_num

/-- The float word of one. -/
theorem one_word : Ideal.ofBits FTy.f32 0x3F800000#32 = ((1 : ℝ) : EReal) := by
  simp [Ideal.ofBits, Ideal.ieee, -EReal.coe_mul]; norm_num

section tile

variable (X : FVec Ideal S432x1024 .bf16) (A : FVec Ideal S432x1024 .f32) (u : FVec Ideal S1024x1024 .bf16) (z : FVec Ideal S432x1024 .f32) (d : FVec Ideal S1x1024x1024 .bf16)

theorem pay17_apply (i : Fin 432) : (k0_pay17 (F := Ideal) X A u z d (ix2 i 0) : EReal) = Rms.root (fun k => k0_pay14 (F := Ideal) X A u z d (ix2 i k)) := by
  unfold k0_pay17 Rms.root Rms.var
  generalize k0_pay14 (F := Ideal) X A u z d = H
  pointwise

theorem pay18_apply (i : Fin 432) (j : Fin 1024) : (k0_pay18 (F := Ideal) X A u z d (ix2 i j) : EReal)
    = k0_pay14 (F := Ideal) X A u z d (ix2 i j) * Rms.root (fun k => k0_pay14 (F := Ideal) X A u z d (ix2 i k)) := by
  rw [← pay17_apply]
  unfold k0_pay18
  generalize k0_pay17 (F := Ideal) X A u z d = R
  generalize k0_pay14 (F := Ideal) X A u z d = H
  pointwise

theorem pay19_apply (g : FVec Ideal S1x1024 .f32) (j : Fin 1024) : (k0_pay19 (F := Ideal) g (ix2 0 j) : EReal) = g (ix2 0 j) := by
  pointwise [k0_pay19]

/-- The first sixteen rows of the error are taken against the halo's rows. -/
theorem pay21_lo (g : FVec Ideal S1x1024 .f32) (p : FVec Ideal S16x1024 .f32) (q : FVec Ideal S416x1024 .f32) (i : Fin 432) (j : Fin 1024) (h : i.val < 16) :
    (k0_pay21 (F := Ideal) X A u z d g p q (ix2 i j) : EReal) = k0_pay18 (F := Ideal) X A u z d (ix2 i j) * g (ix2 0 j) - p (ix2 ⟨i.val, h⟩ j) := by
  unfold k0_pay21 k0_pay19
  generalize k0_pay18 (F := Ideal) X A u z d = N
  pointwise [h]

/-- The other rows against the block's. -/
theorem pay21_hi (g : FVec Ideal S1x1024 .f32) (p : FVec Ideal S16x1024 .f32) (q : FVec Ideal S416x1024 .f32) (i : Fin 432) (j : Fin 1024) (h : ¬i.val < 16) :
    (k0_pay21 (F := Ideal) X A u z d g p q (ix2 i j) : EReal) = k0_pay18 (F := Ideal) X A u z d (ix2 i j) * g (ix2 0 j) - q (ix2 ⟨i.val - 16, by omega⟩ j) := by
  unfold k0_pay21 k0_pay19
  generalize k0_pay18 (F := Ideal) X A u z d = N
  pointwise [h]

end tile

/-- The rows after the first sixteen of the array. -/
theorem pay20_apply : ∀ (t : Fin 19) (i : Fin 432), k0_pay20 (BitVec.ofNat 32 t.val) (ix2 i 0) = if 16 ≤ t.val * 432 + i.val then 1#1 else 0#1 := by
  intro t i
  pointwise [k0_pay20]
  revert t i
  decide +kernel

section head

variable (M : IVec S432x1 1) (E : FVec Ideal S432x1024 .f32)

theorem pay22_apply (i : Fin 432) (j : Fin 1024) : (k0_pay22 (F := Ideal) M E (ix2 i j) : EReal) = if M (ix2 i 0) = 1#1 then E (ix2 i j) else 0 := by
  pointwise [k0_pay22]
  rfl

theorem pay24_apply (i : Fin 432) (j : Fin 1024) : (k0_pay24 (F := Ideal) M E (ix2 i j) : EReal) = k0_pay22 (F := Ideal) M E (ix2 i j) * ((1 / 1024 : ℝ) : EReal) := by
  rw [← inv_word]
  unfold k0_pay24
  generalize k0_pay22 (F := Ideal) M E = D
  pointwise

theorem pay23_apply (v : FVec Ideal S1x1 .f32) (y : S1x1.Idx) : (k0_pay23 (F := Ideal) M E v y : EReal)
    = v y + ((1 / 2 : ℝ) : EReal) * ∑ i : Fin 432, (∑ j : Fin 1024, k0_pay22 (F := Ideal) M E (ix2 i j) * k0_pay22 (F := Ideal) M E (ix2 i j)) * ((1 / 1024 : ℝ) : EReal) := by
  rw [← inv_word, ← half_word]
  unfold k0_pay23
  generalize k0_pay22 (F := Ideal) M E = D
  pointwise

theorem pay25_apply (N : FVec Ideal S432x1024 .f32) (v : FVec Ideal S1x1024 .f32) (y : S1x1024.Idx) : (k0_pay25 (F := Ideal) N M E v y : EReal)
    = v y + ∑ i : Fin 432, k0_pay24 (F := Ideal) M E (ix2 i (y 1)) * N (ix2 i (y 1)) := by
  unfold k0_pay25
  generalize k0_pay24 (F := Ideal) M E = D
  pointwise

theorem pay26_apply (R : FVec Ideal S432x1 .f32) (N : FVec Ideal S432x1024 .f32) (g : FVec Ideal S1x1024 .f32) (i : Fin 432) (j : Fin 1024) :
    (k0_pay26 (F := Ideal) R N g M E (ix2 i j) : EReal)
      = R (ix2 i 0) * (k0_pay24 (F := Ideal) M E (ix2 i j) * g (ix2 0 j)
        - N (ix2 i j) * Ideal.div (∑ k : Fin 1024, k0_pay24 (F := Ideal) M E (ix2 i k) * g (ix2 0 k) * N (ix2 i k)) (Ideal.ofBits FTy.f32 0x44800000#32)) := by
  unfold k0_pay26
  generalize k0_pay24 (F := Ideal) M E = D
  pointwise

end head

/-! The forward part's values are those of the call without the head. -/

theorem pay1_eq (h : FVec Ideal S432x1024 .f32) (y : FVec Ideal S432x1024 .bf16) (w : FVec Ideal S1024x1024 .bf16) :
    k0_pay1 (F := Ideal) h y w = Cert.Kernel5Ideal.Gen.k0_pay4 (F := Ideal) h y w := rfl
theorem pay2_eq (h : FVec Ideal S432x1024 .f32) (y : FVec Ideal S432x1024 .bf16) (w : FVec Ideal S1024x1024 .bf16) (g : FVec Ideal S1x1024 .f32) :
    k0_pay2 (F := Ideal) h y w g = Cert.Kernel5Ideal.Gen.k0_pay5 (F := Ideal) h y w g := rfl
theorem pay4_eq (h : FVec Ideal S432x1024 .f32) (y : FVec Ideal S432x1024 .bf16) (w : FVec Ideal S1024x1024 .bf16) (g : FVec Ideal S1x1024 .f32) (u : FVec Ideal S1x1024x1024 .bf16) :
    k0_pay4 (F := Ideal) h y w g u = Cert.Kernel5Ideal.Gen.k0_pay7 (F := Ideal) h y w g u := rfl
theorem pay5_eq (h : FVec Ideal S432x1024 .f32) (y : FVec Ideal S432x1024 .bf16) (w : FVec Ideal S1024x1024 .bf16) (g : FVec Ideal S1x1024 .f32) (u : FVec Ideal S1x1024x1024 .bf16) :
    k0_pay5 (F := Ideal) h y w g u = Cert.Kernel5Ideal.Gen.k0_pay8 (F := Ideal) h y w g u := rfl
theorem pay7_eq (X : FVec Ideal S432x1024 .bf16) (u : FVec Ideal S1x1024x1024 .bf16) : k0_pay7 (F := Ideal) X u = Cert.Kernel5Ideal.Gen.k0_pay10 (F := Ideal) X u := rfl
theorem pay9_eq (X : FVec Ideal S432x1024 .bf16) (u : FVec Ideal S1x1024x1024 .bf16) : k0_pay9 (F := Ideal) X u = Cert.Kernel5Ideal.Gen.k0_pay12 (F := Ideal) X u := rfl
theorem pay13_eq (X : FVec Ideal S432x1024 .bf16) (u : FVec Ideal S1x1024x1024 .bf16) (z : FVec Ideal S432x1024 .f32) :
    k0_pay13 (F := Ideal) X (k0_pay11 u) z = Cert.Kernel5Ideal.Gen.k0_pay2 (F := Ideal) X (Cert.Kernel5Ideal.Gen.k0_pay14 u) z := rfl
theorem pay14_eq (H : FVec Ideal S432x1024 .f32) (X S : FVec Ideal S432x1024 .bf16) (d0 u1 d1 u2 d2 u3 d3 : FVec Ideal S1x1024x1024 .bf16) (z : FVec Ideal S432x1024 .f32) :
    k0_pay14 (F := Ideal) X (k0_pay10 H X S d0 u1 d1 u2 d2) (k0_pay11 u3) z d3
      = Cert.Kernel5Ideal.Gen.k0_pay3 (F := Ideal) X (Cert.Kernel5Ideal.Gen.k0_pay13 H X S d0 u1 d1 u2 d2) (Cert.Kernel5Ideal.Gen.k0_pay14 u3) z d3 := rfl

end Cert.Proof.Loss

end
-- ==== Proof.LossHead.lean ====
/-
  The reference's loss head, entry by entry: its loss, the weight's gradient and the gradient at the step's output, over
  the error of all rows (zero on the first sixteen).
-/
module

public import proofs.«01_k».proof.Proof.LossRef
public import proofs.«01_k».proof.Proof.LossTile
public import proofs.«01_k».proof.Proof.Rms
public import Idealize.ShloMosaic.Lib.Claim
public import Idealize.ShloMosaic.Lib.Pipeline.ValueKit

@[expose] public section

set_option maxRecDepth 16384

noncomputable section

namespace Cert.Proof.LossRef

open Cert.Reference6Ideal Cert.Reference6Ideal.Gen Idealize.ShloMosaic Idealize.ShloMosaic.TcCoe Idealize.SL.Sem
open scoped BigOperators

variable (h : FVec Ideal S8208x1024 .f32) (g : FVec Ideal S1024 .f32) (t : FVec Ideal S8192x1024 .f32)

theorem vr_apply (r : Fin 8208) : (vr (F := Ideal) h (ix2 r 0) : EReal) = Rms.var (fun k => h (ix2 r k)) := by
  unfold vr Rms.var
  pointwise

theorem nm_apply (r : Fin 8208) (j : Fin 1024) : (nm (F := Ideal) h (ix2 r j) : EReal) = h (ix2 r j) * Rms.root (fun k => h (ix2 r k)) := by
  unfold Rms.root
  rw [← vr_apply]
  unfold nm
  generalize vr (F := Ideal) h = W
  pointwise

theorem wt_apply (r : Fin 8208) (j : Fin 1024) : (wt (F := Ideal) g (ix2 r j) : EReal) = g (ix1 j) := by
  unfold wt
  pointwise
  try rfl

theorem er_apply (s : Fin 8192) (j : Fin 1024) : (er (F := Ideal) h g t (ix2 s j) : EReal)
    = nm (F := Ideal) h (ix2 ⟨16 + s.val, by omega⟩ j) * g (ix1 j) - t (ix2 s j) := by
  rw [← wt_apply g ⟨16 + s.val, by omega⟩ j]
  unfold er
  generalize nm (F := Ideal) h = N
  generalize wt (F := Ideal) g = W
  pointwise
  try rfl

/-- The error of a row, zero on the first sixteen. -/
def err (r : Fin 8208) (j : Fin 1024) : EReal := if hr : 16 ≤ r.val then er (F := Ideal) h g t (ix2 ⟨r.val - 16, by omega⟩ j) else 0

theorem ge_apply (r : Fin 8208) (j : Fin 1024) : (ge (F := Ideal) h g t (ix2 r j) : EReal) = err h g t r j * ((1 / 1024 : ℝ) : EReal) := by
  unfold ge err
  generalize er (F := Ideal) h g t = E
  pointwise
  by_cases hr : 16 ≤ r.val
  · rw [dif_pos ⟨hr, by omega⟩, dif_pos hr, Rms.div_real, Rms.two_word, Loss.half_word]
    generalize (E (ix2 ⟨r.val - 16, _⟩ j) : EReal) = e
    have e2 : (2 : EReal) = ((2 : ℝ) : EReal) := by norm_cast
    rw [e2, ← EReal.coe_mul, ← mul_assoc, ← EReal.coe_mul, mul_comm e]
    norm_num
  · rw [dif_neg (fun hh => hr hh.1), dif_neg hr, zero_mul]

theorem loss_apply (y : S1x1.Idx) : (loss (F := Ideal) h g t y : EReal)
    = ((1 / 2 : ℝ) : EReal) * ∑ s : Fin 8192, (∑ j : Fin 1024, er (F := Ideal) h g t (ix2 s j) * er (F := Ideal) h g t (ix2 s j)) * ((1 / 1024 : ℝ) : EReal) := by
  simp only [← Rms.div_real, ← Loss.half_word]
  unfold loss
  generalize er (F := Ideal) h g t = E
  pointwise
  try rfl

/-- The loss over all rows: the first sixteen add nothing. -/
theorem loss_rows (y : S1x1.Idx) : (loss (F := Ideal) h g t y : EReal)
    = ((1 / 2 : ℝ) : EReal) * ∑ r : Fin 8208, (∑ j : Fin 1024, err h g t r j * err h g t r j) * ((1 / 1024 : ℝ) : EReal) := by
  rw [loss_apply]
  refine congrArg (fun z : EReal => ((1 / 2 : ℝ) : EReal) * z) ?_
  have e := Fin.sum_univ_add (a := 16) (b := 8192) (fun r : Fin (16 + 8192) => (∑ j : Fin 1024, err h g t r j * err h g t r j) * ((1 / 1024 : ℝ) : EReal))
  refine Eq.trans ?_ e.symm
  have z : ∀ i : Fin 16, (∑ j : Fin 1024, err h g t (Fin.castAdd 8192 i) j * err h g t (Fin.castAdd 8192 i) j) * ((1 / 1024 : ℝ) : EReal) = 0 := by
    intro i
    have ze : ∀ j, err h g t (Fin.castAdd 8192 i) j = 0 := fun j => dif_neg (not_le.mpr i.isLt)
    simp only [ze, mul_zero, Finset.sum_const_zero, zero_mul]
  rw [Finset.sum_eq_zero fun i _ => z i, zero_add]
  refine Finset.sum_congr rfl fun s _ => ?_
  have w : ∀ j, err h g t (Fin.natAdd 16 s) j = er (F := Ideal) h g t (ix2 s j) := by
    intro j
    refine (dif_pos (show 16 ≤ (Fin.natAdd 16 s).val from Nat.le_add_right _ _)).trans (congrArg (fun a => er (F := Ideal) h g t (ix2 a j)) (Fin.ext ?_))
    show 16 + s.val - 16 = s.val
    omega
  simp only [w]

theorem dgf_apply (j : Fin 1024) : (dgf (F := Ideal) h g t (ix2 0 j) : EReal) = ∑ r : Fin 8208, nm (F := Ideal) h (ix2 r j) * ge (F := Ideal) h g t (ix2 r j) := by
  unfold dgf
  generalize nm (F := Ideal) h = N
  generalize ge (F := Ideal) h g t = E
  pointwise
  exact Fin.sum_univ_one _

theorem ct_apply (r : Fin 8208) (j : Fin 1024) : (ct (F := Ideal) h g t (ix2 r j) : EReal) = ge (F := Ideal) h g t (ix2 r j) * g (ix1 j) := by
  rw [← wt_apply g r j]
  unfold ct
  generalize wt (F := Ideal) g = W
  generalize ge (F := Ideal) h g t = E
  pointwise

theorem kr_apply (r : Fin 8208) (j : Fin 1024) : (kr (F := Ideal) h g t (ix2 r j) : EReal)
    = Ideal.div ((∑ k, h (ix2 r k) * ct (F := Ideal) h g t (ix2 r k)) * (Ideal.ofBits FTy.f32 0xBF000000#32
        * Ideal.div (Ideal.rsqrt (vr (F := Ideal) h (ix2 r 0))) (vr (F := Ideal) h (ix2 r 0)))) (Ideal.ofBits FTy.f32 0x44800000#32) := by
  unfold kr
  generalize vr (F := Ideal) h = W
  generalize ct (F := Ideal) h g t = C
  pointwise
  exact Fin.sum_univ_one _

theorem dh_apply (r : Fin 8208) (j : Fin 1024) : (dh (F := Ideal) h g t (ix2 r j) : EReal)
    = (ct (F := Ideal) h g t (ix2 r j) * Ideal.rsqrt (vr (F := Ideal) h (ix2 r 0)) + h (ix2 r j) * kr (F := Ideal) h g t (ix2 r j)) + kr (F := Ideal) h g t (ix2 r j) * h (ix2 r j) := by
  unfold dh
  generalize vr (F := Ideal) h = W
  generalize ct (F := Ideal) h g t = C
  generalize kr (F := Ideal) h g t = K
  pointwise

/-- The gradient at the step's output, in the kernel's form. -/
theorem dh_root (r : Fin 8208) (j : Fin 1024) : (dh (F := Ideal) h g t (ix2 r j) : EReal)
    = Rms.root (fun k => h (ix2 r k)) * (ct (F := Ideal) h g t (ix2 r j) - h (ix2 r j) * Rms.root (fun k => h (ix2 r k))
        * Ideal.div (∑ k : Fin 1024, ct (F := Ideal) h g t (ix2 r k) * (h (ix2 r k) * Rms.root (fun k => h (ix2 r k)))) (Ideal.ofBits FTy.f32 0x44800000#32)) := by
  have b := Rms.bwd (fun k => h (ix2 r k)) (fun k => ct (F := Ideal) h g t (ix2 r k)) 0 j
  rw [zero_add, zero_add] at b
  refine Eq.trans ?_ b.symm
  rw [dh_apply, kr_apply, vr_apply]
  rfl

end Cert.Proof.LossRef

end
-- ==== Proof.LossVal.lean ====
/-
  The forward call with the loss head: one block's values are the reference's rows.
-/
module

public import proofs.«01_k».proof.Proof.LossHead

@[expose] public section

set_option maxRecDepth 16384

noncomputable section

namespace Cert.Proof.Loss

open Idealize.ShloMosaic Idealize.ShloMosaic.TcCoe Idealize.SL.Sem
open Idealize.ShloMosaic.Pipeline (Dat Window)
open Cert.Kernel6Ideal Cert.Kernel6Ideal.Gen
open scoped BigOperators

variable (m : (ℓ : Loc nD τ sig) → Buf (Elt Ideal) ℓ)

/-- Where each window's block sits at grid point `t`. -/
theorem idx : ∀ t : Fin cfg0.N, win0_0.index t = ![t.val, 0] ∧ win0_1.index t = ![t.val, 0]
    ∧ win0_2.index t = ![0, 0] ∧ win0_3.index t = ![0, 0] ∧ win0_4.index t = ![0, 0, 0] ∧ win0_5.index t = ![0, 0, 0]
    ∧ win0_6.index t = ![0, 0] ∧ win0_7.index t = ![27 * t.val - 1, 0] ∧ win0_8.index t = ![t.val, 0]
    ∧ win0_9.index t = ![t.val, 0] ∧ win0_10.index t = ![t.val, 0] ∧ win0_11.index t = ![t.val, 0]
    ∧ win0_12.index t = ![0, 0] ∧ win0_13.index t = ![0, 0] :=
  (by decide +kernel : ∀ t : Fin grid0.N, _)

theorem coord : ∀ t : Fin cfg0.N, (grid0.coords t 0).val = t.val ∧ t.val < 19 :=
  (by decide +kernel : ∀ t : Fin grid0.N, _)

/-- The mixer's output the call is given. -/
theorem V0 (c : Dev nD) (i : S8208x1024.Idx) : (V m c main_v0 i : EReal) = m ((c : Thread nD τ).loc main_arg1) i := by
  entry_read; rfl

/-- The output projection the call is given. -/
theorem V1 (c : Dev nD) (i : S1024x1024.Idx) : (V m c main_v1 i : EReal) = m ((c : Thread nD τ).loc main_arg2) i := by
  entry_read; rfl

/-- The norm's weight the call is given. -/
theorem V2 (c : Dev nD) (i : S1x1024.Idx) : (V m c main_v2 i : EReal)
    = m ((c : Thread nD τ).loc main_arg3) (ix1 (i 1)) := by
  entry_read
  pointwise
  try blk_ext

/-- Slab `q` of the up-projection the call is given holds its columns from `1024 q`. -/
theorem V5 (c : Dev nD) (i : S4x1024x1024.Idx) : (V m c main_v5 i : EReal)
    = m ((c : Thread nD τ).loc main_arg4) (ix2 (i 1) ⟨(i 0).val * 1024 + (i 2).val, by have h0 : (i 0).val < 4 := (i 0).isLt; have h2 : (i 2).val < 1024 := (i 2).isLt; omega⟩) := by
  entry_read
  pointwise
  blk_ext

/-- Slab `q` of the down-projection the call is given holds its rows from `1024 q`. -/
theorem V7 (c : Dev nD) (i : S4x1024x1024.Idx) : (V m c main_v7 i : EReal)
    = m ((c : Thread nD τ).loc main_arg5) (ix2 ⟨(i 0).val * 1024 + (i 1).val, by have h0 : (i 0).val < 4 := (i 0).isLt; have h2 : (i 1).val < 1024 := (i 1).isLt; omega⟩ (i 2)) := by
  entry_read
  pointwise
  blk_ext

/-- The last norm's weight the call is given. -/
theorem V8 (c : Dev nD) (i : S1x1024.Idx) : (V m c main_v8 i : EReal)
    = m ((c : Thread nD τ).loc main_arg6) (ix1 (i 1)) := by
  entry_read
  pointwise
  try blk_ext

/-- The block's first result, `h1`. -/
def H1 (c : Dev nD) (t : Fin cfg0.N) : FVec Ideal S432x1024 .f32 := k0_pay1 (F := Ideal) (iblk m c 0 t) (iblk m c 1 t) (iblk m c 2 t)

/-- The MLP's normed input. -/
def X1 (c : Dev nD) (t : Fin cfg0.N) : FVec Ideal S432x1024 .bf16 := k0_pay2 (F := Ideal) (iblk m c 0 t) (iblk m c 1 t) (iblk m c 2 t) (iblk m c 3 t)

/-- A slab of the up-projection, as loaded. -/
def US (c : Dev nD) (t : Fin cfg0.N) (q : ℕ) (inb : ∀ a : Fin S4x1024x1024.rank, (![q, 0, 0] : Fin 3 → ℕ) a + (![1, 1024, 1024] : Fin 3 → ℕ) a ≤ S4x1024x1024.size a) : FVec Ideal S1x1024x1024 .bf16 := View.ld (iblk m c 4 t) (Rect.unit (s := S4x1024x1024) ![q, 0, 0] ![1, 1024, 1024] inb)

/-- A slab of the down-projection, as loaded. -/
def DS (c : Dev nD) (t : Fin cfg0.N) (q : ℕ) (inb : ∀ a : Fin S4x1024x1024.rank, (![q, 0, 0] : Fin 3 → ℕ) a + (![1, 1024, 1024] : Fin 3 → ℕ) a ≤ S4x1024x1024.size a) : FVec Ideal S1x1024x1024 .bf16 := View.ld (iblk m c 5 t) (Rect.unit (s := S4x1024x1024) ![q, 0, 0] ![1, 1024, 1024] inb)

/-- The step's output, from three of the slabs. -/
def A1 (c : Dev nD) (t : Fin cfg0.N) : FVec Ideal S432x1024 .f32 :=
  k0_pay10 (H1 m c t) (X1 m c t) (k0_pay5 (iblk m c 0 t) (iblk m c 1 t) (iblk m c 2 t) (iblk m c 3 t) (US m c t 0 inb_S4x1024x1024_S1x1024x1024_0_0_0)) (DS m c t 0 inb_S4x1024x1024_S1x1024x1024_0_0_0)
    (US m c t 1 inb_S4x1024x1024_S1x1024x1024_1_0_0) (DS m c t 1 inb_S4x1024x1024_S1x1024x1024_1_0_0) (US m c t 2 inb_S4x1024x1024_S1x1024x1024_2_0_0) (DS m c t 2 inb_S4x1024x1024_S1x1024x1024_2_0_0)

/-- The last slab of the up-projection, as a matrix. -/
def U3 (c : Dev nD) (t : Fin cfg0.N) : FVec Ideal S1024x1024 .bf16 := k0_pay11 (US m c t 3 inb_S4x1024x1024_S1x1024x1024_3_0_0)

/-- The last slab of the down-projection. -/
def D3 (c : Dev nD) (t : Fin cfg0.N) : FVec Ideal S1x1024x1024 .bf16 := DS m c t 3 inb_S4x1024x1024_S1x1024x1024_3_0_0

/-- The step's output. -/
def H2 (c : Dev nD) (t : Fin cfg0.N) : FVec Ideal S432x1024 .f32 := k0_pay14 (X1 m c t) (A1 m c t) (U3 m c t) (constant S432x1024 .f32 0x00000000#32) (D3 m c t)

/-- The reciprocal roots of its rows. -/
def R2 (c : Dev nD) (t : Fin cfg0.N) : FVec Ideal S432x1 .f32 := k0_pay17 (X1 m c t) (A1 m c t) (U3 m c t) (constant S432x1024 .f32 0x00000000#32) (D3 m c t)

/-- Its normalised rows. -/
def N2 (c : Dev nD) (t : Fin cfg0.N) : FVec Ideal S432x1024 .f32 := k0_pay18 (X1 m c t) (A1 m c t) (U3 m c t) (constant S432x1024 .f32 0x00000000#32) (D3 m c t)

/-- The rows the loss counts. -/
def M2 (t : Fin cfg0.N) : IVec S432x1 1 := k0_pay20 (BitVec.ofNat 32 (grid0.coords t 0).val)

/-- The error. -/
def E2 (c : Dev nD) (t : Fin cfg0.N) : FVec Ideal S432x1024 .f32 :=
  k0_pay21 (X1 m c t) (A1 m c t) (U3 m c t) (constant S432x1024 .f32 0x00000000#32) (D3 m c t) (iblk m c 6 t) (iblk m c 7 t)
    (View.ld (tgt m c t pad) (Rect.unit (s := S432x1024) ![0, 0] ![416, 1024] inb_S432x1024_S416x1024_0_0))

/-- The reference's step output. -/
def h2 (c : Dev nD) : FVec Ideal S8208x1024 .f32 :=
  Cert.Reference5Ideal.Read.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

section blocks

variable (c : Dev nD) (t : Fin cfg0.N) (i : Fin 432) (r : Fin 8208) (hr : r.val = t.val * 432 + i.val)
include hr

theorem b0 (k : Fin 1024) : (iblk m c 0 t : FVec Ideal S432x1024 .f32) (ix2 i k) = (m ((c : Thread nD τ).loc main_arg0) : FVec Ideal S8208x1024 .f32) (ix2 r k) := by
  blk_point [iblk, V_main_arg0, idx t]

theorem b1 (k : Fin 1024) : (iblk m c 1 t : FVec Ideal S432x1024 .bf16) (ix2 i k) = (m ((c : Thread nD τ).loc main_arg1) : FVec Ideal S8208x1024 .f32) (ix2 r k) := by
  blk_point [iblk, V0, idx t]

omit hr in
theorem b2 (k j : Fin 1024) : (iblk m c 2 t : FVec Ideal S1024x1024 .bf16) (ix2 k j) = (m ((c : Thread nD τ).loc main_arg2) : FVec Ideal S1024x1024 .f32) (ix2 k j) := by
  blk_point [iblk, V1, idx t]

omit hr in
theorem b3 (k : Fin 1024) : (iblk m c 3 t : FVec Ideal S1x1024 .f32) (ix2 0 k) = (m ((c : Thread nD τ).loc main_arg3) : FVec Ideal S1024 .f32) (ix1 k) := by
  blk_point [iblk, V2, idx t]

omit hr in
/-- Slab `q` of the up-projection. -/
theorem b4 (q : ℕ) (hq : q < 4) (inb) (k j : Fin 1024) (l : Fin 4096) (hl : l.val = q * 1024 + j.val) :
    (US m c t q inb (ix3 0 k j) : EReal) = (m ((c : Thread nD τ).loc main_arg4) : FVec Ideal S1024x4096 .f32) (ix2 k l) := by
  refine (Post.ld_w _ q hq inb k j).trans ?_
  blk_point [iblk, V5, idx t]

omit hr in
/-- Slab `q` of the down-projection. -/
theorem b5 (q : ℕ) (hq : q < 4) (inb) (j k : Fin 1024) (l : Fin 4096) (hl : l.val = q * 1024 + j.val) :
    (DS m c t q inb (ix3 0 j k) : EReal) = (m ((c : Thread nD τ).loc main_arg5) : FVec Ideal S4096x1024 .f32) (ix2 l k) := by
  refine (Post.ld_w _ q hq inb j k).trans ?_
  blk_point [iblk, V7, idx t]

omit hr in
theorem b6 (k : Fin 1024) : (iblk m c 6 t : FVec Ideal S1x1024 .f32) (ix2 0 k) = (m ((c : Thread nD τ).loc main_arg6) : FVec Ideal S1024 .f32) (ix1 k) := by
  blk_point [iblk, V8, idx t]

omit hr in
/-- The halo: the sixteen targets before the block's. -/
theorem b7 (i : Fin 16) (k : Fin 1024) (s : Fin 8192) (hs : s.val = t.val * 432 + i.val - 16) (ht : 0 < t.val) :
    (iblk m c 7 t : FVec Ideal S16x1024 .f32) (ix2 i k) = (m ((c : Thread nD τ).loc main_arg7) : FVec Ideal S8192x1024 .f32) (ix2 s k) := by
  blk_point [iblk, V_main_arg7, idx t]

omit hr in
/-- The block's targets, as loaded. -/
theorem b8 (d : Vec Ideal S432x1024 .f32) (inb) (i : Fin 416) (k : Fin 1024) (s : Fin 8192) (hs : s.val = t.val * 432 + i.val) :
    (View.ld (tgt m c t d) (Rect.unit (s := S432x1024) ![0, 0] ![416, 1024] inb) (ix2 i k) : EReal) = (m ((c : Thread nD τ).loc main_arg7) : FVec Ideal S8192x1024 .f32) (ix2 s k) := by
  have hm : win0_8.moved (grid0.coords t) (ix2 (⟨i.val, by omega⟩ : Fin 432) k) = true := (win0_8.moved_iff _ _).mpr fun a => by
    match a with
    | ⟨0, _⟩ => exact lt_of_lt_of_le i.isLt (xsize8 t).1
    | ⟨1, _⟩ => exact lt_of_lt_of_le k.isLt (xsize8 t).2
  rw [View.ld_apply]
  have e : (Rect.unit (s := S432x1024) ![0, 0] ![416, 1024] inb).idx (ix2 i k) = ix2 (⟨i.val, by omega⟩ : Fin 432) k := by
    refine funext fun a => Fin.ext ?_
    match a with
    | ⟨0, _⟩ => show 0 + 1 * i.val = i.val; omega
    | ⟨1, _⟩ => show 0 + 1 * k.val = k.val; omega
  rw [e]
  unfold tgt Window.fill
  rw [dif_pos hm]
  blk_point [iblk, V_main_arg7, idx t]

theorem h1_point (j : Fin 1024) : (H1 m c t (ix2 i j) : EReal)
    = Cert.Reference5Ideal.Read.val_main_v1 (F := Ideal) (m ((c : Thread nD τ).loc main_arg0)) (m ((c : Thread nD τ).loc main_arg1)) (m ((c : Thread nD τ).loc main_arg2)) (ix2 r j) := by
  unfold H1
  rw [pay1_eq]
  exact Post.h1_ref _ _ _ _ _ _ i r (b0 m c t i r hr) (b1 m c t i r hr) (b2 m c t) j

theorem xn_point (j : Fin 1024) : (X1 m c t (ix2 i j) : EReal)
    = Cert.Reference5Ideal.Read.val_main_v14 (F := Ideal) (m ((c : Thread nD τ).loc main_arg0)) (m ((c : Thread nD τ).loc main_arg1)) (m ((c : Thread nD τ).loc main_arg2)) (m ((c : Thread nD τ).loc main_arg3)) (ix2 r j) := by
  unfold X1
  rw [pay2_eq]
  exact Post.xn_ref _ _ _ _ _ _ _ _ i r (b0 m c t i r hr) (b1 m c t i r hr) (b2 m c t) (b3 m c t) j

theorem up_point (q : ℕ) (hq : q < 4) (inb) (j : Fin 1024) (l : Fin 4096) (hl : l.val = q * 1024 + j.val) :
    Post.up (X1 m c t) (US m c t q inb) i j
      = Cert.Reference5Ideal.Read.val_main_v16 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r l) :=
  Post.up_ref _ _ _ _ _ _ _ i j r l (xn_point m c t i r hr) (fun k => b4 m c t q hq inb k j l hl)

theorem h2_point (j : Fin 1024) : (H2 m c t (ix2 i j) : EReal) = h2 m c (ix2 r j) := by
  unfold H2 A1 U3 D3
  rw [pay14_eq, pay5_eq]
  exact Post.h2_ref _ _ _ _ _ _ _ _ _ _ _ _ _ _ _ _ _ i j r
    (h1_point m c t i r hr _) (xn_point m c t i r hr) (fun k => Post.pay8_apply _ _ _ _ _ _ _)
    (fun k l => b4 m c t 0 (by decide) _ k l _ rfl) (fun l k => b5 m c t 0 (by decide) _ l k _ rfl)
    (fun k l => b4 m c t 1 (by decide) _ k l _ rfl) (fun l k => b5 m c t 1 (by decide) _ l k _ rfl)
    (fun k l => b4 m c t 2 (by decide) _ k l _ rfl) (fun l k => b5 m c t 2 (by decide) _ l k _ rfl)
    (fun k l => b4 m c t 3 (by decide) _ k l _ rfl) (fun l k => b5 m c t 3 (by decide) _ l k _ rfl)

theorem root_point : (R2 m c t (ix2 i 0) : EReal) = Rms.root (fun k => h2 m c (ix2 r k)) :=
  (pay17_apply _ _ _ _ _ _).trans (congrArg Rms.root (funext fun k => h2_point m c t i r hr k))

theorem nm_point (j : Fin 1024) : (N2 m c t (ix2 i j) : EReal) = LossRef.nm (F := Ideal) (h2 m c) (ix2 r j) := by
  rw [LossRef.nm_apply]
  exact (pay18_apply _ _ _ _ _ _ _).trans (congrArg₂ (fun a b : EReal => a * b) (h2_point m c t i r hr j) (congrArg Rms.root (funext fun k => h2_point m c t i r hr k)))

/-- The error the loss counts is the reference's. -/
theorem err_point (j : Fin 1024) : (k0_pay22 (F := Ideal) (M2 t) (E2 m c t) (ix2 i j) : EReal)
    = LossRef.err (h2 m c) (m ((c : Thread nD τ).loc main_arg6)) (m ((c : Thread nD τ).loc main_arg7)) r j := by
  rw [pay22_apply]
  have ht := (coord t).2
  have hM : M2 t (ix2 i 0) = if 16 ≤ r.val then 1#1 else 0#1 := by
    unfold M2
    rw [(coord t).1, hr]
    exact pay20_apply ⟨t.val, ht⟩ i
  rw [hM]
  unfold LossRef.err
  by_cases h : 16 ≤ r.val
  · rw [if_pos h, if_pos rfl, dif_pos h, LossRef.er_apply]
    have er : (⟨16 + (r.val - 16), by omega⟩ : Fin 8208) = r := Fin.ext (by show 16 + (r.val - 16) = r.val; omega)
    rw [er]
    by_cases hi : i.val < 16
    · refine (pay21_lo _ _ _ _ _ _ _ _ _ _ hi).trans ?_
      exact congrArg₂ (fun a b : EReal => a - b) (congrArg₂ (fun a b : EReal => a * b) (nm_point m c t i r hr j) (b6 m c t j))
        (b7 m c t ⟨i.val, hi⟩ j _ (by show r.val - 16 = _; rw [hr]) (by omega))
    · refine (pay21_hi _ _ _ _ _ _ _ _ _ _ hi).trans ?_
      exact congrArg₂ (fun a b : EReal => a - b) (congrArg₂ (fun a b : EReal => a * b) (nm_point m c t i r hr j) (b6 m c t j))
        (b8 m c t pad _ ⟨i.val - 16, by omega⟩ j _ (by show r.val - 16 = t.val * 432 + (i.val - 16); omega))
  · rw [if_neg h, if_neg (by decide), dif_neg h]

/-- The loss's gradient at the normed row is the reference's. -/
theorem ge_point (j : Fin 1024) : (k0_pay24 (F := Ideal) (M2 t) (E2 m c t) (ix2 i j) : EReal)
    = LossRef.ge (F := Ideal) (h2 m c) (m ((c : Thread nD τ).loc main_arg6)) (m ((c : Thread nD τ).loc main_arg7)) (ix2 r j) := by
  rw [LossRef.ge_apply, pay24_apply, err_point m c t i r hr]

/-- The gradient at the step's output is the reference's. -/
theorem dh_point (j : Fin 1024) : (k0_pay26 (F := Ideal) (R2 m c t) (N2 m c t) (k0_pay19 (iblk m c 6 t)) (M2 t) (E2 m c t) (ix2 i j) : EReal)
    = LossRef.dh (F := Ideal) (h2 m c) (m ((c : Thread nD τ).loc main_arg6)) (m ((c : Thread nD τ).loc main_arg7)) (ix2 r j) := by
  rw [pay26_apply, LossRef.dh_root, root_point m c t i r hr]
  have e : ∀ k, (k0_pay24 (F := Ideal) (M2 t) (E2 m c t) (ix2 i k) * k0_pay19 (F := Ideal) (iblk m c 6 t) (ix2 0 k) : EReal)
      = LossRef.ct (F := Ideal) (h2 m c) (m ((c : Thread nD τ).loc main_arg6)) (m ((c : Thread nD τ).loc main_arg7)) (ix2 r k) := fun k => by
    rw [LossRef.ct_apply]
    exact congrArg₂ (fun a b : EReal => a * b) (ge_point m c t i r hr k) ((pay19_apply _ k).trans (b6 m c t k))
  have n : ∀ k, (N2 m c t (ix2 i k) : EReal) = h2 m c (ix2 r k) * Rms.root (fun k => h2 m c (ix2 r k)) := fun k =>
    (nm_point m c t i r hr k).trans (LossRef.nm_apply _ _ _)
  simp only [e, n]

end blocks

end Cert.Proof.Loss

end
-- ==== Proof.LossOut.lean ====
/-
  The forward call with the loss head: what its run leaves, as the reference's values.
-/
module

public import proofs.«01_k».proof.Proof.LossVal
public import proofs.«01_k».proof.Proof.PostOut

@[expose] public section

set_option maxRecDepth 16384

noncomputable section

namespace Cert.Proof.Loss

open Idealize.ShloMosaic Idealize.ShloMosaic.TcCoe Idealize.SL.Sem
open Idealize.ShloMosaic.Pipeline (Dat Window)
open Cert.Kernel6Ideal Cert.Kernel6Ideal.Gen
open scoped BigOperators

variable (m : (ℓ : Loc nD τ sig) → Buf (Elt Ideal) ℓ)

theorem hzero15 (j) : k0_pay15 (F := Ideal) j = 0 := by pointwise [k0_pay15]

theorem hzero16 (j) : k0_pay16 (F := Ideal) j = 0 := by pointwise [k0_pay16]

/-- What a point leaves for `h1`. -/
theorem o9 (c : Dev nD) (t : Fin cfg0.N) (y) : (outsAt m c t.val t.isLt).1 y = H1 m c t y := by
  rcases Classical.em (t.val % 19 = 0) with h | h
  · rw [outsAt_A m c t h]; unfold outA ptA runA; frame_out; rfl
  · rw [outsAt_B m c t h]; unfold outB ptB runB; frame_out; rfl

/-- What a point leaves for `dh`. -/
theorem o11 (c : Dev nD) (t : Fin cfg0.N) (y) : (outsAt m c t.val t.isLt).2.2.1 y
    = k0_pay26 (F := Ideal) (R2 m c t) (N2 m c t) (k0_pay19 (iblk m c 6 t)) (M2 t) (E2 m c t) y := by
  rcases Classical.em (t.val % 19 = 0) with h | h
  · rw [outsAt_A m c t h]; unfold outA ptA runA; frame_out; rfl
  · rw [outsAt_B m c t h]; unfold outB ptB runB; frame_out; rfl

theorem row_lt (t : Fin cfg0.N) (i : Fin 432) : t.val * 432 + i.val < 8208 := by
  have h1 : t.val < 19 := (coord t).2
  omega

/-- `h1` after the run. -/
theorem final9 (c : Dev nD) : (dats m 0 c).arrAt 9 cfg0.N = Cert.Reference5Ideal.Read.val_main_v1 (F := Ideal) (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after_9]
  refine (o9 m c t y).trans ((congrArg _ (ix2_eta y).symm).trans ?_)
  refine (h1_point m c t (y 0) ⟨t.val * 432 + (y 0).val, row_lt t (y 0)⟩ rfl (y 1)).trans (congrArg _ ?_)
  blk_ext [idx t]

/-- `a` after the run. -/
theorem final10 (c : Dev nD) : (dats m 0 c).arrAt 10 cfg0.N = Cert.Reference5Ideal.Read.val_main_v16 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t hf y => ?_
  blk_simp
  rw [after_10]
  have pt : ∀ (x : S432x1024.Idx) (q : ℕ) (hq : q < 4) (inb) (h0 : (y 0).val = (x 0).val) (h1 : (y 1).val = 1024 * q + (x 1).val),
      Post.up (X1 m c t) (US m c t q inb) (x 0) (x 1)
      = Cert.Reference5Ideal.Read.val_main_v16 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((View.whole main_v9_1).slice (win0_10.rect t)).emb y) := by
    intro x q hq inb h0 h1
    refine (up_point m c t (x 0) _ ?_ q hq inb (x 1) _ ?_).trans (congrArg _ (ix2_eta _))
    · blk_simp [idx t] <;> try omega
    · blk_simp [idx t] <;> try omega
  rcases Classical.em (t.val % 19 = 0) with h | h
  · rw [outsAt_A m c t h]
    unfold outA ptA runA
    frame_out
    canon_tiles x hx
    · refine (congrArg _ (ix2_eta x).symm).trans ?_
      rw [pay13_eq]
      exact (Post.pay2_apply _ _ _ _).trans (pt x 3 (by decide) _ hx0 (by omega))
    · refine (congrArg _ (ix2_eta x).symm).trans ?_
      rw [pay9_eq]
      exact (Post.pay12_apply _ _ _ _).trans (pt x 2 (by decide) _ hx0 (by omega))
    · refine (congrArg _ (ix2_eta x).symm).trans ?_
      rw [pay7_eq]
      exact (Post.pay10_apply _ _ _ _).trans (pt x 1 (by decide) _ hx0 (by omega))
    · refine (congrArg _ (ix2_eta x).symm).trans ?_
      rw [pay4_eq]
      exact (Post.pay7_apply _ _ _ _ _ _ _).trans (pt x 0 (by decide) _ hx0 (by omega))
  · rw [outsAt_B m c t h]
    unfold outB ptB runB
    frame_out
    canon_tiles x hx
    · refine (congrArg _ (ix2_eta x).symm).trans ?_
      rw [pay13_eq]
      exact (Post.pay2_apply _ _ _ _).trans (pt x 3 (by decide) _ hx0 (by omega))
    · refine (congrArg _ (ix2_eta x).symm).trans ?_
      rw [pay9_eq]
      exact (Post.pay12_apply _ _ _ _).trans (pt x 2 (by decide) _ hx0 (by omega))
    · refine (congrArg _ (ix2_eta x).symm).trans ?_
      rw [pay7_eq]
      exact (Post.pay10_apply _ _ _ _).trans (pt x 1 (by decide) _ hx0 (by omega))
    · refine (congrArg _ (ix2_eta x).symm).trans ?_
      rw [pay4_eq]
      exact (Post.pay7_apply _ _ _ _ _ _ _).trans (pt x 0 (by decide) _ hx0 (by omega))

/-- `dh` after the run. -/
theorem final11 (c : Dev nD) : (dats m 0 c).arrAt 11 cfg0.N = LossRef.dh (F := Ideal) (h2 m c) (m ((c : Thread nD τ).loc main_arg6)) (m ((c : Thread nD τ).loc main_arg7)) := by
  refine (dats m 0 c).arrAt_eq_of_covers 11 _ (by decide +kernel) fun t hf y => ?_
  blk_simp
  rw [after_11]
  refine (o11 m c t y).trans ((congrArg _ (ix2_eta y).symm).trans ?_)
  refine (dh_point m c t (y 0) ⟨t.val * 432 + (y 0).val, row_lt t (y 0)⟩ rfl (y 1)).trans (congrArg _ ?_)
  blk_ext [idx t]

/-- `dgf` after the run: the sum over all rows. -/
theorem final12 (c : Dev nD) : (dats m 0 c).arrAt 12 cfg0.N = LossRef.dgf (F := Ideal) (h2 m c) (m ((c : Thread nD τ).loc main_arg6)) (m ((c : Thread nD τ).loc main_arg7)) := by
  refine (dats m 0 c).arrAt_eq_of_covers 12 _ (by decide +kernel) fun t hf y => ?_
  blk_simp
  rw [after_12, Pipeline.eq_sum_fin_of_reset_step_apply_of_flush (fun n h => (outsAt m c n h).2.2.2.1) 19 (fun _ => 0)
    (fun p j => (∑ i : Fin 432, k0_pay24 (F := Ideal) (M2 p) (E2 m c p) (ix2 i (j 1)) * N2 m c p (ix2 i (j 1)) : EReal))
    (fun t h j => by rw [outsAt_A m c t h]; unfold outA ptA runA; frame_out; rw [pay25_apply, hzero15]; rfl)
    (fun t h j => by rw [outsAt_B m c t h]; unfold outB ptB runB; frame_out; rw [pay25_apply]; rfl)
    t ((flush0_12 t).mp hf) _, zero_add]
  have ey : (win0_12.blk t).view.emb y = ix2 0 (y 1) := by
    blk_ext [idx t]
  have e := LossRef.dgf_apply (h2 m c) (m ((c : Thread nD τ).loc main_arg6)) (m ((c : Thread nD τ).loc main_arg7)) (y 1)
  refine Eq.trans ?_ (e.symm.trans (congrArg _ ey.symm))
  refine Fin.sum_mul_add_congr fun s k hl => ?_
  have hs : (19 * (t.val / 19) + s.val) = s.val := by
    have h1 : t.val < 19 := (coord t).2
    omega
  have hr : s.val * 432 + k.val = (19 * (t.val / 19) + s.val) * 432 + k.val := by rw [hs]
  show (_ : EReal) = _
  refine (mul_comm (_ : EReal) _).trans ?_
  exact congrArg₂ (fun a b : EReal => a * b)
    (nm_point m c ⟨19 * (t.val / 19) + s.val, Pipeline.run_point_lt_of_flush t ((flush0_12 t).mp hf) s⟩ k ⟨s.val * 432 + k.val, hl⟩ hr (y 1))
    (ge_point m c ⟨19 * (t.val / 19) + s.val, Pipeline.run_point_lt_of_flush t ((flush0_12 t).mp hf) s⟩ k ⟨s.val * 432 + k.val, hl⟩ hr (y 1))

/-- The first point's part of the loss. -/
theorem o13A (c : Dev nD) (t : Fin cfg0.N) (h : t.val % 19 = 0) (j) : (outsAt m c t.val t.isLt).2.2.2.2 j
    = (0 : EReal) + ((1 / 2 : ℝ) : EReal) * ∑ i : Fin 432, (∑ k : Fin 1024, k0_pay22 (F := Ideal) (M2 t) (E2 m c t) (ix2 i k) * k0_pay22 (F := Ideal) (M2 t) (E2 m c t) (ix2 i k)) * ((1 / 1024 : ℝ) : EReal) := by
  rw [outsAt_A m c t h]; unfold outA ptA runA; frame_out; rw [pay23_apply, hzero16]; rfl

/-- A later point's part of the loss. -/
theorem o13B (c : Dev nD) (t : Fin cfg0.N) (h : ¬t.val % 19 = 0) (j) : (outsAt m c t.val t.isLt).2.2.2.2 j
    = ((outsAt m c (t.val - 1) (Nat.lt_of_le_of_lt (Nat.sub_le _ _) t.isLt)).2.2.2.2 j : EReal) + ((1 / 2 : ℝ) : EReal) * ∑ i : Fin 432, (∑ k : Fin 1024, k0_pay22 (F := Ideal) (M2 t) (E2 m c t) (ix2 i k) * k0_pay22 (F := Ideal) (M2 t) (E2 m c t) (ix2 i k)) * ((1 / 1024 : ℝ) : EReal) := by
  rw [outsAt_B m c t h]; unfold outB ptB runB; frame_out; rw [pay23_apply]; rfl

/-- A multiple of a sum over all rows, tile by tile. -/
theorem tile_sum (f : Fin 8208 → EReal) (G : Fin 19 → Fin 432 → EReal) (h : ∀ (s : Fin 19) (k : Fin 432) (hl : s.val * 432 + k.val < 8208), G s k = f ⟨s.val * 432 + k.val, hl⟩) :
    ∑ s, ((1 / 2 : ℝ) : EReal) * ∑ i, G s i = ((1 / 2 : ℝ) : EReal) * ∑ r, f r := by
  rw [Rms.real_mul_sum _ (by norm_num)]
  exact congrArg (fun z : EReal => ((1 / 2 : ℝ) : EReal) * z) (Fin.sum_mul_add_congr fun s k hl => h s k hl)

/-- The loss after the run: the sum over all rows. -/
theorem final13 (c : Dev nD) : (dats m 0 c).arrAt 13 cfg0.N = LossRef.loss (F := Ideal) (h2 m c) (m ((c : Thread nD τ).loc main_arg6)) (m ((c : Thread nD τ).loc main_arg7)) := by
  refine (dats m 0 c).arrAt_eq_of_covers 13 _ (by decide +kernel) fun t hf y => ?_
  blk_simp
  rw [after_13, Pipeline.eq_sum_fin_of_reset_step_apply_of_flush (fun n h => (outsAt m c n h).2.2.2.2) 19 (fun _ => 0)
    (fun p j => (((1 / 2 : ℝ) : EReal) * ∑ i : Fin 432, (∑ k : Fin 1024, k0_pay22 (F := Ideal) (M2 p) (E2 m c p) (ix2 i k) * k0_pay22 (F := Ideal) (M2 p) (E2 m c p) (ix2 i k)) * ((1 / 1024 : ℝ) : EReal) : EReal))
    (o13A m c)
    (o13B m c)
    t ((flush0_13 t).mp hf) _, zero_add]
  have e := LossRef.loss_rows (h2 m c) (m ((c : Thread nD τ).loc main_arg6)) (m ((c : Thread nD τ).loc main_arg7)) ((win0_13.blk t).view.emb y)
  refine Eq.trans ?_ e.symm
  refine tile_sum _ _ fun s k hl => ?_
  have hs : (19 * (t.val / 19) + s.val) = s.val := by
    have h1 : t.val < 19 := (coord t).2
    omega
  have hr : s.val * 432 + k.val = (19 * (t.val / 19) + s.val) * 432 + k.val := by rw [hs]
  have p := err_point m c ⟨19 * (t.val / 19) + s.val, Pipeline.run_point_lt_of_flush t ((flush0_13 t).mp hf) s⟩ k ⟨s.val * 432 + k.val, hl⟩ hr
  show (_ : EReal) = _
  simp only [p]

/-- What the run leaves, array by array. -/
theorem run_blocks (ρ : Dev nD → PrngReg) : θ_run defs (onTc (τ := τ) (main (F := Ideal))) ⟨m, fun _ => 0, ρ⟩ fun r => ∀ c : Dev nD,
      r.2.mem ((c : Thread nD τ).loc main_v9_0) = (dats m 0 c).arrAt 9 cfg0.N
      ∧ r.2.mem ((c : Thread nD τ).loc main_v9_1) = (dats m 0 c).arrAt 10 cfg0.N
      ∧ r.2.mem ((c : Thread nD τ).loc main_v9_2) = (dats m 0 c).arrAt 11 cfg0.N
      ∧ r.2.mem ((c : Thread nD τ).loc main_v9_3) = (dats m 0 c).arrAt 12 cfg0.N
      ∧ r.2.mem ((c : Thread nD τ).loc main_v9_4) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r h c => ?_) (θ_run_and (run_main m ρ) (frame m ρ))
  have o := (h.1.1 c).1
  exact ⟨o 9, o 10, o 11, o 12, o 13, (h.2.1 c)⟩

end Cert.Proof.Loss

end
-- ==== Proof.Alg6.lean ====
module

public import proofs.«01_k».proof.Defs
public import proofs.«01_k».proof.Proof.LossOut
public import Idealize.ShloMosaic.Lib.Claim

@[expose] public section

noncomputable section

namespace Cert.Proof

open Idealize.ShloMosaic Idealize.SL.Sem

set_option maxRecDepth 16384 in
/-- The forward call with the loss head and its reference end with equal results. -/
theorem alg6 : Cert.algebraic_Kernel6Ideal_Reference6Ideal := by
  pair_intro
  · run_from Loss.run_blocks m g
  · run_from LossRef.run m' g'
    · exact (Loss.final9 m c).symm
    · exact (Loss.final10 m c).symm
    · exact (Loss.final11 m c).symm
    · exact (Loss.final12 m c).symm
    · exact (Loss.final13 m c).symm

end Cert.Proof

end
-- ==== Proof.Alg11.lean ====
/-
  The addition of a pair of arrays: its frame and its value.
-/
module

public import proofs.«01_k».proof.Defs
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Reference11Ideal.Read
public import Idealize.ShloMosaic.Lib.Claim
public import Idealize.ShloMosaic.Lib.Pipeline.ValueKit

@[expose] public section

set_option maxRecDepth 16384

noncomputable section

namespace Cert.Proof.Pair11

open Idealize.ShloMosaic Idealize.ShloMosaic.TcCoe Idealize.SL.Sem
open Idealize.ShloMosaic.Pipeline (Dat)
open Cert.Kernel11Ideal Cert.Kernel11Ideal.Gen

variable {F : FTy → Type} [FloatOps F]

/-- The table the call reads: the core's number, zero. -/
def pf : pre0.Contents (Elt F) := fun | ⟨0, _⟩ => fun _ => (0#32 : BitVec 32) | ⟨_ + 1, h⟩ => absurd h (by simp)

/-- It is what the call finds in its table. -/
theorem tbl_eq (m : (ℓ : Loc nD τ sig) → Buf (Elt F) ℓ) : tbl m = pf := by
  funext j
  match j with
  | ⟨0, _⟩ => rfl

/-- Where the first operand's block sits. -/
theorem t0 : ∀ i : grid0.Coords, cc0_transform_0 (F := F) inb_S1_S1_0 numel1_S1 pf i = ![(i 0).val, 0, 0] := by
  intro i
  have h1 : (i 1).val = 0 := by have : (i 1).val < 1 := (i 1).isLt; omega
  have h0 : (i 0).val < 4 := (i 0).isLt
  unfold cc0_transform_0
  rw [h1]
  show ![(BitVec.ofNat 32 (i 0).val).toNat, 0, 0] = _
  rw [BitVec.toNat_ofNat, Nat.mod_eq_of_lt (by omega)]

/-- The first operand's blocks lie inside it. -/
theorem okpf : ok0 (F := F) pf := by
  unfold ok0
  simp only [t0]
  intro i
  refine ⟨fun a => ?_, Or.inl rfl⟩
  have h0 : (i 0).val < 4 := (i 0).isLt
  match a with
  | ⟨0, _⟩ => show ((i 0).val + 1) * 1 ≤ 4; omega
  | ⟨1, _⟩ => show (0 + 1) * 512 ≤ 1024; omega
  | ⟨2, _⟩ => show (0 + 1) * 1024 ≤ 1024; omega

/-- The same of the table the call finds. -/
theorem ok (m : (ℓ : Loc nD τ sig) → Buf (Elt F) ℓ) : Ok m := by
  unfold Ok; rw [tbl_eq]; exact okpf

variable (m : (ℓ : Loc nD τ sig) → Buf (Elt Ideal) ℓ)

/-- The table, admitted. -/
abbrev A0 : (pcfg0 (F := Ideal)).Adm := ⟨pf, okpf⟩

/-- The result's blocks cover it. -/
theorem covers : ((cfgM m (ok m)).win 2).Covers := (by decide +kernel : ((cfg0 (F := Ideal) A0).win 2).Covers)

/-- Where the second operand's blocks start. -/
theorem i1 : ∀ t : Fin (cfgM m (ok m)).N, ((cfgM m (ok m)).win 1).index t = ![t.val, 0, 0] := (by decide +kernel : ∀ t : Fin grid0.N, cc0_transform_1 (grid0.coords t) = ![t.val, 0, 0])
/-- Where the result's blocks start. -/
theorem i2 : ∀ t : Fin (cfgM m (ok m)).N, ((cfgM m (ok m)).win 2).index t = ![t.val, 0, 0] := (by decide +kernel : ∀ t : Fin grid0.N, cc0_transform_2 (grid0.coords t) = ![t.val, 0, 0])
/-- Where the first operand's blocks start. -/
theorem i0 : ∀ t : Fin (cfgM m (ok m)).N, ((cfgM m (ok m)).win 0).index t = ![t.val, 0, 0] := fun t => by
  refine Eq.trans (b := cc0_transform_0 (F := Ideal) inb_S1_S1_0 numel1_S1 pf (grid0.coords t)) ?_ ?_
  · show cc0_transform_0 (F := Ideal) inb_S1_S1_0 numel1_S1 (tbl m) (grid0.coords t) = _
    rw [tbl_eq]
  · rw [t0]
    exact (by decide +kernel : ∀ t : Fin grid0.N, ![(grid0.coords t 0).val, 0, 0] = ![t.val, 0, 0]) t

/-- Where window 0's block's elements sit in its array. -/
theorem e0 (t : Fin (cfgM m (ok m)).N) (y : S1x512x1024.Idx) (a : Fin 3) :
    (((((cfgM m (ok m)).win 0).blk t).view.emb y) a : ℕ) = (![t.val, 0, 0] : Fin 3 → ℕ) a * S1x512x1024.size a + (y a).val :=
  (Pipeline.Window.rect_emb_val ((cfgM m (ok m)).win 0) t y a rfl).trans (by rw [i0]; rfl)

/-- Where window 1's block's elements sit in its array. -/
theorem e1 (t : Fin (cfgM m (ok m)).N) (y : S1x512x1024.Idx) (a : Fin 3) :
    (((((cfgM m (ok m)).win 1).blk t).view.emb y) a : ℕ) = (![t.val, 0, 0] : Fin 3 → ℕ) a * S1x512x1024.size a + (y a).val :=
  (Pipeline.Window.rect_emb_val ((cfgM m (ok m)).win 1) t y a rfl).trans (by rw [i1]; rfl)

/-- Where window 2's block's elements sit in its array. -/
theorem e2 (t : Fin (cfgM m (ok m)).N) (y : S1x512x1024.Idx) (a : Fin 3) :
    (((((cfgM m (ok m)).win 2).blk t).view.emb y) a : ℕ) = (![t.val, 0, 0] : Fin 3 → ℕ) a * S1x512x1024.size a + (y a).val :=
  (Pipeline.Window.rect_emb_val ((cfgM m (ok m)).win 2) t y a rfl).trans (by rw [i2]; rfl)

/-- What the body leaves in the result's block. -/
theorem out_eq (c : Dev nD) (i : grid0.Coords) (arg3 : Memref sig .tc .vmem S1x512x1024 .f32) (h3 : arg3.IsWhole) (arg4 : Memref sig .tc .vmem S1x512x1024 .f32) (h4 : arg4.IsWhole)
    (arg5 : Memref sig .tc .vmem S1x512x1024 .bf16) (h5 : arg5.IsWhole) (x0 x1 : Vec F S1x512x1024 .f32) (xt : TbBuf0 (F := F) c tbM0_0) :
    out0_A_2 c i arg3 h3 arg4 h4 arg5 h5 x0 x1 xt = k0_pay1 x0 x1 := by
  unfold out0_A_2
  frame_out

/-- The call's sum. -/
theorem pay (a b : FVec Ideal S1x512x1024 .f32) (y) : (k0_pay1 (F := Ideal) a b y : EReal) = a y + b y := by
  pointwise [k0_pay1]

/-- The reference's sum. -/
theorem ref (a : FVec Ideal Cert.Reference11Ideal.S4x1024x1024 .f32) (b : FVec Ideal Cert.Reference11Ideal.S4x512x1024 .f32) (i) :
    (Cert.Reference11Ideal.Read.val_main_v2 (F := Ideal) a b i : EReal) = a (Cert.Reference11Ideal.Read.idx_main_v0 i) + b i := by
  rw [← Cert.Reference11Ideal.Read.val_main_v0_apply (F := Ideal) a i]
  rfl

/-- The result, whole. -/
theorem final (c : Dev nD) : (dats m (ok m) 0 c).arrAt 2 (cfgM m (ok m)).N
    = Cert.Reference11Ideal.Read.val_main_v2 (F := Ideal) (m ((c : Thread nD τ).loc main_arg0)) (m ((c : Thread nD τ).loc main_arg1)) := by
  refine (dats m (ok m) 0 c).arrAt_eq_of_covers 2 _ (covers m) fun t hf y => ?_
  blk_simp
  rw [after0_2]
  unfold outsAt0
  refine (congrFun (out_eq c _ _ _ _ _ _ _ (iblk m (ok m) c 0 t) (iblk m (ok m) c 1 t) _) y).trans ?_
  refine (pay _ _ _).trans (Eq.trans ?_ (ref _ _ _).symm)
  refine congr (congrArg _ ?_) ?_
  · refine (congrFun (V_main_arg0 m c) _).trans (congrArg _ ?_)
    funext a
    refine Fin.ext ((e0 m t y a).trans ?_)
    match a with
    | ⟨0, _⟩ => exact (e2 m t y 0).symm
    | ⟨1, _⟩ => exact (e2 m t y 1).symm
    | ⟨2, _⟩ => exact (e2 m t y 2).symm
  · refine (congrFun (V_main_arg1 m c) _).trans (congrArg _ ?_)
    funext a
    exact Fin.ext ((e1 m t y a).trans (e2 m t y a).symm)

/-- The call's run. -/
theorem run (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem ((c : Thread nD τ).loc main_v1) = Cert.Reference11Ideal.Read.val_main_v2 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final m c), h.2 c⟩)
    (θ_run_and (run_main m ρ (ok m)) (unchanged m ρ (ok m)))

end Cert.Proof.Pair11

namespace Cert.Proof

open Idealize.ShloMosaic Idealize.SL.Sem

/-- The addition's call and its reference end with equal results. -/
theorem alg11 : Cert.algebraic_Kernel11Ideal_Reference11Ideal := by
  pair_intro
  · run_from Pair11.run m g
  · run_from Cert.Reference11Ideal.Value.run m' g'
    exact (Cert.Reference11Ideal.Read.val_main_v2_eq ..)

end Cert.Proof

end
-- ==== Proof.Alg12.lean ====
/-
  The sum of the chips' parts: its frame and its value.
-/
module

public import proofs.«01_k».proof.Defs
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Reference12Ideal.Read
public import Idealize.ShloMosaic.Lib.Claim
public import Idealize.ShloMosaic.Lib.Pipeline.ValueKit

@[expose] public section

set_option maxRecDepth 16384

noncomputable section

namespace Cert.Proof.Chips12

open Idealize.ShloMosaic Idealize.ShloMosaic.TcCoe Idealize.SL.Sem
open Idealize.ShloMosaic.Pipeline (Dat)
open Cert.Kernel12Ideal Cert.Kernel12Ideal.Gen

variable {F : FTy → Type} [FloatOps F]

/-- The table the call reads: the core's number, zero. -/
def pf : pre0.Contents (Elt F) := fun | ⟨0, _⟩ => fun _ => (0#32 : BitVec 32) | ⟨_ + 1, h⟩ => absurd h (by simp)

/-- It is what the call finds in its table. -/
theorem tbl_eq (m : (ℓ : Loc nD τ sig) → Buf (Elt F) ℓ) : tbl m = pf := by
  funext j
  match j with
  | ⟨0, _⟩ => rfl

/-- Where the result's block sits. -/
theorem t1 : ∀ i : grid0.Coords, cc0_transform_1 (F := F) inb_S1_S1_0 numel1_S1 pf i = ![0, 0] := by
  intro i
  have h0 : (i 0).val = 0 := by have : (i 0).val < 1 := (i 0).isLt; omega
  unfold cc0_transform_1
  rw [h0]
  rfl

/-- The block lies inside the result. -/
theorem okpf : ok0 (F := F) pf := by
  unfold ok0
  simp only [t1]
  intro i
  refine ⟨fun a => ?_, Or.inl rfl⟩
  match a with
  | ⟨0, _⟩ => show (0 + 1) * 512 ≤ 1024; omega
  | ⟨1, _⟩ => show (0 + 1) * 1024 ≤ 1024; omega

/-- The same of the table the call finds. -/
theorem ok (m : (ℓ : Loc nD τ sig) → Buf (Elt F) ℓ) : Ok m := by
  unfold Ok; rw [tbl_eq]; exact okpf

variable (m : (ℓ : Loc nD τ sig) → Buf (Elt Ideal) ℓ)

/-- The first operand's block is the whole array. -/
theorem i0 : ∀ t : Fin (cfgM m (ok m)).N, ((cfgM m (ok m)).win 0).index t = ![0, 0, 0] := (by decide +kernel : ∀ t : Fin grid0.N, cc0_transform_0 (grid0.coords t) = ![0, 0, 0])
/-- The result's block is its upper half. -/
theorem i1 : ∀ t : Fin (cfgM m (ok m)).N, ((cfgM m (ok m)).win 1).index t = ![0, 0] := fun t => by
  refine Eq.trans (b := cc0_transform_1 (F := Ideal) inb_S1_S1_0 numel1_S1 pf (grid0.coords t)) ?_ (t1 _)
  show cc0_transform_1 (F := Ideal) inb_S1_S1_0 numel1_S1 (tbl m) (grid0.coords t) = _
  rw [tbl_eq]

/-- Where the operand's block's elements sit in its array. -/
theorem e0 (t : Fin (cfgM m (ok m)).N) (y : S4x512x1024.Idx) (a : Fin 3) :
    (((((cfgM m (ok m)).win 0).blk t).view.emb y) a : ℕ) = (![0, 0, 0] : Fin 3 → ℕ) a * S4x512x1024.size a + (y a).val :=
  (Pipeline.Window.rect_emb_val ((cfgM m (ok m)).win 0) t y a rfl).trans (by rw [i0]; rfl)

/-- Where the result's block's elements sit in its array. -/
theorem e1 (t : Fin (cfgM m (ok m)).N) (y : S512x1024.Idx) (a : Fin 2) :
    (((((cfgM m (ok m)).win 1).blk t).view.emb y) a : ℕ) = (![0, 0] : Fin 2 → ℕ) a * S512x1024.size a + (y a).val :=
  (Pipeline.Window.rect_emb_val ((cfgM m (ok m)).win 1) t y a rfl).trans (by rw [i1]; rfl)

/-- One chip's part of the four. -/
def part (x : Vec F S4x512x1024 .bf16) (k : Fin 4) : Vec F S1x512x1024 .bf16 := fun j => x (fun a => match a with
  | ⟨0, _⟩ => k
  | ⟨1, _⟩ => ⟨(j 1).val, (j 1).isLt⟩
  | ⟨2, _⟩ => ⟨(j 2).val, (j 2).isLt⟩)

/-- What the body reads of a chip's part. -/
theorem ld_eq (x : Vec F S4x512x1024 .bf16) (k : Fin 4) (o : ℕ) (ho : o = k.val) (inb) :
    View.ld x (Rect.unit (s := S4x512x1024) ![o, 0, 0] ![1, 512, 1024] inb) = part x k := by
  subst ho
  funext j
  refine congrArg x (funext fun a => Fin.ext ?_)
  have h0 : (j 0).val < 1 := (j 0).isLt
  match a with
  | ⟨0, _⟩ => show k.val + 1 * (j 0).val = k.val; omega
  | ⟨1, _⟩ => show 0 + 1 * (j 1).val = (j 1).val; omega
  | ⟨2, _⟩ => show 0 + 1 * (j 2).val = (j 2).val; omega

/-- What the body leaves in the result's block. -/
theorem out_eq (c : Dev nD) (i : grid0.Coords) (arg2 : Memref sig .tc .vmem S4x512x1024 .bf16) (h2 : arg2.IsWhole) (arg3 : Memref sig .tc .vmem S512x1024 .f32) (h3 : arg3.IsWhole)
    (x0 : Vec F S4x512x1024 .bf16) (xt : TbBuf0 (F := F) c tbM0_0) :
    out0_A_1 c i arg2 h2 arg3 h3 x0 xt = k0_pay1 (part x0 0) (part x0 1) (part x0 2) (part x0 3) := by
  unfold out0_A_1
  frame_out
  rw [ld_eq x0 0 0 rfl, ld_eq x0 1 1 rfl, ld_eq x0 2 2 rfl, ld_eq x0 3 3 rfl]

/-- A chip's part at an index. -/
theorem part_cast (x : FVec Ideal S4x512x1024 .bf16) (k : Fin 4) (y : S512x1024.Idx) :
    shapeCast S512x1024 (part (F := Ideal) x k) shapeCasts_S1x512x1024_S512x1024 y = x (Cert.Reference12Ideal.Read.idx_main_v1 y k) := by
  refine (shapeCast_dropUnit_apply _ (part (F := Ideal) x k) shapeCasts_S1x512x1024_S512x1024 y).trans ?_
  refine congrArg x (funext fun a => Fin.ext ?_)
  match a with
  | ⟨0, _⟩ => rfl
  | ⟨1, _⟩ => rfl
  | ⟨2, _⟩ => rfl

/-- The call's sum. -/
theorem pay (x : FVec Ideal S4x512x1024 .bf16) (y : S512x1024.Idx) : (k0_pay1 (F := Ideal) (part x 0) (part x 1) (part x 2) (part x 3) y : EReal)
    = Cert.Reference12Ideal.Read.val_main_v1 (F := Ideal) x y := by
  rw [Cert.Reference12Ideal.Read.val_main_v1_apply, Fin.sum_univ_four]
  have hc : (Cert.Reference12Ideal.Read.val_main_cst (F := Ideal) (Shape.Idx.first Cert.Reference12Ideal.Gen.h_S_) : EReal) = 0 := Ideal.ofBits_zero_f32
  rw [hc]
  refine Eq.trans ?_ (zero_add _).symm
  have hp : ∀ k : Fin 4, _ := fun k => part_cast x k y
  show (((shapeCast S512x1024 (part (F := Ideal) x 0) shapeCasts_S1x512x1024_S512x1024 y + shapeCast S512x1024 (part (F := Ideal) x 1) shapeCasts_S1x512x1024_S512x1024 y)
    + shapeCast S512x1024 (part (F := Ideal) x 2) shapeCasts_S1x512x1024_S512x1024 y) + shapeCast S512x1024 (part (F := Ideal) x 3) shapeCasts_S1x512x1024_S512x1024 y : EReal) = _
  rw [hp, hp, hp, hp]
  rfl

/-- The block of the result that the call writes. -/
theorem final (c : Dev nD) (j : S512x1024.Idx) (k : S1024x1024.Idx) (hk : ∀ a : Fin 2, (k a).val = (j a).val) :
    (dats m (ok m) 0 c).arrAt 1 (cfgM m (ok m)).N k
    = Cert.Reference12Ideal.Read.val_main_v1 (F := Ideal) (m ((c : Thread nD τ).loc main_arg0)) j := by
  have ht : ∀ t t' : Fin (cfgM m (ok m)).N, t = t' := fun t t' => Fin.ext (by
    have h : t.val < 1 := t.isLt
    have h' : t'.val < 1 := t'.isLt
    omega)
  have h := (dats m (ok m) 0 c).arrAt_emb_eq_flushed 1 (fun t t' _ _ hne => absurd (ht t t') hne) (⟨0, Nat.one_pos⟩ : Fin (cfgM m (ok m)).N) rfl j
  have e : (((cfgM m (ok m)).win 1).blk (⟨0, Nat.one_pos⟩ : Fin (cfgM m (ok m)).N)).view.emb j = k := by
    funext a
    refine Fin.ext ((e1 m _ j a).trans ?_)
    rw [hk a]
    match a with
    | ⟨0, _⟩ => show 0 * 512 + _ = _; omega
    | ⟨1, _⟩ => show 0 * 1024 + _ = _; omega
  rw [e] at h
  refine h.trans ?_
  show (dats m (ok m) 0 c).after 1 _ j = _
  rw [after0_1]
  unfold outsAt0
  refine (congrFun (out_eq c _ _ _ _ _ (iblk m (ok m) c 0 _) _) j).trans ?_
  refine (pay _ _).trans (congrFun (congrArg _ ?_) j)
  funext y
  refine (congrFun (V_main_arg0 m c) _).trans (congrArg _ ?_)
  funext a
  refine Fin.ext ((e0 m _ y a).trans ?_)
  match a with
  | ⟨0, _⟩ => show 0 * 4 + _ = _; omega
  | ⟨1, _⟩ => show 0 * 512 + _ = _; omega
  | ⟨2, _⟩ => show 0 * 1024 + _ = _; omega

/-- The call's run. -/
theorem run (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem ((c : Thread nD τ).loc main_v2) = Cert.Reference12Ideal.Read.val_main_v1 (F := Ideal) (m ((c : Thread nD τ).loc main_arg0))
      ∧ r.2.mem ((c : Thread nD τ).loc main_arg0) = m ((c : Thread nD τ).loc main_arg0) := by
  refine (θ_run defs _ _).mono (fun r h c => ⟨?_, h.2 c⟩) (θ_run_and (run_main m ρ (ok m)) (unchanged m ρ (ok m)))
  refine ((h.1 c).2 main_v2 (Pipeline.mem_restRefs_of main_v2 rfl (fun w => by fin_cases w <;> exact fun h => by cases h))).trans ?_
  unfold Pipeline.afterTail
  simp only [List.flatten_cons, List.flatten_nil, List.append_nil, hostOps1, StableHlo.after_cons, StableHlo.after_nil]
  refine (StableHlo.unary_result (τ := τ) main_v1 main_v2 (fun x : (⟨S1024x1024, .f32⟩ : BufTy).Contents (Elt Ideal) => (extractStridedSlice S512x1024 ![0, 0] x slices_S1024x1024_S512x1024_0_0 : (⟨S512x1024, .f32⟩ : BufTy).Contents (Elt Ideal))) _ _ _).trans ?_
  funext j
  have hb : ∀ a : Fin 2, (j a).val < S1024x1024.size a := fun a => match a with
    | ⟨0, _⟩ => Nat.lt_of_lt_of_le (j 0).isLt (show 512 ≤ 1024 by omega)
    | ⟨1, _⟩ => (j 1).isLt
  refine (extractStridedSlice_apply (s := S1024x1024) _ _ _ j (show S1024x1024.Idx from fun a => ⟨(j a).val, hb a⟩) (fun a => match a with
    | ⟨0, _⟩ => (Nat.zero_add _).symm
    | ⟨1, _⟩ => (Nat.zero_add _).symm)).trans ?_
  refine Eq.trans ?_ (final m c j (fun a => ⟨(j a).val, hb a⟩) fun a => rfl)
  exact congrFun (Pipeline.withArrays_arr spec0 winFacts0.arr_inj c (V0 m c) _ 1) _

end Cert.Proof.Chips12

namespace Cert.Proof

open Idealize.ShloMosaic Idealize.SL.Sem

/-- The sum of the chips' parts and its reference end with equal results. -/
theorem alg12 : Cert.algebraic_Kernel12Ideal_Reference12Ideal := by
  pair_intro
  · run_from Chips12.run m g
  · refine (θ_run Cert.Reference12Ideal.defs _ _).mono (fun r h c => ⟨(h c).1.trans ?_, (h c).2⟩) (Cert.Reference12Ideal.Value.run m' g')
    exact (Cert.Reference12Ideal.Read.val_main_v1_eq (F := Ideal) _).trans (congrArg _ (hagree c))

end Cert.Proof

end
-- ==== Proof.Adam.lean ====
/-
  The two bias corrections of the optimiser's step: the kernel multiplies by the reciprocal that the reference divides by.
-/
module

public import Idealize.ShloMosaic.PureOps.Ideal
public import Idealize.ShloMosaic.PureOps.IdealRules

@[expose] public section

noncomputable section

namespace Cert.Proof.Adam

open Idealize.ShloMosaic

/-- The first moment's correction, as a real. -/
theorem d1 : Ideal.ofBits .f32 0x3F26BD02#32 = ((5463681 / 8388608 : ℝ) : EReal) := by
  simp [Ideal.ofBits, Ideal.ieee, -EReal.coe_mul]; norm_num

/-- The second moment's correction, as a real. -/
theorem d2 : Ideal.ofBits .f32 0x3C231ACC#32 = ((2672307 / 268435456 : ℝ) : EReal) := by
  simp [Ideal.ofBits, Ideal.ieee, -EReal.coe_mul]; norm_num

/-- A division by the first correction is a product with its reciprocal. -/
theorem div_d1 (x : EReal) : Ideal.div x (Ideal.ofBits .f32 0x3F26BD02#32) = x * (((5463681 / 8388608)⁻¹ : ℝ) : EReal) := by
  rw [d1, Ideal.div_coe (by norm_num), one_div]

/-- A division by the second correction is a product with its reciprocal. -/
theorem div_d2 (x : EReal) : Ideal.div x (Ideal.ofBits .f32 0x3C231ACC#32) = x * (((2672307 / 268435456)⁻¹ : ℝ) : EReal) := by
  rw [d2, Ideal.div_coe (by norm_num), one_div]

/-- The new first moment, of one element. -/
def newM (g m : EReal) : EReal := Ideal.ofBits .f32 0x3F666666#32 * m + Ideal.ofBits .f32 0x3DCCCCCD#32 * g

/-- The new second moment, of one element. -/
def newV (g v : EReal) : EReal := Ideal.ofBits .f32 0x3F7FBE77#32 * v + Ideal.ofBits .f32 0x3A83126F#32 * (g * g)

/-- The step, of one element. -/
def delta (w g m v : EReal) : EReal :=
  Ideal.ofBits .f32 0xBA83126F#32
    * (Ideal.div (newM g m * (((5463681 / 8388608)⁻¹ : ℝ) : EReal))
          (Ideal.sqrt (newV g v * (((2672307 / 268435456)⁻¹ : ℝ) : EReal)) + Ideal.ofBits .f32 0x322BCC77#32)
      + Ideal.ofBits .f32 0x3C23D70A#32 * w)

/-- The step as the reference writes it. -/
theorem delta_eq (w g m v : EReal) : Ideal.ofBits .f32 0xBA83126F#32
    * (Ideal.div (Ideal.div (newM g m) (Ideal.ofBits .f32 0x3F26BD02#32))
          (Ideal.sqrt (Ideal.div (newV g v) (Ideal.ofBits .f32 0x3C231ACC#32)) + Ideal.ofBits .f32 0x322BCC77#32)
      + Ideal.ofBits .f32 0x3C23D70A#32 * w) = delta w g m v := by
  rw [div_d1, div_d2]; rfl

end Cert.Proof.Adam

end
-- ==== Proof.Alg7.lean ====
module

public import proofs.«01_k».proof.Defs
public import proofs.«01_k».proof.Proof.Gen.Kernel7Ideal.Value
public import proofs.«01_k».proof.Proof.Gen.Reference7Ideal.Read
public import proofs.«01_k».proof.Proof.Gen.Reference7Ideal.Run
public import proofs.«01_k».proof.Proof.Adam
public import Idealize.ShloMosaic.Lib.Claim
public import Idealize.ShloMosaic.Lib.Pipeline.ValueKit

@[expose] public section

set_option maxRecDepth 16384

noncomputable section

namespace Cert.Proof.Adam7

open Idealize.ShloMosaic Idealize.ShloMosaic.TcCoe Idealize.SL.Sem
open Idealize.ShloMosaic.Pipeline (Dat)
open Cert.Kernel7Ideal Cert.Kernel7Ideal.Gen

variable (m : (ℓ : Loc nD τ sig) → Buf (Elt Ideal) ℓ)

/-- Where each window's block sits at grid point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The kernel's first constant. -/
theorem c1 : Named.named (F := Ideal) κ "c1" (φ := .f32) 0x3FC48605#32 = (((5463681 / 8388608)⁻¹ : ℝ) : EReal) :=
  IdealRules.named_const.ideal_named_scalar _ _ _ _ rfl

/-- The kernel's second constant. -/
theorem c2 : Named.named (F := Ideal) κ "c2" (φ := .f32) 0x42C8E6D3#32 = (((2672307 / 268435456)⁻¹ : ℝ) : EReal) :=
  IdealRules.named_const.ideal_named_scalar _ _ _ _ rfl

/-- The weight the call is given. -/
theorem V0 (c : Dev nD) (i : S4096x1024.Idx) : (V m c main_v0 i : EReal)
    = m ((c : Thread nD τ).loc main_arg0) (Cert.Reference7Ideal.Read.idx_main_v24 i) := by
  entry_read
  pointwise
  try blk_ext

/-- The gradient the call is given. -/
theorem V1 (c : Dev nD) (i : S4096x1024.Idx) : (V m c main_v1 i : EReal)
    = m ((c : Thread nD τ).loc main_arg1) (Cert.Reference7Ideal.Read.idx_main_v24 i) := by
  entry_read
  pointwise
  try blk_ext

/-- The first moment the call is given. -/
theorem V2 (c : Dev nD) (i : S4096x1024.Idx) : (V m c main_v2 i : EReal)
    = m ((c : Thread nD τ).loc main_arg2) (Cert.Reference7Ideal.Read.idx_main_v24 i) := by
  entry_read
  pointwise
  try blk_ext

/-- The second moment the call is given. -/
theorem V3 (c : Dev nD) (i : S4096x1024.Idx) : (V m c main_v3 i : EReal)
    = m ((c : Thread nD τ).loc main_arg3) (Cert.Reference7Ideal.Read.idx_main_v24 i) := by
  entry_read
  pointwise
  try blk_ext

/-- The reference's new first moment. -/
theorem ref_m (x1 x2 : FVec Ideal Cert.Reference7Ideal.S4x1024x1024 .f32) (i) :
    (Cert.Reference7Ideal.Read.val_main_v4 (F := Ideal) x1 x2 i : EReal) = Adam.newM (x1 i) (x2 i) := rfl

/-- The reference's new second moment. -/
theorem ref_v (x1 x3 : FVec Ideal Cert.Reference7Ideal.S4x1024x1024 .f32) (i) :
    (Cert.Reference7Ideal.Read.val_main_v10 (F := Ideal) x1 x3 i : EReal) = Adam.newV (x1 i) (x3 i) := rfl

/-- The reference's step. -/
theorem ref_d (x0 x1 x2 x3 : FVec Ideal Cert.Reference7Ideal.S4x1024x1024 .f32) (i) :
    (Cert.Reference7Ideal.Read.val_main_v23 (F := Ideal) x0 x1 x2 x3 i : EReal) = Adam.delta (x0 i) (x1 i) (x2 i) (x3 i) :=
  Eq.trans rfl (Adam.delta_eq _ _ _ _)

/-- The kernel's new first moment. -/
theorem pay_m (g x : FVec Ideal S256x1024 .f32) (y) : (k0_pay2 (F := Ideal) g x y : EReal) = Adam.newM (g y) (x y) := by
  pointwise [k0_pay2, k0_pay1, Adam.newM]

/-- The kernel's new second moment. -/
theorem pay_v (g x : FVec Ideal S256x1024 .f32) (y) : (k0_pay3 (F := Ideal) g x y : EReal) = Adam.newV (g y) (x y) := by
  pointwise [k0_pay3, k0_pay1, Adam.newV]

/-- The kernel's step. -/
theorem pay_d (g a b w : FVec Ideal S256x1024 .f32) (y) : (k0_pay4 (F := Ideal) g a b w y : EReal) = Adam.delta (w y) (g y) (a y) (b y) := by
  unfold Adam.delta
  rw [← pay_m, ← pay_v]
  pointwise [k0_pay4, c1, c2]

/-- `delta` after the run. -/
theorem final4 (c : Dev nD) : (dats m 0 c).arrAt 4 cfg0.N
    = Cert.Reference7Ideal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  unfold out0_4
  frame_out
  rw [pay_d, Cert.Reference7Ideal.Read.val_main_v24_apply, ref_d]
  congr 1
  · blk_point [iblk, V0, idx t]
  · blk_point [iblk, V1, idx t]
  · blk_point [iblk, V2, idx t]
  · blk_point [iblk, V3, idx t]

/-- `new_m` after the run. -/
theorem final5 (c : Dev nD) : (dats m 0 c).arrAt 5 cfg0.N
    = Cert.Reference7Ideal.Read.val_main_v25 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  unfold out0_5
  frame_out
  rw [pay_m, Cert.Reference7Ideal.Read.val_main_v25_apply, ref_m]
  congr 1
  · blk_point [iblk, V1, idx t]
  · blk_point [iblk, V2, idx t]

/-- `new_v` after the run. -/
theorem final6 (c : Dev nD) : (dats m 0 c).arrAt 6 cfg0.N
    = Cert.Reference7Ideal.Read.val_main_v26 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  unfold out0_6
  frame_out
  rw [pay_v, Cert.Reference7Ideal.Read.val_main_v26_apply, ref_v]
  congr 1
  · blk_point [iblk, V1, idx t]
  · blk_point [iblk, V3, idx t]

end Cert.Proof.Adam7

namespace Cert.Proof

open Idealize.ShloMosaic Idealize.SL.Sem

/-- The two constants are what the ideal program names them. -/
theorem pre7 : Cert.preserves_Kernel7_Kernel7Ideal :=
  ⟨IdealRules.named_const.statement Cert.Kernel7Ideal.κ "c1" .f32 0x3FC48605#32 (((5463681 / 8388608)⁻¹ : ℝ) : EReal) rfl,
    IdealRules.named_const.statement Cert.Kernel7Ideal.κ "c2" .f32 0x42C8E6D3#32 (((2672307 / 268435456)⁻¹ : ℝ) : EReal) rfl⟩

/-- The optimiser's call and its reference end with equal results. -/
theorem alg7 : Cert.algebraic_Kernel7Ideal_Reference7Ideal := by
  pair_intro
  · run_from Cert.Kernel7Ideal.Value.run_blocks m g
  · run_from Cert.Reference7Ideal.Value.run m' g'
    · exact (Cert.Reference7Ideal.Read.val_main_v24_eq ..).trans (Adam7.final4 m c).symm
    · exact (Cert.Reference7Ideal.Read.val_main_v25_eq ..).trans (Adam7.final5 m c).symm
    · exact (Cert.Reference7Ideal.Read.val_main_v26_eq ..).trans (Adam7.final6 m c).symm

end Cert.Proof

end
-- ==== Proof.Alg8.lean ====
module

public import proofs.«01_k».proof.Defs
public import proofs.«01_k».proof.Proof.Gen.Kernel8Ideal.Value
public import proofs.«01_k».proof.Proof.Gen.Reference8Ideal.Read
public import proofs.«01_k».proof.Proof.Gen.Reference8Ideal.Run
public import proofs.«01_k».proof.Proof.Adam
public import Idealize.ShloMosaic.Lib.Claim
public import Idealize.ShloMosaic.Lib.Pipeline.ValueKit

@[expose] public section

set_option maxRecDepth 16384

noncomputable section

namespace Cert.Proof.Adam8

open Idealize.ShloMosaic Idealize.ShloMosaic.TcCoe Idealize.SL.Sem
open Idealize.ShloMosaic.Pipeline (Dat)
open Cert.Kernel8Ideal Cert.Kernel8Ideal.Gen

variable (m : (ℓ : Loc nD τ sig) → Buf (Elt Ideal) ℓ)

/-- Where each window's block sits at grid point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The kernel's first constant. -/
theorem c1 : Named.named (F := Ideal) κ "c1" (φ := .f32) 0x3FC48605#32 = (((5463681 / 8388608)⁻¹ : ℝ) : EReal) :=
  IdealRules.named_const.ideal_named_scalar _ _ _ _ rfl

/-- The kernel's second constant. -/
theorem c2 : Named.named (F := Ideal) κ "c2" (φ := .f32) 0x42C8E6D3#32 = (((2672307 / 268435456)⁻¹ : ℝ) : EReal) :=
  IdealRules.named_const.ideal_named_scalar _ _ _ _ rfl

/-- The weight the call is given. -/
theorem V0 (c : Dev nD) (i : S4096x384.Idx) : (V m c main_v0 i : EReal)
    = m ((c : Thread nD τ).loc main_arg0) (Cert.Reference8Ideal.Read.idx_main_v24 i) := by
  entry_read
  pointwise
  try blk_ext

/-- The gradient the call is given. -/
theorem V1 (c : Dev nD) (i : S4096x384.Idx) : (V m c main_v1 i : EReal)
    = m ((c : Thread nD τ).loc main_arg1) (Cert.Reference8Ideal.Read.idx_main_v24 i) := by
  entry_read
  pointwise
  try blk_ext

/-- The first moment the call is given. -/
theorem V2 (c : Dev nD) (i : S4096x384.Idx) : (V m c main_v2 i : EReal)
    = m ((c : Thread nD τ).loc main_arg2) (Cert.Reference8Ideal.Read.idx_main_v24 i) := by
  entry_read
  pointwise
  try blk_ext

/-- The second moment the call is given. -/
theorem V3 (c : Dev nD) (i : S4096x384.Idx) : (V m c main_v3 i : EReal)
    = m ((c : Thread nD τ).loc main_arg3) (Cert.Reference8Ideal.Read.idx_main_v24 i) := by
  entry_read
  pointwise
  try blk_ext

/-- The reference's new first moment. -/
theorem ref_m (x1 x2 : FVec Ideal Cert.Reference8Ideal.S4x1024x384 .f32) (i) :
    (Cert.Reference8Ideal.Read.val_main_v4 (F := Ideal) x1 x2 i : EReal) = Adam.newM (x1 i) (x2 i) := rfl

/-- The reference's new second moment. -/
theorem ref_v (x1 x3 : FVec Ideal Cert.Reference8Ideal.S4x1024x384 .f32) (i) :
    (Cert.Reference8Ideal.Read.val_main_v10 (F := Ideal) x1 x3 i : EReal) = Adam.newV (x1 i) (x3 i) := rfl

/-- The reference's step. -/
theorem ref_d (x0 x1 x2 x3 : FVec Ideal Cert.Reference8Ideal.S4x1024x384 .f32) (i) :
    (Cert.Reference8Ideal.Read.val_main_v23 (F := Ideal) x0 x1 x2 x3 i : EReal) = Adam.delta (x0 i) (x1 i) (x2 i) (x3 i) :=
  Eq.trans rfl (Adam.delta_eq _ _ _ _)

/-- The kernel's new first moment. -/
theorem pay_m (g x : FVec Ideal S512x384 .f32) (y) : (k0_pay2 (F := Ideal) g x y : EReal) = Adam.newM (g y) (x y) := by
  pointwise [k0_pay2, k0_pay1, Adam.newM]

/-- The kernel's new second moment. -/
theorem pay_v (g x : FVec Ideal S512x384 .f32) (y) : (k0_pay3 (F := Ideal) g x y : EReal) = Adam.newV (g y) (x y) := by
  pointwise [k0_pay3, k0_pay1, Adam.newV]

/-- The kernel's step. -/
theorem pay_d (g a b w : FVec Ideal S512x384 .f32) (y) : (k0_pay4 (F := Ideal) g a b w y : EReal) = Adam.delta (w y) (g y) (a y) (b y) := by
  unfold Adam.delta
  rw [← pay_m, ← pay_v]
  pointwise [k0_pay4, c1, c2]

/-- `delta` after the run. -/
theorem final4 (c : Dev nD) : (dats m 0 c).arrAt 4 cfg0.N
    = Cert.Reference8Ideal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  unfold out0_4
  frame_out
  rw [pay_d, Cert.Reference8Ideal.Read.val_main_v24_apply, ref_d]
  congr 1
  · blk_point [iblk, V0, idx t]
  · blk_point [iblk, V1, idx t]
  · blk_point [iblk, V2, idx t]
  · blk_point [iblk, V3, idx t]

/-- `new_m` after the run. -/
theorem final5 (c : Dev nD) : (dats m 0 c).arrAt 5 cfg0.N
    = Cert.Reference8Ideal.Read.val_main_v25 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  unfold out0_5
  frame_out
  rw [pay_m, Cert.Reference8Ideal.Read.val_main_v25_apply, ref_m]
  congr 1
  · blk_point [iblk, V1, idx t]
  · blk_point [iblk, V2, idx t]

/-- `new_v` after the run. -/
theorem final6 (c : Dev nD) : (dats m 0 c).arrAt 6 cfg0.N
    = Cert.Reference8Ideal.Read.val_main_v26 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  unfold out0_6
  frame_out
  rw [pay_v, Cert.Reference8Ideal.Read.val_main_v26_apply, ref_v]
  congr 1
  · blk_point [iblk, V1, idx t]
  · blk_point [iblk, V3, idx t]

end Cert.Proof.Adam8

namespace Cert.Proof

open Idealize.ShloMosaic Idealize.SL.Sem

/-- The two constants are what the ideal program names them. -/
theorem pre8 : Cert.preserves_Kernel8_Kernel8Ideal :=
  ⟨IdealRules.named_const.statement Cert.Kernel8Ideal.κ "c1" .f32 0x3FC48605#32 (((5463681 / 8388608)⁻¹ : ℝ) : EReal) rfl,
    IdealRules.named_const.statement Cert.Kernel8Ideal.κ "c2" .f32 0x42C8E6D3#32 (((2672307 / 268435456)⁻¹ : ℝ) : EReal) rfl⟩

/-- The optimiser's call and its reference end with equal results. -/
theorem alg8 : Cert.algebraic_Kernel8Ideal_Reference8Ideal := by
  pair_intro
  · run_from Cert.Kernel8Ideal.Value.run_blocks m g
  · run_from Cert.Reference8Ideal.Value.run m' g'
    · exact (Cert.Reference8Ideal.Read.val_main_v24_eq ..).trans (Adam8.final4 m c).symm
    · exact (Cert.Reference8Ideal.Read.val_main_v25_eq ..).trans (Adam8.final5 m c).symm
    · exact (Cert.Reference8Ideal.Read.val_main_v26_eq ..).trans (Adam8.final6 m c).symm

end Cert.Proof

end
-- ==== Proof.Alg9.lean ====
module

public import proofs.«01_k».proof.Defs
public import proofs.«01_k».proof.Proof.Gen.Kernel9Ideal.Value
public import proofs.«01_k».proof.Proof.Gen.Reference9Ideal.Read
public import proofs.«01_k».proof.Proof.Gen.Reference9Ideal.Run
public import proofs.«01_k».proof.Proof.Adam
public import Idealize.ShloMosaic.Lib.Claim
public import Idealize.ShloMosaic.Lib.Pipeline.ValueKit

@[expose] public section

set_option maxRecDepth 16384

noncomputable section

namespace Cert.Proof.Adam9

open Idealize.ShloMosaic Idealize.ShloMosaic.TcCoe Idealize.SL.Sem
open Idealize.ShloMosaic.Pipeline (Dat)
open Cert.Kernel9Ideal Cert.Kernel9Ideal.Gen

variable (m : (ℓ : Loc nD τ sig) → Buf (Elt Ideal) ℓ)

/-- Where each window's block sits at grid point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The kernel's first constant. -/
theorem c1 : Named.named (F := Ideal) κ "c1" (φ := .f32) 0x3FC48605#32 = (((5463681 / 8388608)⁻¹ : ℝ) : EReal) :=
  IdealRules.named_const.ideal_named_scalar _ _ _ _ rfl

/-- The kernel's second constant. -/
theorem c2 : Named.named (F := Ideal) κ "c2" (φ := .f32) 0x42C8E6D3#32 = (((2672307 / 268435456)⁻¹ : ℝ) : EReal) :=
  IdealRules.named_const.ideal_named_scalar _ _ _ _ rfl

/-- The weight the call is given. -/
theorem V0 (c : Dev nD) (i : S1024x1024.Idx) : (V m c main_v0 i : EReal)
    = m ((c : Thread nD τ).loc main_arg0) (Cert.Reference9Ideal.Read.idx_main_v24 i) := by
  entry_read
  pointwise
  try blk_ext

/-- The gradient the call is given. -/
theorem V1 (c : Dev nD) (i : S1024x1024.Idx) : (V m c main_v1 i : EReal)
    = m ((c : Thread nD τ).loc main_arg1) (Cert.Reference9Ideal.Read.idx_main_v24 i) := by
  entry_read
  pointwise
  try blk_ext

/-- The first moment the call is given. -/
theorem V2 (c : Dev nD) (i : S1024x1024.Idx) : (V m c main_v2 i : EReal)
    = m ((c : Thread nD τ).loc main_arg2) (Cert.Reference9Ideal.Read.idx_main_v24 i) := by
  entry_read
  pointwise
  try blk_ext

/-- The second moment the call is given. -/
theorem V3 (c : Dev nD) (i : S1024x1024.Idx) : (V m c main_v3 i : EReal)
    = m ((c : Thread nD τ).loc main_arg3) (Cert.Reference9Ideal.Read.idx_main_v24 i) := by
  entry_read
  pointwise
  try blk_ext

/-- The reference's new first moment. -/
theorem ref_m (x1 x2 : FVec Ideal Cert.Reference9Ideal.S4x256x1024 .f32) (i) :
    (Cert.Reference9Ideal.Read.val_main_v4 (F := Ideal) x1 x2 i : EReal) = Adam.newM (x1 i) (x2 i) := rfl

/-- The reference's new second moment. -/
theorem ref_v (x1 x3 : FVec Ideal Cert.Reference9Ideal.S4x256x1024 .f32) (i) :
    (Cert.Reference9Ideal.Read.val_main_v10 (F := Ideal) x1 x3 i : EReal) = Adam.newV (x1 i) (x3 i) := rfl

/-- The reference's step. -/
theorem ref_d (x0 x1 x2 x3 : FVec Ideal Cert.Reference9Ideal.S4x256x1024 .f32) (i) :
    (Cert.Reference9Ideal.Read.val_main_v23 (F := Ideal) x0 x1 x2 x3 i : EReal) = Adam.delta (x0 i) (x1 i) (x2 i) (x3 i) :=
  Eq.trans rfl (Adam.delta_eq _ _ _ _)

/-- The kernel's new first moment. -/
theorem pay_m (g x : FVec Ideal S256x1024 .f32) (y) : (k0_pay2 (F := Ideal) g x y : EReal) = Adam.newM (g y) (x y) := by
  pointwise [k0_pay2, k0_pay1, Adam.newM]

/-- The kernel's new second moment. -/
theorem pay_v (g x : FVec Ideal S256x1024 .f32) (y) : (k0_pay3 (F := Ideal) g x y : EReal) = Adam.newV (g y) (x y) := by
  pointwise [k0_pay3, k0_pay1, Adam.newV]

/-- The kernel's step. -/
theorem pay_d (g a b w : FVec Ideal S256x1024 .f32) (y) : (k0_pay4 (F := Ideal) g a b w y : EReal) = Adam.delta (w y) (g y) (a y) (b y) := by
  unfold Adam.delta
  rw [← pay_m, ← pay_v]
  pointwise [k0_pay4, c1, c2]

/-- `delta` after the run. -/
theorem final4 (c : Dev nD) : (dats m 0 c).arrAt 4 cfg0.N
    = Cert.Reference9Ideal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  unfold out0_4
  frame_out
  rw [pay_d, Cert.Reference9Ideal.Read.val_main_v24_apply, ref_d]
  congr 1
  · blk_point [iblk, V0, idx t]
  · blk_point [iblk, V1, idx t]
  · blk_point [iblk, V2, idx t]
  · blk_point [iblk, V3, idx t]

/-- `new_m` after the run. -/
theorem final5 (c : Dev nD) : (dats m 0 c).arrAt 5 cfg0.N
    = Cert.Reference9Ideal.Read.val_main_v25 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  unfold out0_5
  frame_out
  rw [pay_m, Cert.Reference9Ideal.Read.val_main_v25_apply, ref_m]
  congr 1
  · blk_point [iblk, V1, idx t]
  · blk_point [iblk, V2, idx t]

/-- `new_v` after the run. -/
theorem final6 (c : Dev nD) : (dats m 0 c).arrAt 6 cfg0.N
    = Cert.Reference9Ideal.Read.val_main_v26 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  unfold out0_6
  frame_out
  rw [pay_v, Cert.Reference9Ideal.Read.val_main_v26_apply, ref_v]
  congr 1
  · blk_point [iblk, V1, idx t]
  · blk_point [iblk, V3, idx t]

end Cert.Proof.Adam9

namespace Cert.Proof

open Idealize.ShloMosaic Idealize.SL.Sem

/-- The two constants are what the ideal program names them. -/
theorem pre9 : Cert.preserves_Kernel9_Kernel9Ideal :=
  ⟨IdealRules.named_const.statement Cert.Kernel9Ideal.κ "c1" .f32 0x3FC48605#32 (((5463681 / 8388608)⁻¹ : ℝ) : EReal) rfl,
    IdealRules.named_const.statement Cert.Kernel9Ideal.κ "c2" .f32 0x42C8E6D3#32 (((2672307 / 268435456)⁻¹ : ℝ) : EReal) rfl⟩

/-- The optimiser's call and its reference end with equal results. -/
theorem alg9 : Cert.algebraic_Kernel9Ideal_Reference9Ideal := by
  pair_intro
  · run_from Cert.Kernel9Ideal.Value.run_blocks m g
  · run_from Cert.Reference9Ideal.Value.run m' g'
    · exact (Cert.Reference9Ideal.Read.val_main_v24_eq ..).trans (Adam9.final4 m c).symm
    · exact (Cert.Reference9Ideal.Read.val_main_v25_eq ..).trans (Adam9.final5 m c).symm
    · exact (Cert.Reference9Ideal.Read.val_main_v26_eq ..).trans (Adam9.final6 m c).symm

end Cert.Proof

end
-- ==== Proof.Alg10.lean ====
module

public import proofs.«01_k».proof.Defs
public import proofs.«01_k».proof.Proof.Gen.Kernel10Ideal.Value
public import proofs.«01_k».proof.Proof.Gen.Reference10Ideal.Read
public import proofs.«01_k».proof.Proof.Gen.Reference10Ideal.Run
public import proofs.«01_k».proof.Proof.Adam
public import Idealize.ShloMosaic.Lib.Claim
public import Idealize.ShloMosaic.Lib.Pipeline.ValueKit

@[expose] public section

set_option maxRecDepth 16384

noncomputable section

namespace Cert.Proof.Adam10

open Idealize.ShloMosaic Idealize.ShloMosaic.TcCoe Idealize.SL.Sem
open Idealize.ShloMosaic.Pipeline (Dat)
open Cert.Kernel10Ideal Cert.Kernel10Ideal.Gen

variable (m : (ℓ : Loc nD τ sig) → Buf (Elt Ideal) ℓ)

/-- Where each window's block sits at grid point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The kernel's first constant. -/
theorem c1 : Named.named (F := Ideal) κ "c1" (φ := .f32) 0x3FC48605#32 = (((5463681 / 8388608)⁻¹ : ℝ) : EReal) :=
  IdealRules.named_const.ideal_named_scalar _ _ _ _ rfl

/-- The kernel's second constant. -/
theorem c2 : Named.named (F := Ideal) κ "c2" (φ := .f32) 0x42C8E6D3#32 = (((2672307 / 268435456)⁻¹ : ℝ) : EReal) :=
  IdealRules.named_const.ideal_named_scalar _ _ _ _ rfl

/-- The reference's new first moment. -/
theorem ref_m (x1 x2 : FVec Ideal Cert.Reference10Ideal.S1088x512 .f32) (i) :
    (Cert.Reference10Ideal.Read.val_main_v4 (F := Ideal) x1 x2 i : EReal) = Adam.newM (x1 i) (x2 i) := rfl

/-- The reference's new second moment. -/
theorem ref_v (x1 x3 : FVec Ideal Cert.Reference10Ideal.S1088x512 .f32) (i) :
    (Cert.Reference10Ideal.Read.val_main_v10 (F := Ideal) x1 x3 i : EReal) = Adam.newV (x1 i) (x3 i) := rfl

/-- The reference's step. -/
theorem ref_d (x0 x1 x2 x3 : FVec Ideal Cert.Reference10Ideal.S1088x512 .f32) (i) :
    (Cert.Reference10Ideal.Read.val_main_v23 (F := Ideal) x0 x1 x2 x3 i : EReal) = Adam.delta (x0 i) (x1 i) (x2 i) (x3 i) :=
  Eq.trans rfl (Adam.delta_eq _ _ _ _)

/-- The kernel's new first moment. -/
theorem pay_m (g x : FVec Ideal S272x512 .f32) (y) : (k0_pay1 (F := Ideal) g x y : EReal) = Adam.newM (g y) (x y) := by
  pointwise [k0_pay1, Adam.newM]

/-- The kernel's new second moment. -/
theorem pay_v (g x : FVec Ideal S272x512 .f32) (y) : (k0_pay2 (F := Ideal) g x y : EReal) = Adam.newV (g y) (x y) := by
  pointwise [k0_pay2, Adam.newV]

/-- The kernel's step. -/
theorem pay_d (g a b w : FVec Ideal S272x512 .f32) (y) : (k0_pay3 (F := Ideal) g a b w y : EReal) = Adam.delta (w y) (g y) (a y) (b y) := by
  unfold Adam.delta
  rw [← pay_m, ← pay_v]
  pointwise [k0_pay3, c1, c2]

/-- `delta` after the run. -/
theorem final4 (c : Dev nD) : (dats m 0 c).arrAt 4 cfg0.N
    = Cert.Reference10Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  unfold out0_4
  frame_out
  rw [pay_d, ref_d]
  congr 1

/-- `new_m` after the run. -/
theorem final5 (c : Dev nD) : (dats m 0 c).arrAt 5 cfg0.N
    = Cert.Reference10Ideal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  unfold out0_5
  frame_out
  rw [pay_m, ref_m]
  congr 1

/-- `new_v` after the run. -/
theorem final6 (c : Dev nD) : (dats m 0 c).arrAt 6 cfg0.N
    = Cert.Reference10Ideal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  unfold out0_6
  frame_out
  rw [pay_v, ref_v]
  congr 1

end Cert.Proof.Adam10

namespace Cert.Proof

open Idealize.ShloMosaic Idealize.SL.Sem

/-- The two constants are what the ideal program names them. -/
theorem pre10 : Cert.preserves_Kernel10_Kernel10Ideal :=
  ⟨IdealRules.named_const.statement Cert.Kernel10Ideal.κ "c1" .f32 0x3FC48605#32 (((5463681 / 8388608)⁻¹ : ℝ) : EReal) rfl,
    IdealRules.named_const.statement Cert.Kernel10Ideal.κ "c2" .f32 0x42C8E6D3#32 (((2672307 / 268435456)⁻¹ : ℝ) : EReal) rfl⟩

/-- The optimiser's call and its reference end with equal results. -/
theorem alg10 : Cert.algebraic_Kernel10Ideal_Reference10Ideal := by
  pair_intro
  · run_from Cert.Kernel10Ideal.Value.run_blocks m g
  · run_from Cert.Reference10Ideal.Value.run m' g'
    · exact (Cert.Reference10Ideal.Read.val_main_v23_eq ..).trans (Adam10.final4 m c).symm
    · exact (Cert.Reference10Ideal.Read.val_main_v4_eq ..).trans (Adam10.final5 m c).symm
    · exact (Cert.Reference10Ideal.Read.val_main_v10_eq ..).trans (Adam10.final6 m c).symm

end Cert.Proof

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.LossFrame
public import proofs.«01_k».proof.Proof.LossRef
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Reference12Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Alg1
public import proofs.«01_k».proof.Proof.Alg2
public import proofs.«01_k».proof.Proof.Alg3
public import proofs.«01_k».proof.Proof.Alg4
public import proofs.«01_k».proof.Proof.Alg5
public import proofs.«01_k».proof.Proof.Alg6
public import proofs.«01_k».proof.Proof.Alg11
public import proofs.«01_k».proof.Proof.Alg12
public import proofs.«01_k».proof.Proof.Alg7
public import proofs.«01_k».proof.Proof.Alg8
public import proofs.«01_k».proof.Proof.Alg9
public import proofs.«01_k».proof.Proof.Alg10
public import Idealize.ShloMosaic.Adequacy
public import Idealize.ShloMosaic.Init
public import Idealize.ShloMosaic.Lib.Quiescent

@[expose] public section

noncomputable section

namespace Cert.Proof

open Idealize.ShloMosaic Idealize.SL.Sem

/-- The reference terminates and leaves its arguments and the counters alone. -/
theorem frame1 : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The reference terminates and leaves its arguments and the counters alone. -/
theorem frame2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The reference terminates and leaves its arguments and the counters alone. -/
theorem frame3 : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

/-- The reference terminates and leaves its arguments and the counters alone. -/
theorem frame4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The reference terminates and leaves its arguments and the counters alone. -/
theorem frame5 : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

/-- The reference terminates and leaves its arguments and the counters alone. -/
theorem frame6 : Cert.quiescent_Reference6Ideal := fun m ρ _ =>
  (θ_run Cert.Reference6Ideal.defs _ _).mono (fun r h => ⟨fun c => (h c).2.2.2.2.2, sem_eq_zero_of_no_sems (by decide) r.2⟩)
    (LossRef.run (F := Ideal) m ρ)

/-- The reference terminates and leaves its arguments and the counters alone. -/
theorem frame11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The reference terminates and leaves its arguments and the counters alone. -/
theorem frame12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The reference terminates and leaves its arguments and the counters alone. -/
theorem frame7 : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

/-- The reference terminates and leaves its arguments and the counters alone. -/
theorem frame8 : Cert.quiescent_Reference8Ideal := fun m ρ _ =>
  (θ_run Cert.Reference8Ideal.defs _ _).mono (fun r h => ⟨fun c => (h c).2.2.2, sem_eq_zero_of_no_sems (by decide) r.2⟩)
    (Cert.Reference8Ideal.Value.run (F := Ideal) m ρ)

/-- The reference terminates and leaves its arguments and the counters alone. -/
theorem frame9 : Cert.quiescent_Reference9Ideal := fun m ρ _ =>
  (θ_run Cert.Reference9Ideal.defs _ _).mono (fun r h => ⟨fun c => (h c).2.2.2, sem_eq_zero_of_no_sems (by decide) r.2⟩)
    (Cert.Reference9Ideal.Value.run (F := Ideal) m ρ)

/-- The reference terminates and leaves its arguments and the counters alone. -/
theorem frame10 : Cert.quiescent_Reference10Ideal := fun m ρ _ =>
  (θ_run Cert.Reference10Ideal.defs _ _).mono (fun r h => ⟨fun c => (h c).2.2.2, sem_eq_zero_of_no_sems (by decide) r.2⟩)
    (Cert.Reference10Ideal.Value.run (F := Ideal) m ρ)

set_option maxRecDepth 16384 in
/-- The call with the loss head has the same text in both programs. -/
theorem lossDefs : Cert.Kernel6.defs (F := Bits) = Cert.Kernel6Ideal.defs (F := Bits) := by sl_kernel_rfl

set_option maxRecDepth 16384 in
/-- The call with the loss head, from its one run over any float values. -/
theorem frameLoss : Cert.quiescent_Kernel6 := fun m ρ _ => by
  have h := Loss.frame (F := Bits) m ρ
  rw [← lossDefs] at h
  exact h

/-- The same over the extended reals. -/
theorem frameLossIdeal : Cert.quiescent_Kernel6Ideal := fun m ρ _ =>
  (θ_run Cert.Kernel6Ideal.defs _ _).mono (fun _ h => h) (Loss.frame (F := Ideal) m ρ)

set_option maxRecDepth 16384 in
/-- The addition of a pair has the same text in both programs. -/
theorem defs11 : Cert.Kernel11.defs (F := Bits) = Cert.Kernel11Ideal.defs (F := Bits) := by sl_kernel_rfl

/-- The addition of a pair, from its one run over any float values. -/
theorem frameK11 : Cert.quiescent_Kernel11 := fun m ρ _ => by
  have h := Cert.Kernel11Ideal.Gen.frame (F := Bits) m ρ (Pair11.ok m)
  rw [← defs11] at h
  exact h

/-- The same over the extended reals. -/
theorem frameI11 : Cert.quiescent_Kernel11Ideal := fun m ρ _ => Cert.Kernel11Ideal.Gen.frame m ρ (Pair11.ok m)

set_option maxRecDepth 16384 in
/-- The sum of the chips' parts has the same text in both programs. -/
theorem defs12 : Cert.Kernel12.defs (F := Bits) = Cert.Kernel12Ideal.defs (F := Bits) := by sl_kernel_rfl

/-- The sum of the chips' parts, from its one run over any float values. -/
theorem frameK12 : Cert.quiescent_Kernel12 := fun m ρ _ => by
  have h := Cert.Kernel12Ideal.Gen.frame (F := Bits) m ρ (Chips12.ok m)
  rw [← defs12] at h
  exact h

/-- The same over the extended reals. -/
theorem frameI12 : Cert.quiescent_Kernel12Ideal := fun m ρ _ => Cert.Kernel12Ideal.Gen.frame m ρ (Chips12.ok m)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, by
  exact ⟨fun m ρ _ => Cert.Kernel.Gen.frame m ρ,
    fun m ρ _ => Cert.KernelIdeal.Gen.frame m ρ,
    frame1,
    fun m ρ _ => Cert.Kernel2.Gen.frame m ρ,
    fun m ρ _ => Cert.Kernel2Ideal.Gen.frame m ρ,
    frame2,
    fun m ρ _ => Cert.Kernel3.Gen.frame m ρ,
    fun m ρ _ => Cert.Kernel3Ideal.Gen.frame m ρ,
    frame3,
    fun m ρ _ => Cert.Kernel4.Gen.frame m ρ,
    fun m ρ _ => Cert.Kernel4Ideal.Gen.frame m ρ,
    frame4,
    fun m ρ _ => Cert.Kernel5.Gen.frame m ρ,
    fun m ρ _ => Cert.Kernel5Ideal.Gen.frame m ρ,
    frame5,
    frameLoss,
    frameLossIdeal,
    frame6,
    frameK11,
    frameI11,
    frame11,
    frameK12,
    frameI12,
    frame12,
    fun m ρ _ => Cert.Kernel7.Gen.frame m ρ,
    fun m ρ _ => Cert.Kernel7Ideal.Gen.frame m ρ,
    frame7,
    fun m ρ _ => Cert.Kernel8.Gen.frame m ρ,
    fun m ρ _ => Cert.Kernel8Ideal.Gen.frame m ρ,
    frame8,
    fun m ρ _ => Cert.Kernel9.Gen.frame m ρ,
    fun m ρ _ => Cert.Kernel9Ideal.Gen.frame m ρ,
    frame9,
    fun m ρ _ => Cert.Kernel10.Gen.frame m ρ,
    fun m ρ _ => Cert.Kernel10Ideal.Gen.frame m ρ,
    frame10,
    trivial, alg1, trivial, alg2, trivial, alg3, trivial, alg4, trivial, alg5, trivial, alg6, trivial, alg11, trivial, alg12, pre7, alg7, pre8, alg8, pre9, alg9, pre10, alg10⟩⟩

end Cert.Proof

end
